-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_named : Cert.Pre_named.Facts] (m : (ℓ : Loc Cert.Kernel3.nD Cert.Kernel3.τ Cert.Kernel3.sig) → Buf (Elt Bits) ℓ) : Prop :=
  ∀ c : Dev Cert.Kernel3.nD,
    (Cert.Pre_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).1 = (fun _ => 1#1)
    ∧ (Cert.Pre_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).2 = (fun _ => 1#1)

def Pre_Kernel3Ideal [hPre_named : Cert.Pre_named.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_named [hPre_named : Cert.Pre_named.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] [hPre_named : Cert.Pre_named.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_named : Cert.Pre_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_named [hReference3Ideal : Cert.Reference3Ideal.Facts] [hPre_named : Cert.Pre_named.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_named m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] [hPre_named : Cert.Pre_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v162) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v12) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_named : Cert.Pre_named.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_named := hPre_named)
    ∧ quiescent_Kernel3Ideal (hKernel3Ideal := hKernel3Ideal) (hPre_named := hPre_named)
    ∧ quiescent_Reference3Ideal (hReference3Ideal := hReference3Ideal)
    ∧ quiescent_Reference3Ideal_pre_named (hReference3Ideal := hReference3Ideal) (hPre_named := hPre_named)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_named := hPre_named)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S2x16384x1024 : Shape := ⟨3, ![2, 16384, 1024]⟩
abbrev S16x6x1024 : Shape := ⟨3, ![16, 6, 1024]⟩
abbrev S16x257 : Shape := ⟨2, ![16, 257]⟩
abbrev S1024x1024 : Shape := ⟨2, ![1024, 1024]⟩
abbrev S1024 : Shape := ⟨1, ![1024]⟩
abbrev S_ : Shape := ⟨0, ![]⟩

class Facts : Prop where
  bcast_S_S2x16384x1024 : S_.BroadcastsInDim S2x16384x1024 (![] : Fin 0 → Fin S2x16384x1024.rank)
  bcast_S_S16x6x1024 : S_.BroadcastsInDim S16x6x1024 (![] : Fin 0 → Fin S16x6x1024.rank)
  bcast_S_S16x257 : S_.BroadcastsInDim S16x257 (![] : Fin 0 → Fin S16x257.rank)
  bcast_S_S1024x1024 : S_.BroadcastsInDim S1024x1024 (![] : Fin 0 → Fin S1024x1024.rank)

variable [Facts]

def fn {F : FTy → Type} [FloatOps F] (main_arg0 : FVec F S2x16384x1024 .f32) (main_arg1 : FVec F S16x6x1024 .f32) (main_arg2 : FVec F S2x16384x1024 .bf16) (main_arg3 : FVec F S2x16384x1024 .bf16) (main_arg4 : FVec F S16x257 .f32) (main_arg5 : FVec F S1024x1024 .bf16) (main_arg6 : FVec F S1024x1024 .bf16) (main_arg7 : FVec F S1024 .f32) (main_arg8 : FVec F S1024 .f32) : IVec S2x16384x1024 1 × IVec S16x6x1024 1 × IVec S2x16384x1024 1 × IVec S16x257 1 × IVec S1024x1024 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_v3 : FVec F S16x6x1024 .f32 := Host.absf main_arg1
  let main_cst_0 : FVec F S_ .f32 := constant S_ .f32 0x7F800000#32
  let main_v4 : FVec F S16x6x1024 .f32 := broadcastInDim S16x6x1024 ![] bcast_S_S16x6x1024 main_cst_0
  let main_v5 : IVec S16x6x1024 1 := cmpf .olt main_v3 main_v4
  let main_v6 : FVec F S2x16384x1024 .bf16 := Host.absf main_arg2
  let main_cst_1 : FVec F S_ .bf16 := constant S_ .bf16 0x7F80#16
  let main_v7 : FVec F S2x16384x1024 .bf16 := broadcastInDim S2x16384x1024 ![] bcast_S_S2x16384x1024 main_cst_1
  let main_v8 : IVec S2x16384x1024 1 := cmpf .olt main_v6 main_v7
  let main_v9 : FVec F S16x257 .f32 := Host.absf main_arg4
  let main_cst_2 : FVec F S_ .f32 := constant S_ .f32 0x7F800000#32
  let main_v10 : FVec F S16x257 .f32 := broadcastInDim S16x257 ![] bcast_S_S16x257 main_cst_2
  let main_v11 : IVec S16x257 1 := cmpf .olt main_v9 main_v10
  let main_v12 : FVec F S1024x1024 .bf16 := Host.absf main_arg5
  let main_cst_3 : FVec F S_ .bf16 := constant S_ .bf16 0x7F80#16
  let main_v13 : FVec F S1024x1024 .bf16 := broadcastInDim S1024x1024 ![] bcast_S_S1024x1024 main_cst_3
  let main_v14 : IVec S1024x1024 1 := cmpf .olt main_v12 main_v13
  (main_v2, main_v5, main_v8, main_v11, main_v14)
-- ==== Pre_named.lean ====
abbrev S136 : Shape := ⟨1, ![136]⟩
abbrev S1 : Shape := ⟨1, ![1]⟩
abbrev S69632x8x128 : Shape := ⟨3, ![69632, 8, 128]⟩
abbrev S2x8x1024x2816 : Shape := ⟨4, ![2, 8, 1024, 2816]⟩
abbrev S2x8x1408x1024 : Shape := ⟨4, ![2, 8, 1408, 1024]⟩
abbrev S_ : Shape := ⟨0, ![]⟩

class Facts : Prop where
  bcast_S_S136 : S_.BroadcastsInDim S136 (![] : Fin 0 → Fin S136.rank)
  bcast_S_S1 : S_.BroadcastsInDim S1 (![] : Fin 0 → Fin S1.rank)

variable [Facts]

def fn {F : FTy → Type} [FloatOps F] (main_arg0 : IVec S136 32) (main_arg1 : IVec S1 32) (main_arg2 : FVec F S69632x8x128 .f32) (main_arg3 : FVec F S2x8x1024x2816 .bf16) (main_arg4 : FVec F S2x8x1408x1024 .bf16) : IVec S136 1 × IVec S1 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 7#32
  let main_v2 : IVec S136 32 := broadcastInDim S136 ![] bcast_S_S136 main_c_0
  let main_v3 : IVec S136 1 := cmpi .sle main_arg0 main_v2
  let main_v4 : IVec S136 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Kernel.lean ====
abbrev S2x16384x1024 : Shape := ⟨3, ![2, 16384, 1024]⟩
abbrev S16x6x1024 : Shape := ⟨3, ![16, 6, 1024]⟩
abbrev S16x257 : Shape := ⟨2, ![16, 257]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S16x1024 : Shape := ⟨2, ![16, 1024]⟩
abbrev S1x1024 : Shape := ⟨2, ![1, 1024]⟩
abbrev S1x512x1024 : Shape := ⟨3, ![1, 512, 1024]⟩
abbrev S1x6x1024 : Shape := ⟨3, ![1, 6, 1024]⟩
abbrev S8x512x768 : Shape := ⟨3, ![8, 512, 768]⟩
abbrev S512x1024 : Shape := ⟨2, ![512, 1024]⟩
abbrev S256x768 : Shape := ⟨2, ![256, 768]⟩
abbrev S256x1024 : Shape := ⟨2, ![256, 1024]⟩
abbrev S1x256x768 : Shape := ⟨3, ![1, 256, 768]⟩
abbrev S1x1x1024 : Shape := ⟨3, ![1, 1, 1024]⟩
abbrev S512x128 : Shape := ⟨2, ![512, 128]⟩
abbrev S256x128 : Shape := ⟨2, ![256, 128]⟩
abbrev S1x768 : Shape := ⟨2, ![1, 768]⟩
abbrev S768x128 : Shape := ⟨2, ![768, 128]⟩
abbrev S512x768 : Shape := ⟨2, ![512, 768]⟩
abbrev S1x512x768 : Shape := ⟨3, ![1, 512, 768]⟩
abbrev S512 : Shape := ⟨1, ![512]⟩
abbrev S512x1 : Shape := ⟨2, ![512, 1]⟩

abbrev nBuf : Space → Nat
  | .hbm => 43
  | .vmem => 24
  | .smem => 0
  | _ => 0

abbrev bufTy : (tb : Table) → Fin (tcTables nBuf tb) → BufTy
  | .hbm, ⟨0, _⟩ => ⟨S2x16384x1024, .f32⟩
  | .hbm, ⟨1, _⟩ => ⟨S16x6x1024, .f32⟩
  | .hbm, ⟨2, _⟩ => ⟨S2x16384x1024, .bf16⟩
  | .hbm, ⟨3, _⟩ => ⟨S2x16384x1024, .bf16⟩
  | .hbm, ⟨4, _⟩ => ⟨S16x257, .f32⟩
  | .hbm, ⟨5, _⟩ => ⟨S1024x1024, .bf16⟩
  | .hbm, ⟨6, _⟩ => ⟨S1024x1024, .bf16⟩
  | .hbm, ⟨7, _⟩ => ⟨S1024, .f32⟩
  | .hbm, ⟨8, _⟩ => ⟨S1024, .f32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S1024x1, .i32⟩
  | .hbm, ⟨39, _⟩ => ⟨S16x1024, .f32⟩
  | .hbm, ⟨40, _⟩ => ⟨S1x1024, .f32⟩
  | .hbm, ⟨41, _⟩ => ⟨S1x1024, .f32⟩
  | .hbm, ⟨42, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S16x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S8x512x768, .f32⟩
  | .local _ .vmem, ⟨20, _⟩ => ⟨S1024x1024, .bf16⟩
  | .local _ .vmem, ⟨21, _⟩ => ⟨S1024x1024, .bf16⟩
  | .local _ .vmem, ⟨22, _⟩ => ⟨S512x1024, .bf16⟩
  | .local _ .vmem, ⟨23, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_c_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v8 : Ref sig .tc := ⟨.hbm, 27, rfl⟩
abbrev main_c_4 : Ref sig .tc := ⟨.hbm, 28, rfl⟩
abbrev main_v9 : Ref sig .tc := ⟨.hbm, 29, rfl⟩
abbrev main_v10 : Ref sig .tc := ⟨.hbm, 30, rfl⟩
abbrev main_c_5 : Ref sig .tc := ⟨.hbm, 31, rfl⟩
abbrev main_v11 : Ref sig .tc := ⟨.hbm, 32, rfl⟩
abbrev main_v12 : Ref sig .tc := ⟨.hbm, 33, rfl⟩
abbrev main_c_6 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c0_i32_36 : BitVec 32 := 0#32
  let v58 : BitVec 1 := Scalar.cmpi .eq arg1 c0_i32_36
  let v59 : BitVec 32 := Scalar.extui v58
  let c0_i32_37 : BitVec 32 := 0#32
  let v60 : BitVec 1 := Scalar.cmpi .ne v59 c0_i32_37
  v60

@[reducible] def k0_t1_loop : Scf.Loop 32 :=
  let c0_i32_60 : BitVec 32 := 0#32
  let c2_i32 : BitVec 32 := 2#32
  let v101 : BitVec 32 := Scalar.addi c0_i32_60 c2_i32
  let c1_i32 : BitVec 32 := 1#32
  ⟨c0_i32_60, v101, c1_i32⟩
def k0_mult1 (k0_t1 : Fin k0_t1_loop.trips) : BitVec 32 :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  v102
def k0_off1 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v104 : Index := Scalar.indexCast v103
  let c0_63 : Index := 0#32
  ![v104.toNat, 0]
def k0_off2 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v109 : Index := Scalar.indexCast v103
  let c0_65 : Index := 0#32
  ![v109.toNat, 0]
def k0_off3 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v146 : Index := Scalar.indexCast v103
  let c128 : Index := 128#32
  ![v146.toNat, 128]
def k0_off4 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v151 : Index := Scalar.indexCast v103
  let c128_78 : Index := 128#32
  ![v151.toNat, 128]
def k0_off5 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v188 : Index := Scalar.indexCast v103
  let c256 : Index := 256#32
  ![v188.toNat, 256]
def k0_off6 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v193 : Index := Scalar.indexCast v103
  let c256_92 : Index := 256#32
  ![v193.toNat, 256]
def k0_off7 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v230 : Index := Scalar.indexCast v103
  let c384 : Index := 384#32
  ![v230.toNat, 384]
def k0_off8 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v235 : Index := Scalar.indexCast v103
  let c384_106 : Index := 384#32
  ![v235.toNat, 384]
def k0_off9 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v272 : Index := Scalar.indexCast v103
  let c512_118 : Index := 512#32
  ![v272.toNat, 512]
def k0_off10 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v277 : Index := Scalar.indexCast v103
  let c512_120 : Index := 512#32
  ![v277.toNat, 512]
def k0_off11 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v314 : Index := Scalar.indexCast v103
  let c640 : Index := 640#32
  ![v314.toNat, 640]
def k0_off12 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v319 : Index := Scalar.indexCast v103
  let c640_133 : Index := 640#32
  ![v319.toNat, 640]
def k0_off13 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v356 : Index := Scalar.indexCast v103
  let c768 : Index := 768#32
  ![v356.toNat, 768]
def k0_off14 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v361 : Index := Scalar.indexCast v103
  let c768_146 : Index := 768#32
  ![v361.toNat, 768]
def k0_off15 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v398 : Index := Scalar.indexCast v103
  let c896 : Index := 896#32
  ![v398.toNat, 896]
def k0_off16 (k0_t1 : Fin k0_t1_loop.trips) : Fin 2 → Nat :=
  let c0_i32_60 : BitVec 32 := 0#32
  let c1_i32 : BitVec 32 := 1#32
  let arg19 : BitVec 32 := Scf.iv c0_i32_60 c1_i32 k0_t1
  let c256_i32_62 : BitVec 32 := 256#32
  let v102 : BitVec 32 := Scalar.muli arg19 c256_i32_62
  let v103 : BitVec 32 := v102
  let v403 : Index := Scalar.indexCast v103
  let c896_159 : Index := 896#32
  ![v403.toNat, 896]
def k0_cond3 (i : grid0.Coords) : BitVec 1 :=
  let arg1 : BitVec 32 := BitVec.ofNat 32 (i 1).val
  let c0_i32_38 : BitVec 32 := 0#32
  let v61 : BitVec 1 := Scalar.cmpi .sgt arg1 c0_i32_38
  let v62 : BitVec 32 := Scalar.extui v61
  let c0_i32_39 : BitVec 32 := 0#32
  let v63 : BitVec 1 := Scalar.cmpi .ne v62 c0_i32_39
  v63

@[reducible] def k0_t2_loop : Scf.Loop 32 :=
  let c0_i32_60 : BitVec 32 := 0#32
  let c2_i32 : BitVec 32 := 2#32
  let v101 : BitVec 32 := Scalar.addi c0_i32_60 c2_i32
  let c1_i32 : BitVec 32 := 1#32
  ⟨c0_i32_60, v101, c1_i32⟩
def k0_mult2 (k0_t2 : Fin k0_t2_loop.trips) : BitVec 32 :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  v102
def k0_off17 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v104 : Index := Scalar.indexCast v103
  let c0_63 : Index := 0#32
  ![v104.toNat, 0]
def k0_off18 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v109 : Index := Scalar.indexCast v103
  let c0_65 : Index := 0#32
  ![v109.toNat, 0]
def k0_off19 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v138 : Index := Scalar.indexCast v103
  let c128 : Index := 128#32
  ![v138.toNat, 128]
def k0_off20 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v143 : Index := Scalar.indexCast v103
  let c128_77 : Index := 128#32
  ![v143.toNat, 128]
def k0_off21 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v172 : Index := Scalar.indexCast v103
  let c256 : Index := 256#32
  ![v172.toNat, 256]
def k0_off22 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v177 : Index := Scalar.indexCast v103
  let c256_89 : Index := 256#32
  ![v177.toNat, 256]
def k0_off23 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v206 : Index := Scalar.indexCast v103
  let c384 : Index := 384#32
  ![v206.toNat, 384]
def k0_off24 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v211 : Index := Scalar.indexCast v103
  let c384_101 : Index := 384#32
  ![v211.toNat, 384]
def k0_off25 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v240 : Index := Scalar.indexCast v103
  let c512_111 : Index := 512#32
  ![v240.toNat, 512]
def k0_off26 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v245 : Index := Scalar.indexCast v103
  let c512_113 : Index := 512#32
  ![v245.toNat, 512]
def k0_off27 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v274 : Index := Scalar.indexCast v103
  let c640 : Index := 640#32
  ![v274.toNat, 640]
def k0_off28 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v279 : Index := Scalar.indexCast v103
  let c640_124 : Index := 640#32
  ![v279.toNat, 640]
def k0_off29 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v308 : Index := Scalar.indexCast v103
  let c768 : Index := 768#32
  ![v308.toNat, 768]
def k0_off30 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v313 : Index := Scalar.indexCast v103
  let c768_135 : Index := 768#32
  ![v313.toNat, 768]
def k0_off31 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v342 : Index := Scalar.indexCast v103
  let c896 : Index := 896#32
  ![v342.toNat, 896]
def k0_off32 (k0_t2 : Fin k0_t2_loop.trips) : Fin 2 → Nat :=
  let c0_i32_60 : BitVec 32 := 0#32
  let c1_i32 : BitVec 32 := 1#32
  let arg19 : BitVec 32 := Scf.iv c0_i32_60 c1_i32 k0_t2
  let c256_i32_62 : BitVec 32 := 256#32
  let v102 : BitVec 32 := Scalar.muli arg19 c256_i32_62
  let v103 : BitVec 32 := v102
  let v347 : Index := Scalar.indexCast v103
  let c896_146 : Index := 896#32
  ![v347.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x16384x1024 : Shape := ⟨3, ![2, 16384, 1024]⟩
abbrev S16x6x1024 : Shape := ⟨3, ![16, 6, 1024]⟩
abbrev S16x257 : Shape := ⟨2, ![16, 257]⟩
abbrev S1024x1024 : Shape := ⟨2, ![1024, 1024]⟩
abbrev S1024 : Shape := ⟨1, ![1024]⟩
abbrev S2x6x1024 : Shape := ⟨3, ![2, 6, 1024]⟩
abbrev S2x1x1024 : Shape := ⟨3, ![2, 1, 1024]⟩
abbrev S_ : Shape := ⟨0, ![]⟩
abbrev S2x16384x16x64 : Shape := ⟨4, ![2, 16384, 16, 64]⟩
abbrev S2x16896x16x64 : Shape := ⟨4, ![2, 16896, 16, 64]⟩
abbrev S2x256x64x16x64 : Shape := ⟨5, ![2, 256, 64, 16, 64]⟩
abbrev S256x2x64x16x64 : Shape := ⟨5, ![256, 2, 64, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S256 : Shape := ⟨1, ![256]⟩
abbrev S256x1 : Shape := ⟨2, ![256, 1]⟩
abbrev S256x4 : Shape := ⟨2, ![256, 4]⟩
abbrev S256x2x576x16x64 : Shape := ⟨5, ![256, 2, 576, 16, 64]⟩
abbrev S256x576 : Shape := ⟨2, ![256, 576]⟩
abbrev S256x1x1x1x576 : Shape := ⟨5, ![256, 1, 1, 1, 576]⟩
abbrev S256x2x16x64x576 : Shape := ⟨5, ![256, 2, 16, 64, 576]⟩
abbrev S1x16x64x576 : Shape := ⟨4, ![1, 16, 64, 576]⟩
abbrev S1x1x16x64x576 : Shape := ⟨5, ![1, 1, 16, 64, 576]⟩
abbrev S2x16x64x576 : Shape := ⟨4, ![2, 16, 64, 576]⟩
abbrev S256x2x16x64 : Shape := ⟨4, ![256, 2, 16, 64]⟩
abbrev S256x2x16x64x1 : Shape := ⟨5, ![256, 2, 16, 64, 1]⟩
abbrev S256x2x16x64x64 : Shape := ⟨5, ![256, 2, 16, 64, 64]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 184
  | .vmem => 0
  | .smem => 0
  | _ => 0

abbrev hbmTy0_0 (i : Nat) : BufTy := match i % 128 with
  | 0 => ⟨S2x16384x1024, .f32⟩
  | 1 => ⟨S16x6x1024, .f32⟩
  | 2 => ⟨S2x16384x1024, .bf16⟩
  | 3 => ⟨S2x16384x1024, .bf16⟩
  | 4 => ⟨S16x257, .f32⟩
  | 5 => ⟨S1024x1024, .bf16⟩
  | 6 => ⟨S1024x1024, .bf16⟩
  | 7 => ⟨S1024, .f32⟩
  | 8 => ⟨S1024, .f32⟩
  | 9 => ⟨S2x6x1024, .f32⟩
  | 10 => ⟨S2x1x1024, .f32⟩
  | 11 => ⟨S2x1x1024, .f32⟩
  | 12 => ⟨S2x1x1024, .f32⟩
  | 13 => ⟨S_, .f32⟩
  | 14 => ⟨S2x1x1024, .f32⟩
  | 15 => ⟨S2x1x1024, .f32⟩
  | 16 => ⟨S2x16384x1024, .f32⟩
  | 17 => ⟨S2x16384x1024, .f32⟩
  | 18 => ⟨S2x16384x1024, .f32⟩
  | 19 => ⟨S2x16384x1024, .f32⟩
  | 20 => ⟨S1024x1024, .f32⟩
  | 21 => ⟨S2x16384x1024, .f32⟩
  | 22 => ⟨S2x16384x16x64, .f32⟩
  | 23 => ⟨S2x16384x1024, .f32⟩
  | 24 => ⟨S2x16384x16x64, .f32⟩
  | 25 => ⟨S2x16384x1024, .f32⟩
  | 26 => ⟨S2x16384x16x64, .f32⟩
  | 27 => ⟨S_, .i32⟩
  | 28 => ⟨S_, .f32⟩
  | 29 => ⟨S2x16896x16x64, .f32⟩
  | 30 => ⟨S_, .i32⟩
  | 31 => ⟨S_, .f32⟩
  | 32 => ⟨S2x16896x16x64, .f32⟩
  | 33 => ⟨S2x256x64x16x64, .f32⟩
  | 34 => ⟨S256x2x64x16x64, .f32⟩
  | 35 => ⟨S64, .i32⟩
  | 36 => ⟨S64x1, .i32⟩
  | 37 => ⟨S_, .i32⟩
  | 38 => ⟨S64x1, .i32⟩
  | 39 => ⟨S64x1, .i32⟩
  | 40 => ⟨S576, .i32⟩
  | 41 => ⟨S1x576, .i32⟩
  | 42 => ⟨S64x576, .i32⟩
  | 43 => ⟨S64x576, .i32⟩
  | 44 => ⟨S64x576, .i32⟩
  | 45 => ⟨S_, .i32⟩
  | 46 => ⟨S_, .i32⟩
  | 47 => ⟨S_, .i32⟩
  | 48 => ⟨S64x576, .i32⟩
  | 49 => ⟨S64x576, .i32⟩
  | 50 => ⟨S_, .i32⟩
  | 51 => ⟨S64x576, .i32⟩
  | 52 => ⟨S64x576, .i32⟩
  | 53 => ⟨S_, .i32⟩
  | 54 => ⟨S64x576, .i32⟩
  | 55 => ⟨S64x576, .i32⟩
  | 56 => ⟨S_, .i32⟩
  | 57 => ⟨S64x576, .i32⟩
  | 58 => ⟨S64x576, .i1⟩
  | 59 => ⟨S_, .i32⟩
  | 60 => ⟨S64x576, .i32⟩
  | 61 => ⟨S64x576, .i32⟩
  | 62 => ⟨S64x576, .i32⟩
  | 63 => ⟨S64x576x1, .i32⟩
  | 64 => ⟨S16x64x576, .f32⟩
  | 65 => ⟨S576, .i32⟩
  | 66 => ⟨S_, .i32⟩
  | 67 => ⟨S576, .i32⟩
  | 68 => ⟨S576, .i32⟩
  | 69 => ⟨S256, .i32⟩
  | 70 => ⟨S_, .i32⟩
  | 71 => ⟨S256, .i32⟩
  | 72 => ⟨S256, .i32⟩
  | 73 => ⟨S_, .i32⟩
  | 74 => ⟨S256, .i32⟩
  | 75 => ⟨S256, .i1⟩
  | 76 => ⟨S_, .i32⟩
  | 77 => ⟨S256, .i32⟩
  | 78 => ⟨S256, .i32⟩
  | 79 => ⟨S256, .i32⟩
  | 80 => ⟨S_, .i32⟩
  | 81 => ⟨S256x1, .i32⟩
  | 82 => ⟨S256x1, .i32⟩
  | 83 => ⟨S_, .i32⟩
  | 84 => ⟨S256x1, .i32⟩
  | 85 => ⟨S_, .i32⟩
  | 86 => ⟨S256x1, .i32⟩
  | 87 => ⟨S256x4, .i32⟩
  | 88 => ⟨S256x2x576x16x64, .f32⟩
  | 89 => ⟨S_, .i32⟩
  | 90 => ⟨S256, .i32⟩
  | 91 => ⟨S256, .i1⟩
  | 92 => ⟨S_, .i32⟩
  | 93 => ⟨S256, .i32⟩
  | 94 => ⟨S256, .i32⟩
  | 95 => ⟨S256, .i32⟩
  | 96 => ⟨S_, .i32⟩
  | 97 => ⟨S256x1, .i32⟩
  | 98 => ⟨S256x1, .i32⟩
  | 99 => ⟨S_, .i32⟩
  | 100 => ⟨S256x1, .i32⟩
  | 101 => ⟨S_, .i32⟩
  | 102 => ⟨S256x1, .i32⟩
  | 103 => ⟨S256x4, .i32⟩
  | 104 => ⟨S256x2x576x16x64, .f32⟩
  | 105 => ⟨S1x576, .i32⟩
  | 106 => ⟨S256x1, .i32⟩
  | 107 => ⟨S256x576, .i32⟩
  | 108 => ⟨S256x576, .i32⟩
  | 109 => ⟨S256x576, .i32⟩
  | 110 => ⟨S_, .i32⟩
  | 111 => ⟨S256x576, .i32⟩
  | 112 => ⟨S256x576, .i1⟩
  | 113 => ⟨S256x1x1x1x576, .i1⟩
  | 114 => ⟨S256x2x16x64x576, .f32⟩
  | 115 => ⟨S_, .f32⟩
  | 116 => ⟨S256x2x16x64x576, .f32⟩
  | 117 => ⟨S256x2x16x64x576, .f32⟩
  | 118 => ⟨S1x16x64x576, .f32⟩
  | 119 => ⟨S1x1x16x64x576, .f32⟩
  | 120 => ⟨S256x2x16x64x576, .f32⟩
  | 121 => ⟨S256x2x16x64x576, .f32⟩
  | 122 => ⟨S_, .f32⟩
  | 123 => ⟨S_, .f32⟩
  | 124 => ⟨S256x2x16x64x576, .i1⟩
  | 125 => ⟨S2x16x64x576, .f32⟩
  | 126 => ⟨S256x2x16x64x576, .f32⟩
  | 127 => ⟨S256x2x16x64x576, .f32⟩
  | _ => ⟨S2x16384x1024, .f32⟩

abbrev hbmTy0_1 (i : Nat) : BufTy := match i % 128 with
  | 0 => ⟨S_, .f32⟩
  | 1 => ⟨S256x2x16x64, .f32⟩
  | 2 => ⟨S_, .f32⟩
  | 3 => ⟨S256x2x16x64, .f32⟩
  | 4 => ⟨S256x2x16x64, .f32⟩
  | 5 => ⟨S256x2x16x64x1, .f32⟩
  | 6 => ⟨S256x2x16x64x576, .f32⟩
  | 7 => ⟨S256x2x16x64x576, .f32⟩
  | 8 => ⟨S256x2x16x64x576, .f32⟩
  | 9 => ⟨S_, .f32⟩
  | 10 => ⟨S256x2x16x64, .f32⟩
  | 11 => ⟨S256x2x16x64x1, .f32⟩
  | 12 => ⟨S256x2x16x64x576, .f32⟩
  | 13 => ⟨S256x2x16x64x576, .f32⟩
  | 14 => ⟨S256x2x16x64x64, .f32⟩
  | 15 => ⟨S256x2x64x16x64, .f32⟩
  | 16 => ⟨S2x256x64x16x64, .f32⟩
  | 17 => ⟨S2x16384x16x64, .f32⟩
  | 18 => ⟨S2x16384x1024, .f32⟩
  | 19 => ⟨S1024x1024, .f32⟩
  | 20 => ⟨S2x16384x1024, .f32⟩
  | 21 => ⟨S_, .f32⟩
  | 22 => ⟨S2x16384x1024, .f32⟩
  | 23 => ⟨S2x16384x1024, .f32⟩
  | 24 => ⟨S2x16384x1024, .f32⟩
  | 25 => ⟨S2x16384x1024, .f32⟩
  | 26 => ⟨S2x16384x1024, .f32⟩
  | 27 => ⟨S_, .f32⟩
  | 28 => ⟨S2x16384, .f32⟩
  | 29 => ⟨S2x16384x1, .f32⟩
  | 30 => ⟨S_, .f32⟩
  | 31 => ⟨S2x16384x1, .f32⟩
  | 32 => ⟨S2x16384x1, .f32⟩
  | 33 => ⟨S2x16384x1024, .f32⟩
  | 34 => ⟨S2x16384x1024, .f32⟩
  | 35 => ⟨S2x16384x1024, .f32⟩
  | 36 => ⟨S_, .f32⟩
  | 37 => ⟨S2x16384, .f32⟩
  | 38 => ⟨S2x16384x1, .f32⟩
  | 39 => ⟨S_, .f32⟩
  | 40 => ⟨S2x16384x1, .f32⟩
  | 41 => ⟨S2x16384x1, .f32⟩
  | 42 => ⟨S2x16384x1024, .f32⟩
  | 43 => ⟨S2x16384x1024, .f32⟩
  | 44 => ⟨S_, .f32⟩
  | 45 => ⟨S2x16384x1, .f32⟩
  | 46 => ⟨S2x16384x1, .f32⟩
  | 47 => ⟨S2x16384x1, .f32⟩
  | 48 => ⟨S2x16384x1024, .f32⟩
  | 49 => ⟨S2x16384x1024, .f32⟩
  | 50 => ⟨S1x1x1024, .f32⟩
  | 51 => ⟨S2x16384x1024, .f32⟩
  | 52 => ⟨S2x16384x1024, .f32⟩
  | 53 => ⟨S1x1x1024, .f32⟩
  | 54 => ⟨S2x16384x1024, .f32⟩
  | 55 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_v17 : Ref sig .tc := ⟨.hbm, 29, rfl⟩
abbrev main_c_0 : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_2 : Ref sig .tc := ⟨.hbm, 45, rfl⟩
abbrev main_c_3 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_8 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_c_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_c_12 : Ref sig .tc := ⟨.hbm, 83, rfl⟩
abbrev main_v53 : Ref sig .tc := ⟨.hbm, 84, rfl⟩
abbrev main_c_13 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_14 : Ref sig .tc := ⟨.hbm, 89, rfl⟩
abbrev main_v57 : Ref sig .tc := ⟨.hbm, 90, rfl⟩
abbrev main_v58 : Ref sig .tc := ⟨.hbm, 91, rfl⟩
abbrev main_c_15 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_16 : Ref sig .tc := ⟨.hbm, 96, rfl⟩
abbrev main_v62 : Ref sig .tc := ⟨.hbm, 97, rfl⟩
abbrev main_v63 : Ref sig .tc := ⟨.hbm, 98, rfl⟩
abbrev main_c_17 : Ref sig .tc := ⟨.hbm, 99, rfl⟩
abbrev main_v64 : Ref sig .tc := ⟨.hbm, 100, rfl⟩
abbrev main_c_18 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_19 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_20 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_21 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_v83 : Ref sig .tc := ⟨.hbm, 127, rfl⟩
abbrev main_cst_22 : Ref sig .tc := ⟨.hbm, 128, rfl⟩
abbrev main_v84 : Ref sig .tc := ⟨.hbm, 129, rfl⟩
abbrev main_cst_23 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_24 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_25 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_26 : Ref sig .tc := ⟨.hbm, 155, rfl⟩
abbrev main_v107 : Ref sig .tc := ⟨.hbm, 156, rfl⟩
abbrev main_v108 : Ref sig .tc := ⟨.hbm, 157, rfl⟩
abbrev main_cst_27 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_28 : Ref sig .tc := ⟨.hbm, 164, rfl⟩
abbrev main_v114 : Ref sig .tc := ⟨.hbm, 165, rfl⟩
abbrev main_v115 : Ref sig .tc := ⟨.hbm, 166, rfl⟩
abbrev main_cst_29 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_30 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩

abbrev nD : Nat := 1
abbrev τ : Topo := Topo.v7x

variable {F : FTy → Type} [FloatOps F]
-- ==== Kernel2.lean ====
abbrev S2x16384x1024 : Shape := ⟨3, ![2, 16384, 1024]⟩
abbrev S16x6x1024 : Shape := ⟨3, ![16, 6, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S1x512x1024 : Shape := ⟨3, ![1, 512, 1024]⟩
abbrev S1x6x1024 : Shape := ⟨3, ![1, 6, 1024]⟩
abbrev S1x1024x2816 : Shape := ⟨3, ![1, 1024, 2816]⟩
abbrev S1x2816x1024 : Shape := ⟨3, ![1, 2816, 1024]⟩
abbrev S1x1x1024 : Shape := ⟨3, ![1, 1, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S512x768 : Shape := ⟨2, ![512, 768]⟩
abbrev S1x768x1024 : Shape := ⟨3, ![1, 768, 1024]⟩
abbrev S768x1024 : Shape := ⟨2, ![768, 1024]⟩
abbrev S1x512 : Shape := ⟨2, ![1, 512]⟩
abbrev S1x512x1 : Shape := ⟨3, ![1, 512, 1]⟩

abbrev nBuf : Space → Nat
  | .hbm => 10
  | .vmem => 11
  | .smem => 0
  | _ => 0

abbrev bufTy : (tb : Table) → Fin (tcTables nBuf tb) → BufTy
  | .hbm, ⟨0, _⟩ => ⟨S2x16384x1024, .f32⟩
  | .hbm, ⟨1, _⟩ => ⟨S16x6x1024, .f32⟩
  | .hbm, ⟨2, _⟩ => ⟨S2x1024x2816, .bf16⟩
  | .hbm, ⟨3, _⟩ => ⟨S2x1024x2816, .bf16⟩
  | .hbm, ⟨4, _⟩ => ⟨S2x2816x1024, .bf16⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S2x16384x1024 : Shape := ⟨3, ![2, 16384, 1024]⟩
abbrev S16x6x1024 : Shape := ⟨3, ![16, 6, 1024]⟩
abbrev S2x1024x2816 : Shape := ⟨3, ![2, 1024, 2816]⟩
abbrev S2x2816x1024 : Shape := ⟨3, ![2, 2816, 1024]⟩
abbrev S1024 : Shape := ⟨1, ![1024]⟩
abbrev S2x6x1024 : Shape := ⟨3, ![2, 6, 1024]⟩
abbrev S2x1x1024 : Shape := ⟨3, ![2, 1, 1024]⟩
abbrev S_ : Shape := ⟨0, ![]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x16384x2816 : Shape := ⟨3, ![2, 16384, 2816]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S16x6x1024, .f32⟩
  | .hbm, ⟨2, _⟩ => ⟨S2x1024x2816, .bf16⟩
  | .hbm, ⟨3, _⟩ => ⟨S2x1024x2816, .bf16⟩
  | .hbm, ⟨4, _⟩ => ⟨S2x2816x1024, .bf16⟩
  | .hbm, ⟨5, _⟩ => ⟨S1024, .f32⟩
  | .hbm, ⟨6, _⟩ => ⟨S1024, .f32⟩
  | .hbm, ⟨7, _⟩ => ⟨S2x6x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S_, .f32⟩
  | .hbm, ⟨12, _⟩ => ⟨S2x1x1024, .f32⟩
  | .hbm, ⟨13, _⟩ => ⟨S2x1x1024, .f32⟩
  | .hbm, ⟨14, _⟩ => ⟨S2x16384x1024, .f32⟩
  | .hbm, ⟨15, _⟩ => ⟨S2x16384x1024, .f32⟩
  | .hbm, ⟨16, _⟩ => ⟨S2x16384x1024, .f32⟩
  | .hbm, ⟨17, _⟩ => ⟨S2x16384x1024, .f32⟩
  | .hbm, ⟨18, _⟩ => ⟨S1x1024x2816, .bf16⟩
  | .hbm, ⟨19, _⟩ => ⟨S1024x2816, .bf16⟩
  | .hbm, ⟨20, _⟩ => ⟨S1024x2816, .f32⟩
  | .hbm, ⟨21, _⟩ => ⟨S1x1024x2816, .bf16⟩
  | .hbm, ⟨22, _⟩ => ⟨S1024x2816, .bf16⟩
  | .hbm, ⟨23, _⟩ => ⟨S1024x2816, .f32⟩
  | .hbm, ⟨24, _⟩ => ⟨S1x2816x1024, .bf16⟩
  | .hbm, ⟨25, _⟩ => ⟨S2816x1024, .bf16⟩
  | .hbm, ⟨26, _⟩ => ⟨S2816x1024, .f32⟩
  | .hbm, ⟨27, _⟩ => ⟨S2x16384x2816, .f32⟩
  | .hbm, ⟨28, _⟩ => ⟨S2x16384x2816, .f32⟩
  | .hbm, ⟨29, _⟩ => ⟨S2x16384x2816, .f32⟩
  | .hbm, ⟨30, _⟩ => ⟨S_, .f32⟩
  | .hbm, ⟨31, _⟩ => ⟨S2x16384x2816, .f32⟩
  | .hbm, ⟨32, _⟩ => ⟨S2x16384x2816, .f32⟩
  | .hbm, ⟨33, _⟩ => ⟨S_, .f32⟩
  | .hbm, ⟨34, _⟩ => ⟨S2x16384x2816, .f32⟩
  | .hbm, ⟨35, _⟩ => ⟨S2x16384x2816, .f32⟩
  | .hbm, ⟨36, _⟩ => ⟨S2x16384x2816, .f32⟩
  | .hbm, ⟨37, _⟩ => ⟨S2x16384x2816, .f32⟩
  | .hbm, ⟨38, _⟩ => ⟨S2x16384x2816, .f32⟩
  | .hbm, ⟨39, _⟩ => ⟨S2x16384x1024, .f32⟩
  | .hbm, ⟨40, _⟩ => ⟨S_, .f32⟩
  | .hbm, ⟨41, _⟩ => ⟨S2x16384x1024, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S_, .f32⟩
  | .hbm, ⟨47, _⟩ => ⟨S2x16384, .f32⟩
  | .hbm, ⟨48, _⟩ => ⟨S2x16384x1, .f32⟩
  | .hbm, ⟨49, _⟩ => ⟨S_, .f32⟩
  | .hbm, ⟨50, _⟩ => ⟨S2x16384x1, .f32⟩
  | .hbm, ⟨51, _⟩ => ⟨S2x16384x1, .f32⟩
  | .hbm, ⟨52, _⟩ => ⟨S2x16384x1024, .f32⟩
  | .hbm, ⟨53, _⟩ => ⟨S2x16384x1024, .f32⟩
  | .hbm, ⟨54, _⟩ => ⟨S2x16384x1024, .f32⟩
  | .hbm, ⟨55, _⟩ => ⟨S_, .f32⟩
  | .hbm, ⟨56, _⟩ => ⟨S2x16384, .f32⟩
  | .hbm, ⟨57, _⟩ => ⟨S2x16384x1, .f32⟩
  | .hbm, ⟨58, _⟩ => ⟨S_, .f32⟩
  | .hbm, ⟨59, _⟩ => ⟨S2x16384x1, .f32⟩
  | .hbm, ⟨60, _⟩ => ⟨S2x16384x1, .f32⟩
  | .hbm, ⟨61, _⟩ => ⟨S2x16384x1024, .f32⟩
  | .hbm, ⟨62, _⟩ => ⟨S2x16384x1024, .f32⟩
  | .hbm, ⟨63, _⟩ => ⟨S_, .f32⟩
  | .hbm, ⟨64, _⟩ => ⟨S2x16384x1, .f32⟩
  | .hbm, ⟨65, _⟩ => ⟨S2x16384x1, .f32⟩
  | .hbm, ⟨66, _⟩ => ⟨S2x16384x1, .f32⟩
  | .hbm, ⟨67, _⟩ => ⟨S2x16384x1024, .f32⟩
  | .hbm, ⟨68, _⟩ => ⟨S2x16384x1024, .f32⟩
  | .hbm, ⟨69, _⟩ => ⟨S1x1x1024, .f32⟩
  | .hbm, ⟨70, _⟩ => ⟨S2x16384x1024, .f32⟩
  | .hbm, ⟨71, _⟩ => ⟨S2x16384x1024, .f32⟩
  | .hbm, ⟨72, _⟩ => ⟨S1x1x1024, .f32⟩
  | .hbm, ⟨73, _⟩ => ⟨S2x16384x1024, .f32⟩
  | .hbm, ⟨74, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_1 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel3.lean ====
abbrev S136 : Shape := ⟨1, ![136]⟩
abbrev S1 : Shape := ⟨1, ![1]⟩
abbrev S69632x8x128 : Shape := ⟨3, ![69632, 8, 128]⟩
abbrev S2x8x1024x2816 : Shape := ⟨4, ![2, 8, 1024, 2816]⟩
abbrev S2x8x1408x1024 : Shape := ⟨4, ![2, 8, 1408, 1024]⟩
abbrev S512x8x128 : Shape := ⟨3, ![512, 8, 128]⟩
abbrev S1x1x1024x2816 : Shape := ⟨4, ![1, 1, 1024, 2816]⟩
abbrev S1x1x1408x1024 : Shape := ⟨4, ![1, 1, 1408, 1024]⟩
abbrev S512x1024 : Shape := ⟨2, ![512, 1024]⟩
abbrev S1024x2816 : Shape := ⟨2, ![1024, 2816]⟩
abbrev S512x2816 : Shape := ⟨2, ![512, 2816]⟩
abbrev S512x1408 : Shape := ⟨2, ![512, 1408]⟩
abbrev S1408x1024 : Shape := ⟨2, ![1408, 1024]⟩

abbrev nBuf : Space → Nat
  | .hbm => 4
  | .vmem => 8
  | .smem => 2
  | _ => 0

abbrev bufTy : (tb : Table) → Fin (tcTables nBuf tb) → BufTy
  | .hbm, ⟨0, _⟩ => ⟨S69632x8x128, .f32⟩
  | .hbm, ⟨1, _⟩ => ⟨S2x8x1024x2816, .bf16⟩
  | .hbm, ⟨2, _⟩ => ⟨S2x8x1408x1024, .bf16⟩
  | .hbm, ⟨3, _⟩ => ⟨S69632x8x128, .f32⟩
  | .local _ .vmem, ⟨0, _⟩ => ⟨S512x8x128, .f32⟩
  | .local _ .vmem, ⟨1, _⟩ => ⟨S512x8x128, .f32⟩
  | .local _ .vmem, ⟨2, _⟩ => ⟨S1x1x1024x2816, .bf16⟩
  | .local _ .vmem, ⟨3, _⟩ => ⟨S1x1x1024x2816, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S512x8x128, .f32⟩
  | .local _ .vmem, ⟨7, _⟩ => ⟨S512x8x128, .f32⟩
  | .local _ .smem, ⟨0, _⟩ => ⟨S136, .i32⟩
  | .local _ .smem, ⟨1, _⟩ => ⟨S1, .i32⟩
  | _, _ => ⟨S69632x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S136 : Shape := ⟨1, ![136]⟩
abbrev S1 : Shape := ⟨1, ![1]⟩
abbrev S69632x8x128 : Shape := ⟨3, ![69632, 8, 128]⟩
abbrev S2x8x1024x2816 : Shape := ⟨4, ![2, 8, 1024, 2816]⟩
abbrev S2x8x1408x1024 : Shape := ⟨4, ![2, 8, 1408, 1024]⟩
abbrev S69632x1024 : Shape := ⟨2, ![69632, 1024]⟩
abbrev S136x1 : Shape := ⟨2, ![136, 1]⟩
abbrev S8 : Shape := ⟨1, ![8]⟩
abbrev S1x8 : Shape := ⟨2, ![1, 8]⟩
abbrev S136x8 : Shape := ⟨2, ![136, 8]⟩
abbrev S1x1 : Shape := ⟨2, ![1, 1]⟩
abbrev S136x512x8 : Shape := ⟨3, ![136, 512, 8]⟩
abbrev S69632x8 : Shape := ⟨2, ![69632, 8]⟩
abbrev S_ : Shape := ⟨0, ![]⟩
abbrev S69632x1 : Shape := ⟨2, ![69632, 1]⟩
abbrev S1x1x1024x1408 : Shape := ⟨4, ![1, 1, 1024, 1408]⟩
abbrev S1024x1408 : Shape := ⟨2, ![1024, 1408]⟩
abbrev S1x1x1408x1024 : Shape := ⟨4, ![1, 1, 1408, 1024]⟩
abbrev S1408x1024 : Shape := ⟨2, ![1408, 1024]⟩
abbrev S69632x1408 : Shape := ⟨2, ![69632, 1408]⟩

abbrev nBuf : Space → Nat
  | .hbm => 233
  | .vmem => 0
  | .smem => 0
  | _ => 0

abbrev hbmTy0_0 (i : Nat) : BufTy := match i % 128 with
  | 0 => ⟨S136, .i32⟩
  | 1 => ⟨S1, .i32⟩
  | 2 => ⟨S69632x8x128, .f32⟩
  | 3 => ⟨S2x8x1024x2816, .bf16⟩
  | 4 => ⟨S2x8x1408x1024, .bf16⟩
  | 5 => ⟨S69632x1024, .f32⟩
  | 6 => ⟨S136x1, .i32⟩
  | 7 => ⟨S8, .i32⟩
  | 8 => ⟨S1x8, .i32⟩
  | 9 => ⟨S136x8, .i32⟩
  | 10 => ⟨S136x8, .i32⟩
  | 11 => ⟨S136x8, .i1⟩
  | 12 => ⟨S136, .i32⟩
  | 13 => ⟨S136x1, .i32⟩
  | 14 => ⟨S1x1, .i32⟩
  | 15 => ⟨S136x1, .i32⟩
  | 16 => ⟨S136x1, .i1⟩
  | 17 => ⟨S136x8, .i1⟩
  | 18 => ⟨S136x8, .i1⟩
  | 19 => ⟨S136x8, .f32⟩
  | 20 => ⟨S136x512x8, .f32⟩
  | 21 => ⟨S69632x8, .f32⟩
  | 22 => ⟨S_, .f32⟩
  | 23 => ⟨S69632x1024, .f32⟩
  | 24 => ⟨S69632x1, .f32⟩
  | 25 => ⟨S1x1x1024x1408, .bf16⟩
  | 26 => ⟨S1024x1408, .bf16⟩
  | 27 => ⟨S1024x1408, .f32⟩
  | 28 => ⟨S1x1x1024x1408, .bf16⟩
  | 29 => ⟨S1024x1408, .bf16⟩
  | 30 => ⟨S1024x1408, .f32⟩
  | 31 => ⟨S1x1x1408x1024, .bf16⟩
  | 32 => ⟨S1408x1024, .bf16⟩
  | 33 => ⟨S1408x1024, .f32⟩
  | 34 => ⟨S69632x1408, .f32⟩
  | 35 => ⟨S69632x1408, .f32⟩
  | 36 => ⟨S69632x1408, .f32⟩
  | 37 => ⟨S_, .f32⟩
  | 38 => ⟨S69632x1408, .f32⟩
  | 39 => ⟨S69632x1408, .f32⟩
  | 40 => ⟨S_, .f32⟩
  | 41 => ⟨S69632x1408, .f32⟩
  | 42 => ⟨S69632x1408, .f32⟩
  | 43 => ⟨S69632x1408, .f32⟩
  | 44 => ⟨S69632x1408, .f32⟩
  | 45 => ⟨S69632x1408, .f32⟩
  | 46 => ⟨S69632x1024, .f32⟩
  | 47 => ⟨S69632x1024, .f32⟩
  | 48 => ⟨S69632x1024, .f32⟩
  | 49 => ⟨S69632x1024, .f32⟩
  | 50 => ⟨S69632x1, .f32⟩
  | 51 => ⟨S1x1x1024x1408, .bf16⟩
  | 52 => ⟨S1024x1408, .bf16⟩
  | 53 => ⟨S1024x1408, .f32⟩
  | 54 => ⟨S1x1x1024x1408, .bf16⟩
  | 55 => ⟨S1024x1408, .bf16⟩
  | 56 => ⟨S1024x1408, .f32⟩
  | 57 => ⟨S1x1x1408x1024, .bf16⟩
  | 58 => ⟨S1408x1024, .bf16⟩
  | 59 => ⟨S1408x1024, .f32⟩
  | 60 => ⟨S69632x1408, .f32⟩
  | 61 => ⟨S69632x1408, .f32⟩
  | 62 => ⟨S69632x1408, .f32⟩
  | 63 => ⟨S_, .f32⟩
  | 64 => ⟨S69632x1408, .f32⟩
  | 65 => ⟨S69632x1408, .f32⟩
  | 66 => ⟨S_, .f32⟩
  | 67 => ⟨S69632x1408, .f32⟩
  | 68 => ⟨S69632x1408, .f32⟩
  | 69 => ⟨S69632x1408, .f32⟩
  | 70 => ⟨S69632x1408, .f32⟩
  | 71 => ⟨S69632x1408, .f32⟩
  | 72 => ⟨S69632x1024, .f32⟩
  | 73 => ⟨S69632x1024, .f32⟩
  | 74 => ⟨S69632x1024, .f32⟩
  | 75 => ⟨S69632x1024, .f32⟩
  | 76 => ⟨S69632x1, .f32⟩
  | 77 => ⟨S1x1x1024x1408, .bf16⟩
  | 78 => ⟨S1024x1408, .bf16⟩
  | 79 => ⟨S1024x1408, .f32⟩
  | 80 => ⟨S1x1x1024x1408, .bf16⟩
  | 81 => ⟨S1024x1408, .bf16⟩
  | 82 => ⟨S1024x1408, .f32⟩
  | 83 => ⟨S1x1x1408x1024, .bf16⟩
  | 84 => ⟨S1408x1024, .bf16⟩
  | 85 => ⟨S1408x1024, .f32⟩
  | 86 => ⟨S69632x1408, .f32⟩
  | 87 => ⟨S69632x1408, .f32⟩
  | 88 => ⟨S69632x1408, .f32⟩
  | 89 => ⟨S_, .f32⟩
  | 90 => ⟨S69632x1408, .f32⟩
  | 91 => ⟨S69632x1408, .f32⟩
  | 92 => ⟨S_, .f32⟩
  | 93 => ⟨S69632x1408, .f32⟩
  | 94 => ⟨S69632x1408, .f32⟩
  | 95 => ⟨S69632x1408, .f32⟩
  | 96 => ⟨S69632x1408, .f32⟩
  | 97 => ⟨S69632x1408, .f32⟩
  | 98 => ⟨S69632x1024, .f32⟩
  | 99 => ⟨S69632x1024, .f32⟩
  | 100 => ⟨S69632x1024, .f32⟩
  | 101 => ⟨S69632x1024, .f32⟩
  | 102 => ⟨S69632x1, .f32⟩
  | 103 => ⟨S1x1x1024x1408, .bf16⟩
  | 104 => ⟨S1024x1408, .bf16⟩
  | 105 => ⟨S1024x1408, .f32⟩
  | 106 => ⟨S1x1x1024x1408, .bf16⟩
  | 107 => ⟨S1024x1408, .bf16⟩
  | 108 => ⟨S1024x1408, .f32⟩
  | 109 => ⟨S1x1x1408x1024, .bf16⟩
  | 110 => ⟨S1408x1024, .bf16⟩
  | 111 => ⟨S1408x1024, .f32⟩
  | 112 => ⟨S69632x1408, .f32⟩
  | 113 => ⟨S69632x1408, .f32⟩
  | 114 => ⟨S69632x1408, .f32⟩
  | 115 => ⟨S_, .f32⟩
  | 116 => ⟨S69632x1408, .f32⟩
  | 117 => ⟨S69632x1408, .f32⟩
  | 118 => ⟨S_, .f32⟩
  | 119 => ⟨S69632x1408, .f32⟩
  | 120 => ⟨S69632x1408, .f32⟩
  | 121 => ⟨S69632x1408, .f32⟩
  | 122 => ⟨S69632x1408, .f32⟩
  | 123 => ⟨S69632x1408, .f32⟩
  | 124 => ⟨S69632x1024, .f32⟩
  | 125 => ⟨S69632x1024, .f32⟩
  | 126 => ⟨S69632x1024, .f32⟩
  | 127 => ⟨S69632x1024, .f32⟩
  | _ => ⟨S136, .i32⟩

abbrev hbmTy0_1 (i : Nat) : BufTy := match i % 128 with
  | 0 => ⟨S69632x1, .f32⟩
  | 1 => ⟨S1x1x1024x1408, .bf16⟩
  | 2 => ⟨S1024x1408, .bf16⟩
  | 3 => ⟨S1024x1408, .f32⟩
  | 4 => ⟨S1x1x1024x1408, .bf16⟩
  | 5 => ⟨S1024x1408, .bf16⟩
  | 6 => ⟨S1024x1408, .f32⟩
  | 7 => ⟨S1x1x1408x1024, .bf16⟩
  | 8 => ⟨S1408x1024, .bf16⟩
  | 9 => ⟨S1408x1024, .f32⟩
  | 10 => ⟨S69632x1408, .f32⟩
  | 11 => ⟨S69632x1408, .f32⟩
  | 12 => ⟨S69632x1408, .f32⟩
  | 13 => ⟨S_, .f32⟩
  | 14 => ⟨S69632x1408, .f32⟩
  | 15 => ⟨S69632x1408, .f32⟩
  | 16 => ⟨S_, .f32⟩
  | 17 => ⟨S69632x1408, .f32⟩
  | 18 => ⟨S69632x1408, .f32⟩
  | 19 => ⟨S69632x1408, .f32⟩
  | 20 => ⟨S69632x1408, .f32⟩
  | 21 => ⟨S69632x1408, .f32⟩
  | 22 => ⟨S69632x1024, .f32⟩
  | 23 => ⟨S69632x1024, .f32⟩
  | 24 => ⟨S69632x1024, .f32⟩
  | 25 => ⟨S69632x1024, .f32⟩
  | 26 => ⟨S69632x1, .f32⟩
  | 27 => ⟨S1x1x1024x1408, .bf16⟩
  | 28 => ⟨S1024x1408, .bf16⟩
  | 29 => ⟨S1024x1408, .f32⟩
  | 30 => ⟨S1x1x1024x1408, .bf16⟩
  | 31 => ⟨S1024x1408, .bf16⟩
  | 32 => ⟨S1024x1408, .f32⟩
  | 33 => ⟨S1x1x1408x1024, .bf16⟩
  | 34 => ⟨S1408x1024, .bf16⟩
  | 35 => ⟨S1408x1024, .f32⟩
  | 36 => ⟨S69632x1408, .f32⟩
  | 37 => ⟨S69632x1408, .f32⟩
  | 38 => ⟨S69632x1408, .f32⟩
  | 39 => ⟨S_, .f32⟩
  | 40 => ⟨S69632x1408, .f32⟩
  | 41 => ⟨S69632x1408, .f32⟩
  | 42 => ⟨S_, .f32⟩
  | 43 => ⟨S69632x1408, .f32⟩
  | 44 => ⟨S69632x1408, .f32⟩
  | 45 => ⟨S69632x1408, .f32⟩
  | 46 => ⟨S69632x1408, .f32⟩
  | 47 => ⟨S69632x1408, .f32⟩
  | 48 => ⟨S69632x1024, .f32⟩
  | 49 => ⟨S69632x1024, .f32⟩
  | 50 => ⟨S69632x1024, .f32⟩
  | 51 => ⟨S69632x1024, .f32⟩
  | 52 => ⟨S69632x1, .f32⟩
  | 53 => ⟨S1x1x1024x1408, .bf16⟩
  | 54 => ⟨S1024x1408, .bf16⟩
  | 55 => ⟨S1024x1408, .f32⟩
  | 56 => ⟨S1x1x1024x1408, .bf16⟩
  | 57 => ⟨S1024x1408, .bf16⟩
  | 58 => ⟨S1024x1408, .f32⟩
  | 59 => ⟨S1x1x1408x1024, .bf16⟩
  | 60 => ⟨S1408x1024, .bf16⟩
  | 61 => ⟨S1408x1024, .f32⟩
  | 62 => ⟨S69632x1408, .f32⟩
  | 63 => ⟨S69632x1408, .f32⟩
  | 64 => ⟨S69632x1408, .f32⟩
  | 65 => ⟨S_, .f32⟩
  | 66 => ⟨S69632x1408, .f32⟩
  | 67 => ⟨S69632x1408, .f32⟩
  | 68 => ⟨S_, .f32⟩
  | 69 => ⟨S69632x1408, .f32⟩
  | 70 => ⟨S69632x1408, .f32⟩
  | 71 => ⟨S69632x1408, .f32⟩
  | 72 => ⟨S69632x1408, .f32⟩
  | 73 => ⟨S69632x1408, .f32⟩
  | 74 => ⟨S69632x1024, .f32⟩
  | 75 => ⟨S69632x1024, .f32⟩
  | 76 => ⟨S69632x1024, .f32⟩
  | 77 => ⟨S69632x1024, .f32⟩
  | 78 => ⟨S69632x1, .f32⟩
  | 79 => ⟨S1x1x1024x1408, .bf16⟩
  | 80 => ⟨S1024x1408, .bf16⟩
  | 81 => ⟨S1024x1408, .f32⟩
  | 82 => ⟨S1x1x1024x1408, .bf16⟩
  | 83 => ⟨S1024x1408, .bf16⟩
  | 84 => ⟨S1024x1408, .f32⟩
  | 85 => ⟨S1x1x1408x1024, .bf16⟩
  | 86 => ⟨S1408x1024, .bf16⟩
  | 87 => ⟨S1408x1024, .f32⟩
  | 88 => ⟨S69632x1408, .f32⟩
  | 89 => ⟨S69632x1408, .f32⟩
  | 90 => ⟨S69632x1408, .f32⟩
  | 91 => ⟨S_, .f32⟩
  | 92 => ⟨S69632x1408, .f32⟩
  | 93 => ⟨S69632x1408, .f32⟩
  | 94 => ⟨S_, .f32⟩
  | 95 => ⟨S69632x1408, .f32⟩
  | 96 => ⟨S69632x1408, .f32⟩
  | 97 => ⟨S69632x1408, .f32⟩
  | 98 => ⟨S69632x1408, .f32⟩
  | 99 => ⟨S69632x1408, .f32⟩
  | 100 => ⟨S69632x1024, .f32⟩
  | 101 => ⟨S69632x1024, .f32⟩
  | 102 => ⟨S69632x1024, .f32⟩
  | 103 => ⟨S69632x1024, .f32⟩
  | 104 => ⟨S69632x8x128, .f32⟩
  | _ => ⟨S136, .i32⟩

abbrev hbmTy (i : Nat) : BufTy := match i / 128 with
  | 0 => hbmTy0_0 i
  | 1 => hbmTy0_1 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call2_v0 : Ref sig .tc := ⟨.hbm, 87, rfl⟩
abbrev main_call2_v1 : Ref sig .tc := ⟨.hbm, 88, rfl⟩
abbrev main_call2_cst : Ref sig .tc := ⟨.hbm, 89, rfl⟩
abbrev main_call2_v2 : Ref sig .tc := ⟨.hbm, 90, rfl⟩
abbrev main_call2_v3 : Ref sig .tc := ⟨.hbm, 91, rfl⟩
abbrev main_call2_cst_0 : Ref sig .tc := ⟨.hbm, 92, rfl⟩
abbrev main_call2_v4 : Ref sig .tc := ⟨.hbm, 93, rfl⟩
abbrev main_call2_v5 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_call3_v0 : Ref sig .tc := ⟨.hbm, 113, rfl⟩
abbrev main_call3_v1 : Ref sig .tc := ⟨.hbm, 114, rfl⟩
abbrev main_call3_cst : Ref sig .tc := ⟨.hbm, 115, rfl⟩
abbrev main_call3_v2 : Ref sig .tc := ⟨.hbm, 116, rfl⟩
abbrev main_call3_v3 : Ref sig .tc := ⟨.hbm, 117, rfl⟩
abbrev main_call3_cst_0 : Ref sig .tc := ⟨.hbm, 118, rfl⟩
abbrev main_call3_v4 : Ref sig .tc := ⟨.hbm, 119, rfl⟩
abbrev main_call3_v5 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_call4_v0 : Ref sig .tc := ⟨.hbm, 139, rfl⟩
abbrev main_call4_v1 : Ref sig .tc := ⟨.hbm, 140, rfl⟩
abbrev main_call4_cst : Ref sig .tc := ⟨.hbm, 141, rfl⟩
abbrev main_call4_v2 : Ref sig .tc := ⟨.hbm, 142, rfl⟩
abbrev main_call4_v3 : Ref sig .tc := ⟨.hbm, 143, rfl⟩
abbrev main_call4_cst_0 : Ref sig .tc := ⟨.hbm, 144, rfl⟩
abbrev main_call4_v4 : Ref sig .tc := ⟨.hbm, 145, rfl⟩
abbrev main_call4_v5 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_call5_v0 : Ref sig .tc := ⟨.hbm, 165, rfl⟩
abbrev main_call5_v1 : Ref sig .tc := ⟨.hbm, 166, rfl⟩
abbrev main_call5_cst : Ref sig .tc := ⟨.hbm, 167, rfl⟩
abbrev main_call5_v2 : Ref sig .tc := ⟨.hbm, 168, rfl⟩
abbrev main_call5_v3 : Ref sig .tc := ⟨.hbm, 169, rfl⟩
abbrev main_call5_cst_0 : Ref sig .tc := ⟨.hbm, 170, rfl⟩
abbrev main_call5_v4 : Ref sig .tc := ⟨.hbm, 171, rfl⟩
abbrev main_call5_v5 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_call6_v0 : Ref sig .tc := ⟨.hbm, 191, rfl⟩
abbrev main_call6_v1 : Ref sig .tc := ⟨.hbm, 192, rfl⟩
abbrev main_call6_cst : Ref sig .tc := ⟨.hbm, 193, rfl⟩
abbrev main_call6_v2 : Ref sig .tc := ⟨.hbm, 194, rfl⟩
abbrev main_call6_v3 : Ref sig .tc := ⟨.hbm, 195, rfl⟩
abbrev main_call6_cst_0 : Ref sig .tc := ⟨.hbm, 196, rfl⟩
abbrev main_call6_v4 : Ref sig .tc := ⟨.hbm, 197, rfl⟩
abbrev main_call6_v5 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_call7_v0 : Ref sig .tc := ⟨.hbm, 217, rfl⟩
abbrev main_call7_v1 : Ref sig .tc := ⟨.hbm, 218, rfl⟩
abbrev main_call7_cst : Ref sig .tc := ⟨.hbm, 219, rfl⟩
abbrev main_call7_v2 : Ref sig .tc := ⟨.hbm, 220, rfl⟩
abbrev main_call7_v3 : Ref sig .tc := ⟨.hbm, 221, rfl⟩
abbrev main_call7_cst_0 : Ref sig .tc := ⟨.hbm, 222, rfl⟩
abbrev main_call7_v4 : Ref sig .tc := ⟨.hbm, 223, rfl⟩
abbrev main_call7_v5 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩

abbrev nD : Nat := 1
abbrev τ : Topo := Topo.v7x

variable {F : FTy → Type} [FloatOps F]
-- ==== Kernel4.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S16x4x6144 : Shape := ⟨3, ![16, 4, 6144]⟩
abbrev S4x16x6144 : Shape := ⟨3, ![4, 16, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x4x6144, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel5.lean ====
abbrev S8x32x1024 : Shape := ⟨3, ![8, 32, 1024]⟩
abbrev S16x2x1024 : Shape := ⟨3, ![16, 2, 1024]⟩
abbrev S1024x1024 : Shape := ⟨2, ![1024, 1024]⟩
abbrev S8x2x1024 : Shape := ⟨3, ![8, 2, 1024]⟩
abbrev S8x1x1024 : Shape := ⟨3, ![8, 1, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x32x1024, .f32⟩
  | .hbm, ⟨1, _⟩ => ⟨S16x2x1024, .f32⟩
  | .hbm, ⟨2, _⟩ => ⟨S1024x1024, .bf16⟩
  | .hbm, ⟨3, _⟩ => ⟨S1024x1024, .bf16⟩
  | .hbm, ⟨4, _⟩ => ⟨S8x32x1024, .bf16⟩
  | .hbm, ⟨5, _⟩ => ⟨S8x32x1024, .bf16⟩
  | .hbm, ⟨6, _⟩ => ⟨S8x32x1024, .f32⟩
  | .hbm, ⟨7, _⟩ => ⟨S8x32x1024, .f32⟩
  | .local _ .vmem, ⟨0, _⟩ => ⟨S8x32x1024, .f32⟩
  | .local _ .vmem, ⟨1, _⟩ => ⟨S8x2x1024, .f32⟩
  | .local _ .vmem, ⟨2, _⟩ => ⟨S1024x1024, .bf16⟩
  | .local _ .vmem, ⟨3, _⟩ => ⟨S1024x1024, .bf16⟩
  | .local _ .vmem, ⟨4, _⟩ => ⟨S8x32x1024, .bf16⟩
  | .local _ .vmem, ⟨5, _⟩ => ⟨S8x32x1024, .bf16⟩
  | .local _ .vmem, ⟨6, _⟩ => ⟨S8x32x1024, .f32⟩
  | .local _ .vmem, ⟨7, _⟩ => ⟨S8x32x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_19 : BitVec 32 := 0#32
  let v23 : BitVec 1 := Scalar.cmpi .ne v22 c0_i32_19
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S8x32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S8x32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S8x32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference5Ideal.lean ====
abbrev S8x32x1024 : Shape := ⟨3, ![8, 32, 1024]⟩
abbrev S16x2x1024 : Shape := ⟨3, ![16, 2, 1024]⟩
abbrev S1024x1024 : Shape := ⟨2, ![1024, 1024]⟩
abbrev S8x2x1024 : Shape := ⟨3, ![8, 2, 1024]⟩
abbrev S8x1x1024 : Shape := ⟨3, ![8, 1, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S16x2x1024, .f32⟩
  | .hbm, ⟨2, _⟩ => ⟨S1024x1024, .bf16⟩
  | .hbm, ⟨3, _⟩ => ⟨S1024x1024, .bf16⟩
  | .hbm, ⟨4, _⟩ => ⟨S8x2x1024, .f32⟩
  | .hbm, ⟨5, _⟩ => ⟨S8x1x1024, .f32⟩
  | .hbm, ⟨6, _⟩ => ⟨S8x1x1024, .f32⟩
  | .hbm, ⟨7, _⟩ => ⟨S_, .f32⟩
  | .hbm, ⟨8, _⟩ => ⟨S8x1x1024, .f32⟩
  | .hbm, ⟨9, _⟩ => ⟨S8x1x1024, .f32⟩
  | .hbm, ⟨10, _⟩ => ⟨S8x32x1024, .f32⟩
  | .hbm, ⟨11, _⟩ => ⟨S8x32x1024, .f32⟩
  | .hbm, ⟨12, _⟩ => ⟨S8x32x1024, .f32⟩
  | .hbm, ⟨13, _⟩ => ⟨S8x32x1024, .f32⟩
  | .hbm, ⟨14, _⟩ => ⟨S1024x1024, .f32⟩
  | .hbm, ⟨15, _⟩ => ⟨S8x32x1024, .f32⟩
  | .hbm, ⟨16, _⟩ => ⟨S1024x1024, .f32⟩
  | .hbm, ⟨17, _⟩ => ⟨S8x32x1024, .f32⟩
  | .hbm, ⟨18, _⟩ => ⟨S8x32x1024, .bf16⟩
  | .hbm, ⟨19, _⟩ => ⟨S8x32x1024, .bf16⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel6.lean ====
abbrev S2x8x1024x1408 : Shape := ⟨4, ![2, 8, 1024, 1408]⟩
abbrev S2x8x1024x2816 : Shape := ⟨4, ![2, 8, 1024, 2816]⟩
abbrev S1x1x512x1408 : Shape := ⟨4, ![1, 1, 512, 1408]⟩
abbrev S1x1x512x2816 : Shape := ⟨4, ![1, 1, 512, 2816]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x8x1024x1408, .f32⟩
  | .hbm, ⟨1, _⟩ => ⟨S2x8x1024x1408, .f32⟩
  | .hbm, ⟨2, _⟩ => ⟨S2x8x1024x2816, .bf16⟩
  | .local _ .vmem, ⟨0, _⟩ => ⟨S1x1x512x1408, .f32⟩
  | .local _ .vmem, ⟨1, _⟩ => ⟨S1x1x512x1408, .f32⟩
  | .local _ .vmem, ⟨2, _⟩ => ⟨S1x1x512x1408, .f32⟩
  | .local _ .vmem, ⟨3, _⟩ => ⟨S1x1x512x1408, .f32⟩
  | .local _ .vmem, ⟨4, _⟩ => ⟨S1x1x512x2816, .bf16⟩
  | .local _ .vmem, ⟨5, _⟩ => ⟨S1x1x512x2816, .bf16⟩
  | _, _ => ⟨S2x8x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference6Ideal.lean ====
abbrev S2x8x1024x1408 : Shape := ⟨4, ![2, 8, 1024, 1408]⟩
abbrev S2x8x1024x2816 : Shape := ⟨4, ![2, 8, 1024, 2816]⟩

abbrev nBuf : Space → Nat
  | .hbm => 4
  | .vmem => 0
  | .smem => 0
  | _ => 0

abbrev bufTy : (tb : Table) → Fin (tcTables nBuf tb) → BufTy
  | .hbm, ⟨0, _⟩ => ⟨S2x8x1024x1408, .f32⟩
  | .hbm, ⟨1, _⟩ => ⟨S2x8x1024x1408, .f32⟩
  | .hbm, ⟨2, _⟩ => ⟨S2x8x1024x2816, .f32⟩
  | .hbm, ⟨3, _⟩ => ⟨S2x8x1024x2816, .bf16⟩
  | _, _ => ⟨S2x8x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KI.RunA.lean ====
/- The kernel body's run in the case of the first step: the generated module `Gen/KernelIdeal/Frame/RunA.lean`, with twice
   its budget and two lines after the step that reads the bias, which say which value the step reads. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 2000000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : cond0_0 i) (hc1 : cond0_1 i) (hc2 : ¬cond0_2 i)
    (x0 : Vec F S1x512x1024 .f32) (x1 : Vec F S1x6x1024 .f32) (x2 : Vec F S1x512x1024 .bf16) (x3 : Vec F S1x512x1024 .bf16) (x4 : Vec F S1x512x1024 .bf16) (x5 : Vec F S1x512x1024 .bf16) (x6 : Vec F S16x1024 .f32) (x7 : Vec F S1024x1024 .bf16) (x8 : Vec F S1024x1024 .bf16) (x9 : Vec F S1x1024 .f32) (x10 : Vec F S1x1024 .f32) :
    Σ' (L11 : List (View.Piece (Elt F) S1x512x1024 .f32)), { LS0 : List (View.Piece (Elt F) S8x512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_attn_eq_skeleton]; unfold cc0_attn_skel
    simp only [k0_part19_eq_skeleton, k0_part1_eq_skeleton, k0_part2_eq_skeleton, k0_part3_eq_skeleton, k0_part4_eq_skeleton, k0_part5_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    have hrd0 : ∀ (𝒱 : Variants) (c : Dev nD) (bd : Option 𝒱.V) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (arg1 : BitVec 32) (v26 : FVec F S512x1024 .f32) (v57 : IVec S1x768 32) (k0_h2 : k0_cond2 i = 1#1) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (hrdF : BufTy.Contents (Elt F) arg18.view.ty) (hrdB : LoadRect S512x1024), arg18.view.readAt (Elt F) hrdB (arg18.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 v57 k0_h2 X_arg14 X_arg15 X_arg16 X_arg17 (Scf.trips k0_t1_loop.lb k0_t1_loop.ub k0_t1_loop.st))) = arg18.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 v57 k0_h2 X_arg14 X_arg15 X_arg16 X_arg17 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 v57 k0_h2 X_arg14 X_arg15 X_arg16 X_arg17 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 v57 k0_h2 X_arg14 X_arg15 X_arg16 X_arg17 (Scf.trips k0_t1_loop.lb k0_t1_loop.ub k0_t1_loop.st)) S256x128.size (by sl_kernel_rfl) (hrdB.idx hrdJ))
    sl_exec (disch := first | sl_exact hc0 | sl_exact hc1 | sl_exact hc2)
    sl_step
    unfold kernelRun0_A.sl.v64
    rw [hrd0]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen

end
-- ==== Proof.KI.RunB.lean ====
/- The kernel body's run in the case of all steps but the batches' first ones: the generated module `Gen/KernelIdeal/Frame/RunB.lean`, over
   this directory's `RunA`. -/
module

public import proofs.«01_k».proof.Proof.KI.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE B (`scf.if` 0 not taken, `scf.if` 1 not taken, `scf.if` 2 taken: points 1, 2, … 63: 62 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : ¬cond0_0 i) (hc1 : ¬cond0_1 i) (hc2 : cond0_2 i)
    (x0 : Vec F S1x512x1024 .f32) (x1 : Vec F S1x6x1024 .f32) (x2 : Vec F S1x512x1024 .bf16) (x3 : Vec F S1x512x1024 .bf16) (x4 : Vec F S1x512x1024 .bf16) (x5 : Vec F S1x512x1024 .bf16) (x6 : Vec F S16x1024 .f32) (x7 : Vec F S1024x1024 .bf16) (x8 : Vec F S1024x1024 .bf16) (x9 : Vec F S1x1024 .f32) (x10 : Vec F S1x1024 .f32) (xs0 : Vec F S8x512x768 .f32) :
    Σ' (L11 : List (View.Piece (Elt F) S1x512x1024 .f32)), { LS0 : List (View.Piece (Elt F) S8x512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], fun E K => ?run⟩
  case run =>
    simp only [cc0_attn_eq_skeleton]; unfold cc0_attn_skel
    simp only [k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0
    have hrd0 : ∀ (𝒱 : Variants) (c : Dev nD) (bd : Option 𝒱.V) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (v26 : FVec F S512x1024 .f32) (v53 : IVec S512x128 1) (v56 : IVec S256x128 1) (k0_h3 : k0_cond3 i = 1#1) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (hrdF : BufTy.Contents (Elt F) arg18.view.ty) (hrdB : LoadRect S512x1024), arg18.view.readAt (Elt F) hrdB (arg18.view.writes (Elt F) hrdF (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 v53 v56 k0_h3 X_arg14 X_arg15 X_arg16 X_arg17 (Scf.trips k0_t2_loop.lb k0_t2_loop.ub k0_t2_loop.st))) = arg18.view.readCov (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 v53 v56 k0_h3 X_arg14 X_arg15 X_arg16 X_arg17 (Scf.trips k0_t2_loop.lb k0_t2_loop.ub k0_t2_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 v53 v56 k0_h3 X_arg14 X_arg15 X_arg16 X_arg17 hrdF hrdB => View.readAt_writes_of_cover _ hrdF _ hrdB (fun hrdJ => View.cover_of_tiledL (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 v53 v56 k0_h3 X_arg14 X_arg15 X_arg16 X_arg17 (Scf.trips k0_t2_loop.lb k0_t2_loop.ub k0_t2_loop.st)) S256x128.size (by sl_kernel_rfl) (hrdB.idx hrdJ))
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [HS0]
    · iexists _; isplitr; · ipureintro; exact harg14.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen

end
-- ==== Proof.KI.RunC.lean ====
/- The kernel body's run in the case of the second batch's first step: the generated module `Gen/KernelIdeal/Frame/RunC.lean`, over this directory's
   `RunB`. -/
module

public import proofs.«01_k».proof.Proof.KI.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE C (`scf.if` 0 not taken, `scf.if` 1 taken, `scf.if` 2 not taken: points 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : ¬cond0_0 i) (hc1 : cond0_1 i) (hc2 : ¬cond0_2 i)
    (x0 : Vec F S1x512x1024 .f32) (x1 : Vec F S1x6x1024 .f32) (x2 : Vec F S1x512x1024 .bf16) (x3 : Vec F S1x512x1024 .bf16) (x4 : Vec F S1x512x1024 .bf16) (x5 : Vec F S1x512x1024 .bf16) (x6 : Vec F S16x1024 .f32) (x7 : Vec F S1024x1024 .bf16) (x8 : Vec F S1024x1024 .bf16) (x9 : Vec F S1x1024 .f32) (x10 : Vec F S1x1024 .f32) (xs0 : Vec F S8x512x768 .f32) :
    Σ' (L11 : List (View.Piece (Elt F) S1x512x1024 .f32)), { LS0 : List (View.Piece (Elt F) S8x512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], fun E K => ?run⟩
  case run =>
    simp only [cc0_attn_eq_skeleton]; unfold cc0_attn_skel
    simp only [k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0
    have hrd0 : ∀ (𝒱 : Variants) (c : Dev nD) (bd : Option 𝒱.V) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (arg1 : BitVec 32) (v26 : FVec F S512x1024 .f32) (v57 : IVec S1x768 32) (k0_h2 : k0_cond2 i = 1#1) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (hrdF : BufTy.Contents (Elt F) arg18.view.ty) (hrdB : LoadRect S512x1024), arg18.view.readAt (Elt F) hrdB (arg18.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 v57 k0_h2 X_arg14 X_arg15 X_arg16 X_arg17 (Scf.trips k0_t1_loop.lb k0_t1_loop.ub k0_t1_loop.st))) = arg18.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 v57 k0_h2 X_arg14 X_arg15 X_arg16 X_arg17 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 v57 k0_h2 X_arg14 X_arg15 X_arg16 X_arg17 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 v57 k0_h2 X_arg14 X_arg15 X_arg16 X_arg17 (Scf.trips k0_t1_loop.lb k0_t1_loop.ub k0_t1_loop.st)) S256x128.size (by sl_kernel_rfl) (hrdB.idx hrdJ))
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [HS0]
    · iexists _; isplitr; · ipureintro; exact harg14.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen

end
-- ==== Proof.KI.Frame.lean ====
/- The kernel's frame: the generated module `Gen/KernelIdeal/Frame.lean`, over this directory's runs of the body. -/
module

public import proofs.«01_k».proof.Proof.KI.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 11 tile its block (1 store of `S1x512x1024`, checked by the kernel's evaluation: Lib/Ring.lean `Piece.tiledL`, linear in the pieces, through a loop's `@[irreducible]` trip theorem too), so they cover it. -/
theorem cover0_A_11 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : cond0_0 i) (hc1 : cond0_1 i) (hc2 : ¬cond0_2 i)
    (x0 : Vec F S1x512x1024 .f32) (x1 : Vec F S1x6x1024 .f32) (x2 : Vec F S1x512x1024 .bf16) (x3 : Vec F S1x512x1024 .bf16) (x4 : Vec F S1x512x1024 .bf16) (x5 : Vec F S1x512x1024 .bf16) (x6 : Vec F S16x1024 .f32) (x7 : Vec F S1024x1024 .bf16) (x8 : Vec F S1024x1024 .bf16) (x9 : Vec F S1x1024 .f32) (x10 : Vec F S1x1024 .f32) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).1 S1x512x1024.size (by sl_kernel_rfl) y

/-- What case A leaves in output 11's staging buffer: its pieces read back over junk. -/
def out0_A_11 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : cond0_0 i) (hc1 : cond0_1 i) (hc2 : ¬cond0_2 i)
    (x0 : Vec F S1x512x1024 .f32) (x1 : Vec F S1x6x1024 .f32) (x2 : Vec F S1x512x1024 .bf16) (x3 : Vec F S1x512x1024 .bf16) (x4 : Vec F S1x512x1024 .bf16) (x5 : Vec F S1x512x1024 .bf16) (x6 : Vec F S16x1024 .f32) (x7 : Vec F S1024x1024 .bf16) (x8 : Vec F S1024x1024 .bf16) (x9 : Vec F S1x1024 .f32) (x10 : Vec F S1x1024 .f32) : Vec F S1x512x1024 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).1)

/-- Case A's pieces for scratch `arg14`, which the kernel carries between points, cover it: 16 pieces of `S1x256x768` tiling it (Lib/Ring.lean `Piece.tiledL`). -/
theorem scover0_A_0 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : cond0_0 i) (hc1 : cond0_1 i) (hc2 : ¬cond0_2 i)
    (x0 : Vec F S1x512x1024 .f32) (x1 : Vec F S1x6x1024 .f32) (x2 : Vec F S1x512x1024 .bf16) (x3 : Vec F S1x512x1024 .bf16) (x4 : Vec F S1x512x1024 .bf16) (x5 : Vec F S1x512x1024 .bf16) (x6 : Vec F S16x1024 .f32) (x7 : Vec F S1024x1024 .bf16) (x8 : Vec F S1024x1024 .bf16) (x9 : Vec F S1x1024 .f32) (x10 : Vec F S1x1024 .f32) (y : S8x512x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.1 S1x256x768.size (by sl_kernel_rfl) y

/-- What case A leaves in scratch `arg14`: its pieces read back over junk. -/
def sout0_A_0 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : cond0_0 i) (hc1 : cond0_1 i) (hc2 : ¬cond0_2 i)
    (x0 : Vec F S1x512x1024 .f32) (x1 : Vec F S1x6x1024 .f32) (x2 : Vec F S1x512x1024 .bf16) (x3 : Vec F S1x512x1024 .bf16) (x4 : Vec F S1x512x1024 .bf16) (x5 : Vec F S1x512x1024 .bf16) (x6 : Vec F S16x1024 .f32) (x7 : Vec F S1024x1024 .bf16) (x8 : Vec F S1024x1024 .bf16) (x9 : Vec F S1x1024 .f32) (x10 : Vec F S1x1024 .f32) : Vec F S8x512x768 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.1)

/-- Case B's pieces for output 11 tile its block (1 store of `S1x512x1024`, checked by the kernel's evaluation: Lib/Ring.lean `Piece.tiledL`, linear in the pieces, through a loop's `@[irreducible]` trip theorem too), so they cover it. -/
theorem cover0_B_11 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : ¬cond0_0 i) (hc1 : ¬cond0_1 i) (hc2 : cond0_2 i)
    (x0 : Vec F S1x512x1024 .f32) (x1 : Vec F S1x6x1024 .f32) (x2 : Vec F S1x512x1024 .bf16) (x3 : Vec F S1x512x1024 .bf16) (x4 : Vec F S1x512x1024 .bf16) (x5 : Vec F S1x512x1024 .bf16) (x6 : Vec F S16x1024 .f32) (x7 : Vec F S1024x1024 .bf16) (x8 : Vec F S1024x1024 .bf16) (x9 : Vec F S1x1024 .f32) (x10 : Vec F S1x1024 .f32) (xs0 : Vec F S8x512x768 .f32) (y : S1x512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).1 S1x512x1024.size (by sl_kernel_rfl) y

/-- What case B leaves in output 11's staging buffer: its pieces read back over junk. -/
def out0_B_11 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : ¬cond0_0 i) (hc1 : ¬cond0_1 i) (hc2 : cond0_2 i)
    (x0 : Vec F S1x512x1024 .f32) (x1 : Vec F S1x6x1024 .f32) (x2 : Vec F S1x512x1024 .bf16) (x3 : Vec F S1x512x1024 .bf16) (x4 : Vec F S1x512x1024 .bf16) (x5 : Vec F S1x512x1024 .bf16) (x6 : Vec F S16x1024 .f32) (x7 : Vec F S1024x1024 .bf16) (x8 : Vec F S1024x1024 .bf16) (x9 : Vec F S1x1024 .f32) (x10 : Vec F S1x1024 .f32) (xs0 : Vec F S8x512x768 .f32) : Vec F S1x512x1024 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).1)

/-- Case B stores nothing into scratch `arg14`: it holds what the point before left. -/
def sout0_B_0 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : ¬cond0_0 i) (hc1 : ¬cond0_1 i) (hc2 : cond0_2 i)
    (x0 : Vec F S1x512x1024 .f32) (x1 : Vec F S1x6x1024 .f32) (x2 : Vec F S1x512x1024 .bf16) (x3 : Vec F S1x512x1024 .bf16) (x4 : Vec F S1x512x1024 .bf16) (x5 : Vec F S1x512x1024 .bf16) (x6 : Vec F S16x1024 .f32) (x7 : Vec F S1024x1024 .bf16) (x8 : Vec F S1024x1024 .bf16) (x9 : Vec F S1x1024 .f32) (x10 : Vec F S1x1024 .f32) (xs0 : Vec F S8x512x768 .f32) : Vec F S8x512x768 .f32 := xs0

/-- Case C's pieces for output 11 tile its block (1 store of `S1x512x1024`, checked by the kernel's evaluation: Lib/Ring.lean `Piece.tiledL`, linear in the pieces, through a loop's `@[irreducible]` trip theorem too), so they cover it. -/
theorem cover0_C_11 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : ¬cond0_0 i) (hc1 : cond0_1 i) (hc2 : ¬cond0_2 i)
    (x0 : Vec F S1x512x1024 .f32) (x1 : Vec F S1x6x1024 .f32) (x2 : Vec F S1x512x1024 .bf16) (x3 : Vec F S1x512x1024 .bf16) (x4 : Vec F S1x512x1024 .bf16) (x5 : Vec F S1x512x1024 .bf16) (x6 : Vec F S16x1024 .f32) (x7 : Vec F S1024x1024 .bf16) (x8 : Vec F S1024x1024 .bf16) (x9 : Vec F S1x1024 .f32) (x10 : Vec F S1x1024 .f32) (xs0 : Vec F S8x512x768 .f32) (y : S1x512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).1 S1x512x1024.size (by sl_kernel_rfl) y

/-- What case C leaves in output 11's staging buffer: its pieces read back over junk. -/
def out0_C_11 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : ¬cond0_0 i) (hc1 : cond0_1 i) (hc2 : ¬cond0_2 i)
    (x0 : Vec F S1x512x1024 .f32) (x1 : Vec F S1x6x1024 .f32) (x2 : Vec F S1x512x1024 .bf16) (x3 : Vec F S1x512x1024 .bf16) (x4 : Vec F S1x512x1024 .bf16) (x5 : Vec F S1x512x1024 .bf16) (x6 : Vec F S16x1024 .f32) (x7 : Vec F S1024x1024 .bf16) (x8 : Vec F S1024x1024 .bf16) (x9 : Vec F S1x1024 .f32) (x10 : Vec F S1x1024 .f32) (xs0 : Vec F S8x512x768 .f32) : Vec F S1x512x1024 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).1)

/-- Case C stores nothing into scratch `arg14`: it holds what the point before left. -/
def sout0_C_0 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : ¬cond0_0 i) (hc1 : cond0_1 i) (hc2 : ¬cond0_2 i)
    (x0 : Vec F S1x512x1024 .f32) (x1 : Vec F S1x6x1024 .f32) (x2 : Vec F S1x512x1024 .bf16) (x3 : Vec F S1x512x1024 .bf16) (x4 : Vec F S1x512x1024 .bf16) (x5 : Vec F S1x512x1024 .bf16) (x6 : Vec F S16x1024 .f32) (x7 : Vec F S1024x1024 .bf16) (x8 : Vec F S1024x1024 .bf16) (x9 : Vec F S1x1024 .f32) (x10 : Vec F S1x1024 .f32) (xs0 : Vec F S8x512x768 .f32) : Vec F S8x512x768 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x1024 .f32 × Vec F S8x512x768 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 64 = 0 then
      if h1 : (n + 1) % 32 = 0 then
        if h2 : 1 ≤ (n + 1) % 32 then
          False.elim (by have hN : n + 1 < 64 := lt_of_lt_of_eq hn (show cfg0.N = 64 from N_0); omega)
        else
          (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
      else
        False.elim (by have hN : n + 1 < 64 := lt_of_lt_of_eq hn (show cfg0.N = 64 from N_0); omega)
    else
      if h1 : (n + 1) % 32 = 0 then
        if h2 : 1 ≤ (n + 1) % 32 then
          False.elim (by have hN : n + 1 < 64 := lt_of_lt_of_eq hn (show cfg0.N = 64 from N_0); omega)
        else
          (out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2)
      else
        if h2 : 1 ≤ (n + 1) % 32 then
          (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2)
        else
          False.elim (by have hN : n + 1 < 64 := lt_of_lt_of_eq hn (show cfg0.N = 64 from N_0); omega)

/-- `outsAt0` at a point of case A: that case's contents. -/
theorem outsAt0_A (c : Dev nD) (t : Fin cfg0.N) (h0 : t.val % 64 = 0) (h1 : t.val % 32 = 0) (h2 : ¬1 ≤ t.val % 32) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 64 = 0) (h1 : ¬t.val % 32 = 0) (h2 : 1 ≤ t.val % 32) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case C: that case's contents, over what the point before left. -/
theorem outsAt0_C (c : Dev nD) (t : Fin cfg0.N) (h0 : ¬t.val % 64 = 0) (h1 : t.val % 32 = 0) (h2 : ¬1 ≤ t.val % 32) :
    outsAt0 m c t.val t.isLt = (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases h1 : t.val % 32 = 0
    · by_cases h2 : 1 ≤ t.val % 32
      · exfalso; omega
      · by_cases hz : t.val = 0
        · rw [PhiS_castSucc m c t, PhiS_zero m c _ _ hz, PhiA0_eq]
          rw [outsAt0_A m c t h0 h1 h2]
          unfold out0_A_11 sout0_A_0; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, ⟨%e11, H11⟩, ⟨%es0, HS0⟩, HS1, HS2, HS3, HS4⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _)
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _)
        · exfalso; have hN : t.val < 64 := lt_of_lt_of_eq t.isLt (show cfg0.N = 64 from N_0); omega
    · exfalso; omega
  · by_cases h1 : t.val % 32 = 0
    · by_cases h2 : 1 ≤ t.val % 32
      · exfalso; omega
      · by_cases hz : t.val = 0
        · exfalso; have hN : t.val < 64 := lt_of_lt_of_eq t.isLt (show cfg0.N = 64 from N_0); omega
        · rw [PhiS_castSucc m c t, PhiS_pos m c _ _ hz]
          rw [outsAt0_C m c t h0 h1 h2]
          unfold out0_C_11 sout0_C_0; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, ⟨%e11, H11⟩, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          unfold owns; iexists _; isplitr
          swap; · iexact H11
          ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _)
    · by_cases h2 : 1 ≤ t.val % 32
      · by_cases hz : t.val = 0
        · exfalso; have hN : t.val < 64 := lt_of_lt_of_eq t.isLt (show cfg0.N = 64 from N_0); omega
        · rw [PhiS_castSucc m c t, PhiS_pos m c _ _ hz]
          rw [outsAt0_B m c t h0 h1 h2]
          unfold out0_B_11 sout0_B_0; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, ⟨%e11, H11⟩, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Gen

end
-- ==== Proof.KI.Value.lean ====
/- What the launch leaves in the result, block by block: the generated module `Gen/KernelIdeal/Value.lean`, over this
   directory's frame. -/
module

public import proofs.«01_k».proof.Proof.KI.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 11's array: the run's contents for that window after the body (`Gen.outsAt0`: its component 0), read through the window's block. -/
theorem flushed11 (c : Dev nD) (t : Fin cfg0.N) :
    (dats m 0 c).flushed 11 t = (cfg0.win 11).cut (grid0.coords t) ((outsAt0 m c t.val t.isLt).1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 64 = 0) (h1 : t.val % 32 = 0) (h2 : ¬1 ≤ t.val % 32) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed11, outsAt0_A m c t h0 h1 h2]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 64 = 0) (h1 : ¬t.val % 32 = 0) (h2 : 1 ≤ t.val % 32) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2) := by
  simp only [flushed11, outsAt0_B m c t h0 h1 h2]

/-- … so at a point where case C runs, what its write-back would write is that case's NAMED TERM for the window (`Gen.out0_C_11`: the pieces
    its run found, read back) at the point's memrefs and input blocks, and for an output the case reads back what the point before left (`Gen.outsAt0` at `t - 1`) — by the frame's rewriting lemma for the case. -/
theorem flushed11_C (c : Dev nD) (t : Fin cfg0.N) (h0 : ¬t.val % 64 = 0) (h1 : t.val % 32 = 0) (h2 : ¬1 ≤ t.val % 32) :
    (dats m 0 c).flushed 11 t = (cfg0.win 11).cut (grid0.coords t) (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2) := by
  simp only [flushed11, outsAt0_C m c t h0 h1 h2]

/-- The index map sends distinct grid points to distinct block indices (decided over the 64 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S2x16384x1024.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v20) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 3 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 7 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 7).trans (((dats m 0 c).arrAt_in 7 rfl _).trans ((A_eq m c 7).trans (V_main_arg5 m c)))

/-- After the frame run, argument `main_arg6` is as launched: input window 8 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 8).trans (((dats m 0 c).arrAt_in 8 rfl _).trans ((A_eq m c 8).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v20) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post11 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S8x512x768 .f32) : Vec F S8x512x768 .f32 :=
  if h0 : n % 64 = 0 then
    if h1 : n % 32 = 0 then
      if h2 : 1 ≤ n % 32 then
        acc
      else
        sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N))
    else
      acc
  else
    if h1 : n % 32 = 0 then
      if h2 : 1 ≤ n % 32 then
        acc
      else
        sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc
    else
      if h2 : 1 ≤ n % 32 then
        sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc
      else
        acc

/-- WHAT CARRIED SCRATCH 0 HOLDS after point `t`: the fold of its run up to `t`, from the reset at the run's first point
    `64·(t / 64)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (64 * (t.val / 64)) (t.val % 64)
      (by have h1 := t.isLt; have h2 := Nat.div_add_mod t.val 64; omega) :=
  Pipeline.eq_accAt_of_mod (fun n h => (outsAt0 m c n h).2) 64 (fun n h => scAt0_0 m c n h (VS0_0.read (Elt F) VS0_0.junk)) (scAt0_0 m c)
    (fun n h hn => by
      have hN := lt_of_lt_of_eq h (show cfg0.N = 64 from N_0)
      by_cases h0 : n % 64 = 0 <;> by_cases h1 : n % 32 = 0 <;> by_cases h2 : 1 ≤ n % 32
      all_goals first | (exfalso; omega) | (rw [outsAt0_A m c ⟨n, h⟩ h0 h1 h2]; dsimp only; unfold scAt0_0; rw [dif_pos h0, dif_pos h1, dif_neg h2] <;> try rfl) | (rw [outsAt0_B m c ⟨n, h⟩ h0 h1 h2]; dsimp only; unfold scAt0_0; rw [dif_neg h0, dif_neg h1, dif_pos h2] <;> try rfl) | (rw [outsAt0_C m c ⟨n, h⟩ h0 h1 h2]; dsimp only; unfold scAt0_0; rw [dif_neg h0, dif_pos h1, dif_neg h2] <;> try rfl))
    (fun n h hn => by
      have hN := lt_of_lt_of_eq h (show cfg0.N = 64 from N_0)
      by_cases h0 : (n + 1) % 64 = 0 <;> by_cases h1 : (n + 1) % 32 = 0 <;> by_cases h2 : 1 ≤ (n + 1) % 32
      all_goals first | (exfalso; omega) | (rw [outsAt0_A m c ⟨n + 1, h⟩ h0 h1 h2]; dsimp only; unfold scAt0_0; rw [dif_pos h0, dif_pos h1, dif_neg h2] <;> try rfl) | (rw [outsAt0_B m c ⟨n + 1, h⟩ h0 h1 h2]; dsimp only; unfold scAt0_0; rw [dif_neg h0, dif_neg h1, dif_pos h2] <;> try rfl) | (rw [outsAt0_C m c ⟨n + 1, h⟩ h0 h1 h2]; dsimp only; unfold scAt0_0; rw [dif_neg h0, dif_pos h1, dif_neg h2] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 64 from N_0)
  have hd : n / 64 = 0 := Nat.div_eq_of_lt hN
  have hm : n % 64 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x512x1024 .f32 × Vec F S8x512x768 .f32 :=
  ((VO0_11.read (Elt F) VO0_11.junk, VS0_0.read (Elt F) VS0_0.junk) : Vec F S1x512x1024 .f32 × Vec F S8x512x768 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x512x1024 .f32 × Vec F S8x512x768 .f32) : Vec F S1x512x1024 .f32 × Vec F S8x512x768 .f32 :=
  if h0 : n % 64 = 0 then
    if h1 : n % 32 = 0 then
      if h2 : 1 ≤ n % 32 then
        False.elim (by have hN : n < 64 := lt_of_lt_of_eq hb (show cfg0.N = 64 from N_0); omega)
      else
        (out0_A_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)))
    else
      False.elim (by have hN : n < 64 := lt_of_lt_of_eq hb (show cfg0.N = 64 from N_0); omega)
  else
    if h1 : n % 32 = 0 then
      if h2 : 1 ≤ n % 32 then
        False.elim (by have hN : n < 64 := lt_of_lt_of_eq hb (show cfg0.N = 64 from N_0); omega)
      else
        (out0_C_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2)
    else
      if h2 : 1 ≤ n % 32 then
        (out0_B_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2)
      else
        False.elim (by have hN : n < 64 := lt_of_lt_of_eq hb (show cfg0.N = 64 from N_0); omega)

/-- `stAt0` at a point of case A: that case's contents. -/
theorem stAt0_A (c : Dev nD) (t : Fin cfg0.N) (acc : Vec F S1x512x1024 .f32 × Vec F S8x512x768 .f32) (h0 : t.val % 64 = 0) (h1 : t.val % 32 = 0) (h2 : ¬1 ≤ t.val % 32) :
    stAt0 m c t.val t.isLt acc = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) :=
  (dif_pos h0).trans ((dif_pos h1).trans ((dif_neg h2).trans rfl))

/-- `stAt0` at a point of case B: that case's contents, over `acc`. -/
theorem stAt0_B (c : Dev nD) (t : Fin cfg0.N) (acc : Vec F S1x512x1024 .f32 × Vec F S8x512x768 .f32) (h0 : ¬t.val % 64 = 0) (h1 : ¬t.val % 32 = 0) (h2 : 1 ≤ t.val % 32) :
    stAt0 m c t.val t.isLt acc = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2) :=
  (dif_neg h0).trans ((dif_neg h1).trans ((dif_pos h2).trans rfl))

/-- `stAt0` at a point of case C: that case's contents, over `acc`. -/
theorem stAt0_C (c : Dev nD) (t : Fin cfg0.N) (acc : Vec F S1x512x1024 .f32 × Vec F S8x512x768 .f32) (h0 : ¬t.val % 64 = 0) (h1 : t.val % 32 = 0) (h2 : ¬1 ≤ t.val % 32) :
    stAt0 m c t.val t.isLt acc = (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2) :=
  (dif_neg h0).trans ((dif_pos h1).trans ((dif_neg h2).trans rfl))

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 11 -/

/-- The block of the array that holds index `i`, numbered in the order the points write the blocks back (one per point),
    `i`'s place in it, and the point that writes it back. -/
abbrev run11Of (i : S2x16384x1024.Idx) : ℕ := 32 * ((i 0).val / 1 - 0) + 1 * ((i 1).val / 512 - 0) + 1 * ((i 2).val / 1024 - 0)
set_option backward.proofsInPublic true in
abbrev loc11Of (i : S2x16384x1024.Idx) : S1x512x1024.Idx := fun a => match a with
  | ⟨0, _⟩ => ⟨(i 0).val % 1, Nat.mod_lt _ (by decide)⟩
  | ⟨1, _⟩ => ⟨(i 1).val % 512, Nat.mod_lt _ (by decide)⟩
  | ⟨2, _⟩ => ⟨(i 2).val % 1024, Nat.mod_lt _ (by decide)⟩
abbrev pt11Of (i : S2x16384x1024.Idx) : ℕ := run11Of i

/-- WHAT THE ARRAY ENDS HOLDING at index `i` inside the box the flushing blocks fill: output 11's component of the carried
    state's fold at the point that writes `i`'s block back, at `i`'s place in the block. `G11` states the array's contents
    only inside the box. -/
def G11 (c : Dev nD) : Buf (Elt F) ((c : Thread nD τ).loc main_v20) := fun i =>
  if h : pt11Of i < cfg0.N then
    (Pipeline.accAt (fun n h => stAt0 m c n h junk0) (stAt0 m c) 0 (pt11Of i) (by omega)).1 (loc11Of i)
  else V m c (Pipeline.arrRef spec0 11) i

/-- The printed index map, decided over the grid: output window 11's block indices stay in the box, and the block number
    read off them is the point's (`t`). -/
theorem idx_facts11 : ∀ t : Fin cfg0.N, 0 ≤ win0_11.index t (0 : Fin 3) ∧ win0_11.index t (0 : Fin 3) ≤ 1
    ∧ 0 ≤ win0_11.index t (1 : Fin 3) ∧ win0_11.index t (1 : Fin 3) ≤ 31
    ∧ 0 ≤ win0_11.index t (2 : Fin 3) ∧ win0_11.index t (2 : Fin 3) ≤ 0
    ∧ 32 * (win0_11.index t (0 : Fin 3) - 0) + 1 * (win0_11.index t (1 : Fin 3) - 0) + 1 * (win0_11.index t (2 : Fin 3) - 0) = t.val :=
  (by decide +kernel : ∀ t : Fin grid0.N, _)

/-- Every block of the box is SOME flushing point's: `onto11Pt`, the point that writes back the block at place `q` of the box. -/
abbrev onto11Pt (q0 : Fin 2) (q1 : Fin 32) (q2 : Fin 1) : Fin grid0.N :=
  ⟨32 * q0.val + 1 * q1.val + 1 * q2.val, lt_of_lt_of_eq (by omega) N_0.symm⟩
theorem idx_onto11 : ∀ (q0 : Fin 2) (q1 : Fin 32) (q2 : Fin 1), ∃ t : Fin cfg0.N, (cfg0.win 11).flush t = true ∧ win0_11.index t = ![q0.val + 0, q1.val + 0, q2.val + 0] :=
  fun q0 q1 q2 => ⟨onto11Pt q0 q1 q2, (by decide +kernel : ∀ (q0 : Fin 2) (q1 : Fin 32) (q2 : Fin 1), win0_11.flush (onto11Pt q0 q1 q2) = true ∧ win0_11.index (onto11Pt q0 q1 q2) = ![q0.val + 0, q1.val + 0, q2.val + 0]) q0 q1 q2⟩

/-- WHAT A FLUSHING POINT `t` WRITES BACK is block `t` of `G11`: output 11's component of the fold up to `t`. -/
theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11, outsAt0_sweep]
  obtain ⟨e0, e1, e2, e3⟩ := idx_facts11 t
  funext y
  have hy0 : (y 0).val < 1 := (y 0).isLt
  have hy1 : (y 1).val < 512 := (y 1).isLt
  have hy2 : (y 2).val < 1024 := (y 2).isLt
  have hb0 : (((cfg0.win 11).blk t).view.emb y 0).val = win0_11.index t (0 : Fin 3) * 1 + 1 * (y 0).val := rfl
  have hb1 : (((cfg0.win 11).blk t).view.emb y 1).val = win0_11.index t (1 : Fin 3) * 512 + 1 * (y 1).val := rfl
  have hb2 : (((cfg0.win 11).blk t).view.emb y 2).val = win0_11.index t (2 : Fin 3) * 1024 + 1 * (y 2).val := rfl
  have hr : run11Of (((cfg0.win 11).blk t).view.emb y) = t.val := by
    show 32 * ((((cfg0.win 11).blk t).view.emb y 0).val / 1 - 0) + 1 * ((((cfg0.win 11).blk t).view.emb y 1).val / 512 - 0) + 1 * ((((cfg0.win 11).blk t).view.emb y 2).val / 1024 - 0) = _
    rw [hb0, hb1, hb2]
    rw [show (win0_11.index t (0 : Fin 3) * 1 + 1 * (y 0).val) / 1 = win0_11.index t (0 : Fin 3) from by omega]; rw [show (win0_11.index t (1 : Fin 3) * 512 + 1 * (y 1).val) / 512 = win0_11.index t (1 : Fin 3) from by omega]; rw [show (win0_11.index t (2 : Fin 3) * 1024 + 1 * (y 2).val) / 1024 = win0_11.index t (2 : Fin 3) from by omega]
    omega
  have hl : loc11Of (((cfg0.win 11).blk t).view.emb y) = (cfg0.win 11).xinj (grid0.coords t) y := by
    funext a; apply Fin.ext
    match a with
    | ⟨0, _⟩ => show (((cfg0.win 11).blk t).view.emb y 0).val % 1 = (y 0).val; rw [hb0]; omega
    | ⟨1, _⟩ => show (((cfg0.win 11).blk t).view.emb y 1).val % 512 = (y 1).val; rw [hb1]; omega
    | ⟨2, _⟩ => show (((cfg0.win 11).blk t).view.emb y 2).val % 1024 = (y 2).val; rw [hb2]; omega
  have hp : pt11Of (((cfg0.win 11).blk t).view.emb y) = t.val := by
    exact hr
  show (Pipeline.accAt (fun n h => stAt0 m c n h junk0) (stAt0 m c) 0 t.val _).1 ((cfg0.win 11).xinj (grid0.coords t) y) = G11 m c (((cfg0.win 11).blk t).view.emb y)
  unfold G11
  rw [dif_pos (by rw [hp]; exact t.isLt), hl, fold0_congr m c _ _ _ _ hp.symm]

/-- An index of the array is in point `t`'s block iff each coordinate is in the block's range on its axis. -/
theorem mem_blk11 (t : Fin cfg0.N) (i : S2x16384x1024.Idx) :
    i ∈ ((cfg0.win 11).blk t).view.set ↔ ∀ a : Fin 3, win0_11.index t a * S1x512x1024.size a ≤ (i a).val ∧ (i a).val < win0_11.index t a * S1x512x1024.size a + S1x512x1024.size a := by
  show i ∈ ((View.whole main_v20).slice (win0_11.rect t)).set ↔ _
  rw [View.set_slice_whole, Rect.mem_set_unit]
  exact Iff.rfl

/-- THE COVERED INDICES: in some flushing point's block iff inside the box those blocks fill. -/
theorem covered_iff11 (i : S2x16384x1024.Idx) :
    (∃ t : Fin cfg0.N, (cfg0.win 11).flush t = true ∧ i ∈ ((cfg0.win 11).blk t).view.set) ↔ 0 ≤ (i 0).val ∧ (i 0).val < 2 ∧ 0 ≤ (i 1).val ∧ (i 1).val < 16384 ∧ 0 ≤ (i 2).val ∧ (i 2).val < 1024 := by
  constructor
  · rintro ⟨t, -, hi⟩
    rw [mem_blk11] at hi
    have b0 : win0_11.index t (0 : Fin 3) * 1 ≤ (i 0).val ∧ (i 0).val < win0_11.index t (0 : Fin 3) * 1 + 1 := hi 0
    have b1 : win0_11.index t (1 : Fin 3) * 512 ≤ (i 1).val ∧ (i 1).val < win0_11.index t (1 : Fin 3) * 512 + 512 := hi 1
    have b2 : win0_11.index t (2 : Fin 3) * 1024 ≤ (i 2).val ∧ (i 2).val < win0_11.index t (2 : Fin 3) * 1024 + 1024 := hi 2
    obtain ⟨e0, e1, e2, e3⟩ := idx_facts11 t
    omega
  · intro h
    have hi0 : (i 0).val < 2 := (i 0).isLt
    have hi1 : (i 1).val < 16384 := (i 1).isLt
    have hi2 : (i 2).val < 1024 := (i 2).isLt
    obtain ⟨t, hft, ht⟩ := idx_onto11 ⟨(i 0).val / 1 - 0, by omega⟩ ⟨(i 1).val / 512 - 0, by omega⟩ ⟨(i 2).val / 1024 - 0, by omega⟩
    have q0 : win0_11.index t (0 : Fin 3) = (i 0).val / 1 - 0 + 0 := congrFun ht 0
    have q1 : win0_11.index t (1 : Fin 3) = (i 1).val / 512 - 0 + 0 := congrFun ht 1
    have q2 : win0_11.index t (2 : Fin 3) = (i 2).val / 1024 - 0 + 0 := congrFun ht 2
    refine ⟨t, hft, ?_⟩
    rw [mem_blk11]
    intro a
    match a with
    | ⟨0, _⟩ => show win0_11.index t (0 : Fin 3) * 1 ≤ (i 0).val ∧ (i 0).val < win0_11.index t (0 : Fin 3) * 1 + 1; omega
    | ⟨1, _⟩ => show win0_11.index t (1 : Fin 3) * 512 ≤ (i 1).val ∧ (i 1).val < win0_11.index t (1 : Fin 3) * 512 + 512; omega
    | ⟨2, _⟩ => show win0_11.index t (2 : Fin 3) * 1024 ≤ (i 2).val ∧ (i 2).val < win0_11.index t (2 : Fin 3) * 1024 + 1024; omega

/-- THE ARRAY after the run: `G11` (the flushing blocks tile it). -/
theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 2 := (i 0).isLt; have h1 : (i 1).val < 16384 := (i 1).isLt; have h2 : (i 2).val < 1024 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v20) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(post11 m r h c).trans (final11 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.KernelIdeal.Value

end
-- ==== Proof.Softmax.lean ====
module

public import Idealize.ShloMosaic.PureOps.Ideal
public import Mathlib.Algebra.BigOperators.Fin
public import Mathlib.Algebra.Order.BigOperators.Group.Finset
public import Mathlib.Data.EReal.Operations
public import Mathlib.Data.EReal.Inv

/-! The scalar mathematics of one attention row over the extended reals: a softmax over a window whose scores outside
a band are minus infinity is the softmax over the band, and dividing the weighted sum by the normaliser is the sum with
divided weights. -/

@[expose] public section

noncomputable section

namespace Cert.Attn

open Idealize.ShloMosaic

/-- A product with a nonnegative real distributes over a finite sum of extended reals, the real on the right. -/
theorem sum_mul_real {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- `exp` of an extended real is never negative. -/
theorem exp_nonneg (x : EReal) : 0 ≤ Ideal.exp x := by
  induction x with
  | bot => simp
  | top => simp
  | coe r => simpa using (Real.exp_pos r).le

/-- The embedding of the reals commutes with finite sums. -/
theorem coe_sum {ι : Type*} (s : Finset ι) (r : ι → ℝ) : ∑ i ∈ s, (r i : EReal) = ((∑ i ∈ s, r i : ℝ) : EReal) := by
  classical
  induction s using Finset.induction_on with
  | empty => simp
  | insert a s ha ih => rw [Finset.sum_insert ha, Finset.sum_insert ha, ih, EReal.coe_add]

/-- An extended real that is a real number or minus infinity, as a score is. -/
def Score (x : EReal) : Prop := x = ⊥ ∨ ∃ r : ℝ, x = (r : EReal)

/-- Dividing by a positive real is multiplying by its reciprocal. -/
theorem div_pos_real (x : EReal) (l : ℝ) (hl : 0 < l) : Ideal.div x (l : EReal) = x * ((1 / l : ℝ) : EReal) :=
  Ideal.div_coe hl.ne' x

/-- A finite sum of values that are real numbers, each at least 0, is a real number at least any one of them. -/
theorem sum_exp_real {ι : Type*} [Fintype ι] (e : ι → EReal) (he : ∀ i, ∃ r : ℝ, 0 ≤ r ∧ e i = (r : EReal)) (k : ι)
    (hk : e k = 1) : ∃ l : ℝ, 0 < l ∧ ∑ i, e i = (l : EReal) := by
  classical
  choose r hr0 hr using he
  refine ⟨∑ i, r i, ?_, ?_⟩
  · have h1 : r k = 1 := by
      have := hr k
      rw [hk] at this
      exact_mod_cast this.symm
    have := Finset.single_le_sum (f := r) (fun i _ => hr0 i) (Finset.mem_univ k)
    linarith
  · rw [Finset.sum_congr rfl fun i _ => hr i, coe_sum]

/-- The greatest of finitely many scores, one of them real, is a real number that one of them attains and none exceeds. -/
theorem sup_scores {ι : Type*} [Fintype ι] (s : ι → EReal) (hs : ∀ i, Score (s i)) (k : ι) (hk : s k ≠ ⊥) :
    ∃ (M : ℝ) (j : ι), Finset.univ.sup s = (M : EReal) ∧ s j = (M : EReal) ∧ ∀ i, s i ≤ (M : EReal) := by
  obtain ⟨j, -, hj⟩ := Finset.exists_mem_eq_sup (Finset.univ : Finset ι) ⟨k, Finset.mem_univ k⟩ s
  have hle : ∀ i, s i ≤ Finset.univ.sup s := fun i => Finset.le_sup (Finset.mem_univ i)
  rcases hs j with hb | ⟨M, hM⟩
  · exact absurd (le_bot_iff.1 (by rw [← hb, ← hj]; exact hle k)) hk
  · refine ⟨M, j, hj.trans hM, hM, fun i => ?_⟩
    rw [← hM, ← hj]; exact hle i

/-- A score less a real is a score, its exponential a nonnegative real. -/
theorem exp_sub_real (x : EReal) (hx : Score x) (M : ℝ) : ∃ r : ℝ, 0 ≤ r ∧ Ideal.exp (x - (M : EReal)) = (r : EReal) := by
  rcases hx with rfl | ⟨y, rfl⟩
  · exact ⟨0, le_rfl, by simp⟩
  · refine ⟨Real.exp (y - M), (Real.exp_pos _).le, ?_⟩
    rw [← EReal.coe_sub]; rfl

/-- A sum over a window of values that vanish off a band is the sum over the band. -/
theorem sum_band {ι κ : Type*} [Fintype ι] [Fintype κ] (σ : κ → ι) (hσ : Function.Injective σ) (f : ι → EReal)
    (h0 : ∀ j, (∀ k, σ k ≠ j) → f j = 0) : ∑ j, f j = ∑ k, f (σ k) := by
  classical
  have hm := Finset.sum_map (Finset.univ : Finset κ) ⟨σ, hσ⟩ f
  simp only [Function.Embedding.coeFn_mk] at hm
  rw [← hm]
  symm
  refine Finset.sum_subset (Finset.subset_univ _) fun j _ hj => h0 j fun k hk => hj ?_
  exact Finset.mem_map.2 ⟨k, Finset.mem_univ k, hk⟩

/-- The greatest over a window of scores that are minus infinity off a band is the greatest over the band. -/
theorem sup_band {ι κ : Type*} [Fintype ι] [Fintype κ] (σ : κ → ι) (s : ι → EReal)
    (h0 : ∀ j, (∀ k, σ k ≠ j) → s j = ⊥) : Finset.univ.sup s = Finset.univ.sup fun k => s (σ k) := by
  apply le_antisymm
  · refine Finset.sup_le fun j _ => ?_
    by_cases h : ∃ k, σ k = j
    · obtain ⟨k, rfl⟩ := h
      exact Finset.le_sup (f := fun k => s (σ k)) (Finset.mem_univ k)
    · rw [h0 j fun k hk => h ⟨k, hk⟩]; exact bot_le
  · exact Finset.sup_le fun k _ => Finset.le_sup (f := s) (Finset.mem_univ (σ k))

/-- One row of attention: the unnormalised weighted sum over the window times the reciprocal of the normaliser is the
    sum over the band with the weights divided by the band's normaliser. -/
theorem row_eq {ι κ : Type*} [Fintype ι] [Fintype κ] (σ : κ → ι) (hσ : Function.Injective σ) (s v : ι → EReal)
    (hs : ∀ k, Score (s (σ k))) (h0 : ∀ j, (∀ k, σ k ≠ j) → s j = ⊥) (k : κ) (hk : s (σ k) ≠ ⊥) :
    (∑ j, Ideal.exp (s j - Finset.univ.sup s) * v j) * Ideal.div 1 (∑ j, Ideal.exp (s j - Finset.univ.sup s)) =
      ∑ i, Ideal.div (Ideal.exp (s (σ i) - Finset.univ.sup fun k => s (σ k)))
        (∑ i, Ideal.exp (s (σ i) - Finset.univ.sup fun k => s (σ k))) * v (σ i) := by
  rw [sup_band σ s h0]
  obtain ⟨M, j, hM, hj, -⟩ := sup_scores (fun k => s (σ k)) hs k hk
  rw [hM]
  have hz : ∀ j, (∀ k, σ k ≠ j) → Ideal.exp (s j - (M : EReal)) = 0 := fun j h => by rw [h0 j h]; simp
  rw [sum_band σ hσ _ fun j h => by rw [hz j h, zero_mul], sum_band σ hσ _ hz]
  obtain ⟨l, hl, hsum⟩ := sum_exp_real (fun i => Ideal.exp (s (σ i) - (M : EReal)))
    (fun i => exp_sub_real _ (hs i) M) j (by
      show Ideal.exp (s (σ j) - (M : EReal)) = 1
      rw [show s (σ j) = (M : EReal) from hj, ← EReal.coe_sub, sub_self, EReal.coe_zero, ← EReal.coe_zero, Ideal.exp_coe]; simp)
  rw [hsum, div_pos_real _ l hl, one_mul, sum_mul_real _ _ _ (by positivity)]
  refine Finset.sum_congr rfl fun i _ => ?_
  rw [div_pos_real _ l hl, mul_assoc, mul_assoc, mul_comm (v (σ i))]

/-- The bits of minus infinity. -/
theorem ofBits_bot : Ideal.ofBits .f32 0xFF800000#32 = ⊥ := by
  simp [Ideal.ofBits, Ideal.ieee]

/-- A fold of the maximum from minus infinity is the supremum. -/
theorem fold_sup {ι : Type} [Fintype ι] (f : ι → EReal) :
    Finset.fold max (Ideal.ofBits .f32 0xFF800000#32) f Finset.univ = Finset.univ.sup f := by
  rw [ofBits_bot]
  rfl

end Cert.Attn

end
-- ==== Proof.RefBand.lean ====
/-
  The reference's operations read at an index: its band of keys and values, its table of biases, its scores.
-/
module

public import proofs.«01_k».proof.Proof.Gen.ReferenceIdeal.Read
public import Idealize.ShloMosaic.Lib.Pointwise
public import proofs.«01_k».proof.Proof.Softmax

@[expose] public section

set_option maxRecDepth 16384

noncomputable section

namespace Cert.Attn

open Idealize.ShloMosaic Cert.ReferenceIdeal Cert.ReferenceIdeal.Read
open Cert.ReferenceIdeal.Facts

/-- The start index the band's gather reads for a result index is its chunk's row of the start indices. -/
theorem band_start (c : Fin 256) (b : Fin 2) (j : Fin 576) (n : Fin 16) (e : Fin 64) (a : Fin 4) :
    GatherDims.siIdx gather_S2x16896x16x64_S256x4_S256x2x576x16x64_1234_n_n_n_0123_1_25761664 (ix5 c b j n e) a
      = ix2 c a := by
  funext k
  refine Fin.ext ?_
  match k with
  | ⟨0, _⟩ => rfl
  | ⟨1, _⟩ => rfl

/-- The band's gather at an index: the operand's axes from the start index's components, clamped, and the result's
    own coordinates. -/
theorem band_gather {α : Type} (x : S2x16896x16x64.Idx → α) (idx : IVec S256x4 32) (c : Fin 256) (b : Fin 2) (j : Fin 576)
    (n : Fin 16) (e : Fin 64) (p : Fin 16896)
    (h : min (idx (ix2 c 1)).toInt.toNat 16320 + j.val = p.val) :
    Host.gather gather_S2x16896x16x64_S256x4_S256x2x576x16x64_1234_n_n_n_0123_1_25761664 x idx (ix5 c b j n e)
      = x (ix4 b p n e) := by
  unfold Host.gather
  congr 1
  funext a
  refine Fin.ext ?_
  match a with
  | ⟨0, _⟩ =>
    show min _ 0 + 0 + b.val = _
    simp
  | ⟨1, _⟩ =>
    rw [← band_start c b j n e 1] at h
    exact h
  | ⟨2, _⟩ =>
    show min _ 0 + 0 + n.val = _
    simp
  | ⟨3, _⟩ =>
    show min _ 0 + 0 + e.val = _
    simp

/-- The table's gather at an index: the operand's row, at the column the start index names, clamped. -/
theorem table_gather {α : Type} (x : S16x257.Idx → α) (idx : IVec S64x576x1 32) (n : Fin 16) (r : Fin 64) (j : Fin 576)
    (p : Fin 257) (h : min (idx (ix3 r j 0)).toInt.toNat 256 = p.val) :
    Host.gather gather_S16x257_S64x576x1_S16x64x576_0_1_n_n_1_2_161 x idx (ix3 n r j) = x (ix2 n p) := by
  have hs : GatherDims.siIdx gather_S16x257_S64x576x1_S16x64x576_0_1_n_n_1_2_161 (ix3 n r j) ⟨0, Nat.one_pos⟩ = ix3 r j 0 := by
    funext k
    refine Fin.ext ?_
    match k with
    | ⟨0, _⟩ => rfl
    | ⟨1, _⟩ => rfl
    | ⟨2, _⟩ => rfl
  unfold Host.gather
  congr 1
  funext a
  refine Fin.ext ?_
  match a with
  | ⟨0, _⟩ =>
    show 0 + 0 + n.val = _
    simp
  | ⟨1, _⟩ =>
    rw [← hs] at h
    exact h

/-- The word zero, as a number. -/
theorem sitofp_zero : FloatOps.sitofp (F := Ideal) FTy.f32 (0#32) = 0 := by
  show (((0#32 : BitVec 32).toInt : ℝ) : EReal) = 0
  simp

/-- A chunk's start, clamped, is its first position. -/
theorem start_word (c : Fin 256) :
    min (BitVec.toInt (Scalar.select
      (IntOp.cmpi CmpIPredicate.slt (IntOp.muli (BitVec.ofNat 32 c.val) 64#32) 0#32)
      (IntOp.addi (IntOp.muli (BitVec.ofNat 32 c.val) 64#32) 16896#32)
      (IntOp.muli (BitVec.ofNat 32 c.val) 64#32))).toNat 16320 = 64 * c.val := by
  revert c; decide +kernel

/-- The first key that the reference slices for a chunk. -/
theorem start_keys (c : Fin 256) : min (val_main_v55 (F := Ideal) (ix2 c 1)).toInt.toNat 16320 = 64 * c.val := by
  rw [← start_word c]
  pointwise [val_main_v55, val_main_v52, val_main_v50, val_main_v49, val_main_v48, val_main_v47, val_main_v46,
    val_main_v45, val_main_v44, val_main_v43, val_main_c_8, val_main_c_9, val_main_c_10]

/-- The first value that the reference slices for a chunk. -/
theorem start_values (c : Fin 256) : min (val_main_v66 (F := Ideal) (ix2 c 1)).toInt.toNat 16320 = 64 * c.val := by
  rw [← start_word c]
  pointwise [val_main_v66, val_main_v63, val_main_v61, val_main_v60, val_main_v59, val_main_v58, val_main_v57,
    val_main_v45, val_main_v44, val_main_v43, val_main_c_8, val_main_c_14, val_main_c_15]

/-- A head's lane among the 1024. -/
abbrev lane (n : Fin 16) (e : Fin 64) : Fin 1024 := ⟨n.val * 64 + e.val, by omega⟩

/-- The row of the padded sequence at place `j` of chunk `c`'s band, of an array of 1024 lanes: zero before the
    sequence's first position. -/
def bandRow (x : S2x16384x1024.Idx → EReal) (c : Fin 256) (b : Fin 2) (j : Fin 576) (d : Fin 1024) : EReal :=
  if h : 512 ≤ 64 * c.val + j.val then x (ix3 b ⟨64 * c.val + j.val - 512, by omega⟩ d) else 0

/-- The keys of a chunk's band: the padded array's, 512 rows back. -/
theorem keys_apply (x2 : (⟨S2x16384x1024, .bf16⟩ : BufTy).Contents (Elt Ideal)) (c : Fin 256) (b : Fin 2) (j : Fin 576)
    (n : Fin 16) (e : Fin 64) : val_main_v56 (F := Ideal) x2 (ix5 c b j n e) = bandRow x2 c b j (lane n e) := by
  unfold val_main_v56
  rw [band_gather _ _ c b j n e ⟨64 * c.val + j.val, by omega⟩ (by rw [start_keys])]
  unfold bandRow
  pointwise [val_main_v17, val_main_v14, val_main_v13, val_main_call0_v0, val_main_c]
  have h2 : 64 * c.val + j.val - 512 < 16384 := by omega
  simp only [h2, and_true]
  split <;> [rfl; exact sitofp_zero]

/-- The values of a chunk's band: the padded array's, 512 rows back. -/
theorem values_apply (x3 : (⟨S2x16384x1024, .bf16⟩ : BufTy).Contents (Elt Ideal)) (c : Fin 256) (b : Fin 2) (j : Fin 576)
    (n : Fin 16) (e : Fin 64) : val_main_v67 (F := Ideal) x3 (ix5 c b j n e) = bandRow x3 c b j (lane n e) := by
  unfold val_main_v67
  rw [band_gather _ _ c b j n e ⟨64 * c.val + j.val, by omega⟩ (by rw [start_values])]
  unfold bandRow
  pointwise [val_main_v18, val_main_v16, val_main_v15, val_main_call1_v0, val_main_c_0]
  have h2 : 64 * c.val + j.val - 512 < 16384 := by omega
  simp only [h2, and_true]
  split <;> [rfl; exact sitofp_zero]

/-- The entry of the table of biases for a query `r` and a place `j` of its band: the distance, clipped. -/
def relIdx (r : Fin 64) (j : Fin 576) : Fin 257 :=
  ⟨min (640 + r.val - j.val) 256, by omega⟩

/-- The word of a distance, clipped to the table's columns. -/
def clipped (w : BitVec 32) : Nat :=
  min (BitVec.toInt (Scalar.select
    (IntOp.cmpi CmpIPredicate.slt (IntOp.addi (IntOp.minsi 128#32 (IntOp.maxsi 4294967168#32 w)) 128#32) 0#32)
    (IntOp.addi (IntOp.addi (IntOp.minsi 128#32 (IntOp.maxsi 4294967168#32 w)) 128#32) 257#32)
    (IntOp.addi (IntOp.minsi 128#32 (IntOp.maxsi 4294967168#32 w)) 128#32))).toNat 256

/-- A clipped distance, from the distance counted from one end. -/
theorem clipped_sub : ∀ u : Fin 704, clipped (BitVec.ofNat 32 u.val - 128#32) = min u.val 256 := by
  decide +kernel

/-- The column of a query's distance to a place of its band. -/
theorem clipped_distance (r : Fin 64) (j : Fin 576) :
    clipped (IntOp.subi (IntOp.addi (512#32) (BitVec.ofNat 32 r.val)) (BitVec.ofNat 32 j.val)) = (relIdx r j).val := by
  refine Eq.trans (congrArg clipped ?_) (clipped_sub ⟨640 + r.val - j.val, by omega⟩)
  show 512#32 + BitVec.ofNat 32 r.val - BitVec.ofNat 32 j.val = BitVec.ofNat 32 (640 + r.val - j.val) - 128#32
  have : 640 + r.val - j.val + j.val = 640 + r.val := by omega
  apply BitVec.eq_of_toNat_eq
  simp only [BitVec.toNat_sub, BitVec.toNat_add, BitVec.toNat_ofNat]
  omega

/-- The reference's bias: the table at the distance, clipped to 128 either way. -/
theorem bias_apply (x4 : (⟨S16x257, .f32⟩ : BufTy).Contents (Elt Ideal)) (n : Fin 16) (r : Fin 64) (j : Fin 576) :
    val_main_v39 (F := Ideal) x4 (ix3 n r j) = x4 (ix2 n (relIdx r j)) := by
  unfold val_main_v39
  refine table_gather _ _ n r j _ ?_
  pointwise [val_main_v38, val_main_v37, val_main_v36, val_main_v35, val_main_v34, val_main_v33, val_main_v32,
    val_main_v31, val_main_v30, val_main_v29, val_main_v28, val_main_v27, val_main_v26, val_main_v25, val_main_v24,
    val_main_v23, val_main_v22, val_main_v21, val_main_c_1, val_main_c_2, val_main_c_3, val_main_c_4, val_main_c_5,
    val_main_c_6, val_main_call2_v0, val_main_call2_v1, val_main_call2_v2, val_main_call2_v3, val_main_call2_v4]
  exact clipped_distance r j

/-- The query of position `t` at a lane: the modulated input applied to the weights. -/
def query (x0 : S2x16384x1024.Idx → EReal) (x1 : S16x6x1024.Idx → EReal) (x5 : S1024x1024.Idx → EReal)
    (b : Fin 2) (t : Fin 16384) (e : Fin 1024) : EReal :=
  ∑ d : Fin 1024, (x0 (ix3 b t d) * (1 + x1 (ix3 ⟨8 + b.val, by omega⟩ 1 d)) + x1 (ix3 ⟨8 + b.val, by omega⟩ 0 d)) * x5 (ix2 d e)

/-- The reference's queries: the modulated rows times the query weights. -/
theorem queries_apply (x0 : (⟨S2x16384x1024, .f32⟩ : BufTy).Contents (Elt Ideal))
    (x1 : (⟨S16x6x1024, .f32⟩ : BufTy).Contents (Elt Ideal)) (x5 : (⟨S1024x1024, .bf16⟩ : BufTy).Contents (Elt Ideal))
    (c : Fin 256) (b : Fin 2) (r : Fin 64) (n : Fin 16) (e : Fin 64) :
    val_main_v20 (F := Ideal) x0 x1 x5 (ix5 c b r n e) = query x0 x1 x5 b ⟨c.val * 64 + r.val, by omega⟩ (lane n e) := by
  unfold query
  pointwise [val_main_v20, val_main_v19, val_main_v12, val_main_v11, val_main_v10, val_main_v9, val_main_v8, val_main_v7,
    val_main_v6, val_main_v5, val_main_v4, val_main_v3, val_main_v2, val_main_v1, val_main_v0, val_main_cst]

/-- A place of a chunk's band is in the sequence from position 512 of the padded sequence on. -/
theorem band_word (c : Fin 256) (j : Fin 576) : IntOp.cmpi CmpIPredicate.sge
    (IntOp.addi (IntOp.muli (BitVec.ofNat 32 c.val) 64#32) (IntOp.subi (BitVec.ofNat 32 j.val) 512#32)) 0#32
      = if 512 ≤ 64 * c.val + j.val then 1#1 else 0#1 := by
  have hv : (BitVec.ofNat 32 c.val * 64#32 + (BitVec.ofNat 32 j.val - 512#32)).toInt
      = 64 * (c.val : Int) + j.val - 512 := by
    rw [BitVec.toInt_eq_toNat_cond]
    simp only [BitVec.toNat_sub, BitVec.toNat_add, BitVec.toNat_mul, BitVec.toNat_ofNat]
    split <;> omega
  show BitVec.ofBool (BitVec.sle _ _) = _
  by_cases h : 512 ≤ 64 * c.val + j.val
  · rw [if_pos h]
    have : (0#32).sle (BitVec.ofNat 32 c.val * 64#32 + (BitVec.ofNat 32 j.val - 512#32)) = true := by
      rw [BitVec.sle_eq_decide, hv]; simp; omega
    exact congrArg BitVec.ofBool this
  · rw [if_neg h]
    have : (0#32).sle (BitVec.ofNat 32 c.val * 64#32 + (BitVec.ofNat 32 j.val - 512#32)) = false := by
      rw [BitVec.sle_eq_decide, hv]; simp; omega
    exact congrArg BitVec.ofBool this

/-- The reference's score of query `r` of chunk `c` against place `j` of its band. -/
def refScore (x0 : S2x16384x1024.Idx → EReal) (x1 : S16x6x1024.Idx → EReal) (x2 : S2x16384x1024.Idx → EReal)
    (x4 : S16x257.Idx → EReal) (x5 : S1024x1024.Idx → EReal) (b : Fin 2) (c : Fin 256) (n : Fin 16) (r : Fin 64)
    (j : Fin 576) : EReal :=
  if 512 ≤ 64 * c.val + j.val then
    (∑ e : Fin 64, query x0 x1 x5 b ⟨c.val * 64 + r.val, by omega⟩ (lane n e) * bandRow x2 c b j (lane n e))
        * Ideal.ofBits .f32 0x3E000000#32 + x4 (ix2 n (relIdx r j))
  else ⊥

/-- The reference's score of a row and a key of its band. -/
theorem refScore_apply (x0 : (⟨S2x16384x1024, .f32⟩ : BufTy).Contents (Elt Ideal))
    (x1 : (⟨S16x6x1024, .f32⟩ : BufTy).Contents (Elt Ideal)) (x2 : (⟨S2x16384x1024, .bf16⟩ : BufTy).Contents (Elt Ideal))
    (x4 : (⟨S16x257, .f32⟩ : BufTy).Contents (Elt Ideal)) (x5 : (⟨S1024x1024, .bf16⟩ : BufTy).Contents (Elt Ideal))
    (c : Fin 256) (b : Fin 2) (n : Fin 16) (r : Fin 64) (j : Fin 576) :
    val_main_v83 (F := Ideal) x0 x1 x2 x4 x5 (ix5 c b n r j) = refScore x0 x1 x2 x4 x5 b c n r j := by
  unfold refScore
  pointwise [val_main_v83, val_main_v82, val_main_v81, val_main_v80, val_main_v79, val_main_v78, val_main_v77,
    val_main_v76, val_main_v75, val_main_v74, val_main_v73, val_main_v72, val_main_v71, val_main_v70, val_main_v69,
    val_main_v68, val_main_v45, val_main_v44, val_main_v43, val_main_v42, val_main_v41, val_main_v40, val_main_c_7,
    val_main_c_8, val_main_c_19, val_main_cst_20, val_main_cst_21, val_main_call3_v0,
    val_main_call3_v1, val_main_call3_v2, val_main_call3_v3]
  have hw : IntOp.cmpi CmpIPredicate.sge
      (IntOp.addi (IntOp.muli (BitVec.ofNat 32 c.val) 64#32) (IntOp.subi (BitVec.ofNat 32 j.val) 512#32)) 0#32
      = if 512 ≤ 64 * c.val + j.val then 1#1 else 0#1 := band_word c j
  rw [hw]
  split
  · refine (if_pos rfl).trans ?_
    congr 1
    · congr 1
      exact Finset.sum_congr rfl fun e _ => by rw [queries_apply, keys_apply]
    · rw [bias_apply]
  · exact (if_neg (by decide)).trans ofBits_bot

end Cert.Attn

end
-- ==== Proof.RefOut.lean ====
/-
  The reference's result read at an index: the softmax over a band of keys, the output projection, the layer norm.
-/
module

public import proofs.«01_k».proof.Proof.RefBand

@[expose] public section

set_option maxRecDepth 16384

noncomputable section

namespace Cert.Attn

open Idealize.ShloMosaic Cert.ReferenceIdeal Cert.ReferenceIdeal.Read
open Cert.ReferenceIdeal.Facts Cert.ReferenceIdeal.Gen

/-- The attention of query `r` of chunk `c` at lane `e` of head `n`: the softmax of its scores applied to the values of
    the band. -/
def refAttend (x0 : S2x16384x1024.Idx → EReal) (x1 : S16x6x1024.Idx → EReal) (x2 x3 : S2x16384x1024.Idx → EReal)
    (x4 : S16x257.Idx → EReal) (x5 : S1024x1024.Idx → EReal) (b : Fin 2) (c : Fin 256) (r : Fin 64) (n : Fin 16)
    (e : Fin 64) : EReal :=
  ∑ j : Fin 576, Ideal.div (Ideal.exp (refScore x0 x1 x2 x4 x5 b c n r j
        - Finset.univ.sup (refScore x0 x1 x2 x4 x5 b c n r)))
      (∑ j : Fin 576, Ideal.exp (refScore x0 x1 x2 x4 x5 b c n r j
        - Finset.univ.sup (refScore x0 x1 x2 x4 x5 b c n r)))
    * bandRow x3 c b j (lane n e)

variable (x0 : (⟨S2x16384x1024, .f32⟩ : BufTy).Contents (Elt Ideal))
  (x1 : (⟨S16x6x1024, .f32⟩ : BufTy).Contents (Elt Ideal))
  (x2 x3 : (⟨S2x16384x1024, .bf16⟩ : BufTy).Contents (Elt Ideal))
  (x4 : (⟨S16x257, .f32⟩ : BufTy).Contents (Elt Ideal))
  (x5 x6 : (⟨S1024x1024, .bf16⟩ : BufTy).Contents (Elt Ideal))
  (x7 x8 : (⟨S1024, .f32⟩ : BufTy).Contents (Elt Ideal))

/-- The shapes of the maximum over a band's places. -/
theorem reduces_band : S256x2x16x64x576.Reduces [4] S256x2x16x64 := by decide

/-- A place of the band inserted into a query's index. -/
theorem lift_band (c : Fin 256) (b : Fin 2) (n : Fin 16) (r : Fin 64) (j : Fin 576) :
    reduces_band.lift (ix4 c b n r) j = ix5 c b n r j := by
  funext a
  match a with
  | ⟨0, _⟩ => rfl
  | ⟨1, _⟩ => rfl
  | ⟨2, _⟩ => rfl
  | ⟨3, _⟩ => rfl
  | ⟨4, _⟩ => rfl

/-- The maximum over the last axis is the supremum. -/
theorem greatest_reduce (s : FVec Ideal S256x2x16x64x576 .f32) (c : Fin 256) (b : Fin 2) (n : Fin 16) (r : Fin 64) :
    Host.reduce (FloatOps.maximumf (F := Ideal)) s (constant (F := Ideal) S_ .f32 0xFF800000#32)
          reducesTo_S256x2x16x64x576_S256x2x16x64_d4 h_S_ (ix4 c b n r)
      = Finset.univ.sup fun j : Fin 576 => s (ix5 c b n r j) := by
  rw [Host.reduce_eq_fold_single _ _ _ _ reduces_band]
  have h : (s ∘ reduces_band.lift (ix4 c b n r)) = fun j : Fin 576 => s (ix5 c b n r j) :=
    funext fun j => congrArg s (lift_band c b n r j)
  rw [h]
  exact fold_sup _

/-- The greatest score of a query's band. -/
theorem greatest_apply (c : Fin 256) (b : Fin 2) (n : Fin 16) (r : Fin 64) :
    val_main_v86 (F := Ideal) x0 x1 x2 x4 x5 (ix4 c b n r)
      = Finset.univ.sup (refScore x0 x1 x2 x4 x5 b c n r) := by
  have h : val_main_v84 (F := Ideal) x0 x1 x2 x4 x5 (ix4 c b n r)
      = Finset.univ.sup fun j : Fin 576 => val_main_v83 (F := Ideal) x0 x1 x2 x4 x5 (ix5 c b n r j) := by
    unfold val_main_v84 val_main_cst_22
    exact greatest_reduce _ c b n r
  rw [val_main_v86_apply, h, val_main_v85_apply, val_main_cst_23_apply]
  refine Eq.trans (max_eq_right (le_of_eq_of_le ofBits_bot bot_le)) ?_
  exact Finset.sup_congr rfl fun j _ => refScore_apply x0 x1 x2 x4 x5 c b n r j

/-- A weight of the band, before it is normalized. -/
theorem exp_apply (c : Fin 256) (b : Fin 2) (n : Fin 16) (r : Fin 64) (j : Fin 576) :
    val_main_v90 (F := Ideal) x0 x1 x2 x4 x5 (ix5 c b n r j)
      = Ideal.exp (refScore x0 x1 x2 x4 x5 b c n r j - Finset.univ.sup (refScore x0 x1 x2 x4 x5 b c n r)) := by
  rw [← greatest_apply, ← refScore_apply]
  pointwise [val_main_v90, val_main_v89, val_main_v88, val_main_v87]

/-- The attention at an index. -/
theorem attend_apply (c : Fin 256) (b : Fin 2) (n : Fin 16) (r : Fin 64) (e : Fin 64) :
    val_main_v95 (F := Ideal) x0 x1 x2 x3 x4 x5 (ix5 c b n e r) = refAttend x0 x1 x2 x3 x4 x5 b c r n e := by
  pointwise [val_main_v95, val_main_v94, val_main_v93, val_main_v92, val_main_v91, val_main_cst_24]
  unfold refAttend
  simp only [exp_apply, values_apply]
  exact Finset.sum_congr rfl fun j _ => mul_comm _ _

/-- The attention of a position, its heads side by side. -/
def refRow (b : Fin 2) (t : Fin 16384) (d : Fin 1024) : EReal :=
  refAttend x0 x1 x2 x3 x4 x5 b ⟨t.val / 64, by omega⟩ ⟨t.val % 64, by omega⟩ ⟨d.val / 64, by omega⟩ ⟨d.val % 64, by omega⟩

/-- The heads' results laid out by position. -/
theorem heads_apply (b : Fin 2) (t : Fin 16384) (d : Fin 1024) :
    val_main_v99 (F := Ideal) x0 x1 x2 x3 x4 x5 (ix3 b t d) = refRow x0 x1 x2 x3 x4 x5 b t d := by
  unfold refRow
  rw [← attend_apply]
  pointwise [val_main_v99, val_main_v98, val_main_v97, val_main_v96]

/-- A row's mean square distance from its mean brought to one, then scaled and shifted. -/
def layerNorm (h g s : Fin 1024 → EReal) (d : Fin 1024) : EReal :=
  (h d - Ideal.div (∑ k, h k) (Ideal.ofBits .f32 0x44800000#32))
    * Ideal.rsqrt (Ideal.div (∑ k, (h k - Ideal.div (∑ k, h k) (Ideal.ofBits .f32 0x44800000#32))
        * (h k - Ideal.div (∑ k, h k) (Ideal.ofBits .f32 0x44800000#32))) (Ideal.ofBits .f32 0x44800000#32)
      + Ideal.ofBits .f32 0x3727C5AC#32) * g d + s d

/-- The residual sum at a position: the input scaled, and the gated projection of a row of attention. -/
def residual (x0 : S2x16384x1024.Idx → EReal) (x1 : S16x6x1024.Idx → EReal) (x6 : S1024x1024.Idx → EReal)
    (a : Fin 1024 → EReal) (b : Fin 2) (t : Fin 16384) (d : Fin 1024) : EReal :=
  Ideal.ofBits .f32 0x3FD744FD#32 * x0 (ix3 b t d)
    + x1 (ix3 ⟨8 + b.val, by omega⟩ 2 d) * ∑ k : Fin 1024, a k * x6 (ix2 k d)

/-- The sum that the reference normalises, at an index. -/
theorem residual_apply (b : Fin 2) (t : Fin 16384) (d : Fin 1024) :
    val_main_v106 (F := Ideal) x0 x1 x2 x3 x4 x5 x6 (ix3 b t d)
      = residual x0 x1 x6 (refRow x0 x1 x2 x3 x4 x5 b t) b t d := by
  unfold residual
  simp only [← heads_apply]
  pointwise [val_main_v106, val_main_v105, val_main_v104, val_main_v103, val_main_v102, val_main_v101, val_main_v100,
    val_main_cst_25, val_main_v3, val_main_v2, val_main_v1, val_main_v0]

/-- The reference's result at an index. -/
theorem reference_apply (b : Fin 2) (t : Fin 16384) (d : Fin 1024) :
    val_main_v130 (F := Ideal) x0 x1 x2 x3 x4 x5 x6 x7 x8 (ix3 b t d)
      = layerNorm (residual x0 x1 x6 (refRow x0 x1 x2 x3 x4 x5 b t) b t) (fun d => x7 (ix1 d)) (fun d => x8 (ix1 d)) d := by
  unfold layerNorm
  simp only [← residual_apply]
  pointwise [val_main_v130, val_main_v129, val_main_v128, val_main_v127, val_main_v126, val_main_v125, val_main_v124,
    val_main_v123, val_main_v122, val_main_v121, val_main_v120, val_main_v119, val_main_v118, val_main_v117,
    val_main_v116, val_main_v115, val_main_v114, val_main_v113, val_main_v112, val_main_v111, val_main_v110,
    val_main_v109, val_main_v108, val_main_v107, val_main_cst_26, val_main_cst_27, val_main_cst_28, val_main_cst_29, val_main_cst_30]

end Cert.Attn

end
-- ==== Proof.Pair.lean ====
/-
  The work on one pair of heads of the band attention: the term the kernel computes for 256 rows and two heads of 64
  lanes, written once, and what it holds at an index.
-/
module

public import proofs.«01_k».proof.Proof.Gen.KernelIdeal.Skeleton
public import Idealize.ShloMosaic.Lib.Pointwise
public import proofs.«01_k».proof.Proof.Softmax
public import Idealize.ShloMosaic.PureOps.IdealRules

@[expose] public section

set_option maxRecDepth 16384

noncomputable section

namespace Cert.Attn

open Idealize.ShloMosaic Cert.KernelIdeal Cert.KernelIdeal.Gen
open Cert.KernelIdeal.Facts

/-- The scores of both heads of a pair: the queries, each head's own lanes kept, against the keys, and the bias. -/
def scores (q : FVec Ideal S256x128 .bf16) (k : FVec Ideal S768x128 .bf16) (b : FVec Ideal S1x512x768 .f32) :
    FVec Ideal S512x768 .f32 :=
  addf (matmul dot_S512x128_S768x128_S512x768_1_1_0_0_n_n none
      (select k0_pay57 (concatenate S512x128 0 [⟨S256x128, q⟩, ⟨S256x128, q⟩] concatenates_S256x128_S256x128_S512x128_d0)
        (broadcast S512x128 (Scalar.ofBits .bf16 0x0000#16))) k (constant S512x768 .f32 0x00000000#32))
    (shapeCast S512x768 b shapeCasts_S1x512x768_S512x768)

/-- The scores with the keys before the sequence's first position masked, for the rows that begin at `w`. -/
def maskScores (w : BitVec 32) (s : FVec Ideal S512x768 .f32) : FVec Ideal S512x768 .f32 :=
  select (broadcastTo S512x768 (shapeCast S1x768 (cmpi .sge (addi (iota .tc S1x768 32 [1] iota_S1x768_d1_w32)
      (broadcast S1x768 w)) (broadcast S1x768 512#32)) shapeCasts_S1x768_S1x768) broadcasts_S1x768_S512x768) s
    (broadcast S512x768 (Named.named (F := Ideal) κ "mask" 0xF149F2CA#32))

/-- The softmax of the scores applied to the values, each lane from its own head. -/
def weigh (s : FVec Ideal S512x768 .f32) (v : FVec Ideal S768x128 .bf16) : FVec Ideal S256x128 .bf16 :=
  have e : FVec Ideal S512x768 .f32 := exp (subf s (broadcastTo S512x768 (shapeCast S512x1
    (multiReduction .maximumf [1] S512 s 0xFF800000#32 reduces_S512x768_S512 (.inl rfl) rfl) shapeCasts_S512_S512x1)
    broadcasts_S512x1_S512x768))
  have l : FVec Ideal S512x1 .f32 := shapeCast S512x1
    (multiReduction .add [1] S512 e 0x00000000#32 reduces_S512x768_S512 (.inl rfl) rfl) shapeCasts_S512_S512x1
  have o : FVec Ideal S512x128 .f32 := mulf
    (matmul dot_S512x768_S768x128_S512x128_1_0_0_1_n_n none (truncf .bf16 e bitsLt_bf16_f32) v
      (constant S512x128 .f32 0x00000000#32))
    (broadcastTo S512x128 (divf (broadcast S512x1 (Scalar.ofBits .f32 0x3F800000#32)) l) broadcasts_S512x1_S512x128)
  shapeCast S256x128 (truncf .bf16 (select k0_pay58 (extractStridedSlice S256x128 ![0, 0] o slices_S512x128_o0_0_S256x128)
    (extractStridedSlice S256x128 ![256, 0] o slices_S512x128_o256_0_S256x128)) bitsLt_bf16_f32) shapeCasts_S256x128_S256x128

/-- The score of row `r` (256 rows of the first head, then 256 of the second) against key `j`. -/
def score (q : FVec Ideal S256x128 .bf16) (k : FVec Ideal S768x128 .bf16) (b : FVec Ideal S1x512x768 .f32)
    (h : Fin 2) (r : Fin 256) (j : Fin 768) : EReal :=
  (∑ l : Fin 128, (if l.val / 64 = h.val then q (ix2 r l) else 0) * k (ix2 j l))
    + b (ix3 0 ⟨h.val * 256 + r.val, by omega⟩ j)

/-- A row of scores, normalized, applied to a column of values. -/
def row (s v : Fin 768 → EReal) : EReal :=
  (∑ j, Ideal.exp (s j - Finset.univ.sup s) * v j) * Ideal.div 1 (∑ j, Ideal.exp (s j - Finset.univ.sup s))

/-- A choice by a comparison's bit is a choice by the comparison. -/
theorem select_ite {α : Type} (p : Bool) (x y : α) :
    Scalar.select (BitVec.ofBool p) x y = if p then x else y := by
  cases p <;> rfl

/-- The weighted values at row `r` and lane `l`: the lane's own head's row of scores, normalized, against the lane's
    column of values. -/
theorem weigh_apply (s : FVec Ideal S512x768 .f32) (v : FVec Ideal S768x128 .bf16) (r : Fin 256) (l : Fin 128) :
    weigh s v (ix2 r l)
      = row (fun j => s (ix2 ⟨l.val / 64 * 256 + r.val, by omega⟩ j)) (fun j => v (ix2 j l)) := by
  unfold row
  pointwise [weigh, k0_pay58]
  simp only [fold_sup]
  have hc : IntOp.cmpi CmpIPredicate.slt (BitVec.ofNat 32 l.val) 64#32 = if l.val / 64 = 0 then 1#1 else 0#1 := by
    revert l; decide
  rw [hc]
  by_cases h : l.val / 64 = 0
  · simp [h, Scalar.select]
  · have h1 : l.val / 64 = 1 := by omega
    simp [h1, Scalar.select]

/-- A pair's scores at a head, a row and a key. -/
theorem scores_apply (q : FVec Ideal S256x128 .bf16) (k : FVec Ideal S768x128 .bf16) (b : FVec Ideal S1x512x768 .f32)
    (h : Fin 2) (r : Fin 256) (j : Fin 768) :
    scores q k b (ix2 ⟨h.val * 256 + r.val, by omega⟩ j) = score q k b h r j := by
  unfold score
  pointwise [scores, k0_pay57]
  congr 1
  refine Finset.sum_congr rfl fun x _ => ?_
  have hx : IntOp.cmpi CmpIPredicate.sge (BitVec.ofNat 32 x.val) 64#32 = if x.val / 64 = 0 then 0#1 else 1#1 := by
    revert x; decide
  have hr : IntOp.cmpi CmpIPredicate.sge (BitVec.ofNat 32 (h.val * 256 + r.val)) 256#32
      = if h.val = 0 then 0#1 else 1#1 := by
    have : ∀ n : Fin 512, IntOp.cmpi CmpIPredicate.sge (BitVec.ofNat 32 n.val) 256#32 = if n.val / 256 = 0 then 0#1 else 1#1 := by
      decide
    rw [this ⟨h.val * 256 + r.val, by omega⟩]
    have : (h.val * 256 + r.val) / 256 = h.val := by omega
    simp only [this]
  rw [hx, hr]
  have hh : h.val = 0 ∨ h.val = 1 := by omega
  have hxx : x.val / 64 = 0 ∨ x.val / 64 = 1 := by omega
  rcases hh with hh | hh <;> rcases hxx with hxx | hxx <;>
    simp [hh, hxx, Scalar.select, IntOp.xori]

/-- A masked score: kept where the key's position is in the sequence, minus infinity elsewhere. -/
theorem maskScores_apply (w : Fin 2) (s : FVec Ideal S512x768 .f32) (r : Fin 512) (j : Fin 768) :
    maskScores (BitVec.ofNat 32 (w.val * 256)) s (ix2 r j) = if 512 ≤ j.val + w.val * 256 then s (ix2 r j) else ⊥ := by
  pointwise [maskScores]
  have hn : Named.named (F := Ideal) (φ := .f32) κ "mask" 4048155338#32 = (⊥ : EReal) :=
    IdealRules.named_const.ideal_named_scalar _ _ _ _ rfl
  have hc : ∀ (w : Fin 2) (j : Fin 768), IntOp.cmpi CmpIPredicate.sge
      (IntOp.addi (BitVec.ofNat 32 j.val) (BitVec.ofNat 32 (w.val * 256))) 512#32
      = if 512 ≤ j.val + w.val * 256 then 1#1 else 0#1 := by
    decide +kernel
  rw [hn, hc]
  by_cases h : 512 ≤ j.val + w.val * 256 <;> simp [h, Scalar.select]

end Cert.Attn

end
-- ==== Proof.Loop.lean ====
/-
  One trip of the kernel's loop over its block's chunks: every piece it stores is the block's attention there.
-/
module

public import proofs.«01_k».proof.Proof.Gen.KernelIdeal.Loops
public import proofs.«01_k».proof.Proof.Pair
public import Idealize.ShloMosaic.Lib.Pipeline.ValueKit
public import Idealize.ShloMosaic.Lib.Ring

@[expose] public section

set_option maxRecDepth 16384

noncomputable section

namespace Cert.Attn

open Idealize.ShloMosaic Cert.KernelIdeal Cert.KernelIdeal.Gen
open Cert.KernelIdeal.Facts

/-- The score of a block's row `r`, for the head of lane `d`, against key `j` of the row's window: the queries times the
    keys over the head's lanes, and the bias. -/
def blockScore (q : S512x1024.Idx → EReal) (k : S1024x1024.Idx → EReal) (b : S8x512x768.Idx → EReal)
    (r : Fin 512) (d : Fin 1024) (j : Fin 768) : EReal :=
  (∑ l : Fin 128, (if l.val / 64 = d.val % 128 / 64 then q (ix2 r ⟨d.val / 128 * 128 + l.val, by omega⟩) else 0)
      * k (ix2 ⟨r.val / 256 * 256 + j.val, by omega⟩ ⟨d.val / 128 * 128 + l.val, by omega⟩))
    + b (ix3 ⟨d.val / 128, by omega⟩ ⟨d.val % 128 / 64 * 256 + r.val % 256, by omega⟩ j)

/-- The attention of a block's row at lane `d`: the softmax of its scores applied to the values of the row's window; when
    `m` holds, the keys before the sequence's first position are masked. -/
def blockAttend (m : Prop) [Decidable m] (q : S512x1024.Idx → EReal) (k v : S1024x1024.Idx → EReal)
    (b : S8x512x768.Idx → EReal) (r : Fin 512) (d : Fin 1024) : EReal :=
  row (fun j => if m → 512 ≤ j.val + r.val / 256 * 256 then blockScore q k b r d j else ⊥)
    (fun j => v (ix2 ⟨r.val / 256 * 256 + j.val, by omega⟩ d))

/-- A pair's result is the block's attention at the rows and lanes it stores. -/
theorem pair_block (q : S512x1024.Idx → EReal) (k v : S1024x1024.Idx → EReal) (b : S8x512x768.Idx → EReal)
    (q' : FVec Ideal S256x128 .bf16) (k' v' : FVec Ideal S768x128 .bf16) (b' : FVec Ideal S1x512x768 .f32)
    (g : Fin 2) (p : Fin 8)
    (hq : ∀ (r : Fin 256) (l : Fin 128), q' (ix2 r l) = q (ix2 ⟨g.val * 256 + r.val, by omega⟩ ⟨p.val * 128 + l.val, by omega⟩))
    (hk : ∀ (j : Fin 768) (l : Fin 128), k' (ix2 j l) = k (ix2 ⟨g.val * 256 + j.val, by omega⟩ ⟨p.val * 128 + l.val, by omega⟩))
    (hv : ∀ (j : Fin 768) (l : Fin 128), v' (ix2 j l) = v (ix2 ⟨g.val * 256 + j.val, by omega⟩ ⟨p.val * 128 + l.val, by omega⟩))
    (hb : ∀ (r : Fin 512) (j : Fin 768), b' (ix3 0 r j) = b (ix3 p r j)) (r : Fin 256) (l : Fin 128) :
    weigh (scores q' k' b') v' (ix2 r l)
      = blockAttend False q k v b ⟨g.val * 256 + r.val, by omega⟩ ⟨p.val * 128 + l.val, by omega⟩ := by
  rw [weigh_apply]
  have h1 : (g.val * 256 + r.val) / 256 = g.val := by omega
  have h2 : (g.val * 256 + r.val) % 256 = r.val := by omega
  have h3 : (p.val * 128 + l.val) / 128 = p.val := by omega
  have h4 : (p.val * 128 + l.val) % 128 = l.val := by omega
  unfold blockAttend blockScore
  simp only [h1, h2, h3, h4, hv, false_implies, if_true]
  congr 1
  funext j
  rw [scores_apply q' k' b' ⟨l.val / 64, by omega⟩ r j]
  unfold score
  simp only [hq, hk, hb]

/-- The same where the keys before the first position are masked. -/
theorem pair_block_masked (q : S512x1024.Idx → EReal) (k v : S1024x1024.Idx → EReal) (b : S8x512x768.Idx → EReal)
    (q' : FVec Ideal S256x128 .bf16) (k' v' : FVec Ideal S768x128 .bf16) (b' : FVec Ideal S1x512x768 .f32)
    (g : Fin 2) (p : Fin 8) (w : BitVec 32) (hw : w = BitVec.ofNat 32 (g.val * 256))
    (hq : ∀ (r : Fin 256) (l : Fin 128), q' (ix2 r l) = q (ix2 ⟨g.val * 256 + r.val, by omega⟩ ⟨p.val * 128 + l.val, by omega⟩))
    (hk : ∀ (j : Fin 768) (l : Fin 128), k' (ix2 j l) = k (ix2 ⟨g.val * 256 + j.val, by omega⟩ ⟨p.val * 128 + l.val, by omega⟩))
    (hv : ∀ (j : Fin 768) (l : Fin 128), v' (ix2 j l) = v (ix2 ⟨g.val * 256 + j.val, by omega⟩ ⟨p.val * 128 + l.val, by omega⟩))
    (hb : ∀ (r : Fin 512) (j : Fin 768), b' (ix3 0 r j) = b (ix3 p r j)) (r : Fin 256) (l : Fin 128) :
    weigh (maskScores w (scores q' k' b')) v' (ix2 r l)
      = blockAttend True q k v b ⟨g.val * 256 + r.val, by omega⟩ ⟨p.val * 128 + l.val, by omega⟩ := by
  subst hw
  rw [weigh_apply]
  have h1 : (g.val * 256 + r.val) / 256 = g.val := by omega
  have h2 : (g.val * 256 + r.val) % 256 = r.val := by omega
  have h3 : (p.val * 128 + l.val) / 128 = p.val := by omega
  have h4 : (p.val * 128 + l.val) % 128 = l.val := by omega
  unfold blockAttend blockScore
  simp only [h1, h2, h3, h4, hv, true_implies]
  congr 1
  funext j
  rw [maskScores_apply, scores_apply q' k' b' ⟨l.val / 64, by omega⟩ r j]
  unfold score
  simp only [hq, hk, hb]

/-- A load of a box at offsets, at an index. -/
theorem readAt_unit2 {sp : Space} {n m n' m' : ℕ} {e : EltTy} (v : View sig .tc sp ⟨2, ![n, m]⟩ e)
    (X : BufTy.Contents (Elt Ideal) v.ty) (o : Fin 2 → ℕ)
    (inb : ∀ a, o a + (⟨2, ![n', m']⟩ : Shape).size a ≤ (⟨2, ![n, m]⟩ : Shape).size a) (a b : ℕ) (ho : o = ![a, b])
    (r : Fin n') (l : Fin m') (h1 : a + r.val < n) (h2 : b + l.val < m) :
    v.readAt (Elt Ideal) (Rect.unit (s := ⟨2, ![n, m]⟩) o (⟨2, ![n', m']⟩ : Shape).size inb).toLoadRect X (ix2 r l)
      = v.read (Elt Ideal) X (ix2 ⟨a + r.val, h1⟩ ⟨b + l.val, h2⟩) := by
  subst ho
  rw [View.readAt_apply]
  congr 1
  funext x
  refine Fin.ext ?_
  match x with
  | ⟨0, _⟩ => show a + 1 * r.val = a + r.val; omega
  | ⟨1, _⟩ => show b + 1 * l.val = b + l.val; omega

/-- A load of a pair's bias, at an index. -/
theorem readAt_bias {sp : Space} (v : View sig .tc sp S8x512x768 .f32) (X : BufTy.Contents (Elt Ideal) v.ty) (p : ℕ)
    (hp : p < 8) (inb : ∀ a, (![p, 0, 0] : Fin 3 → ℕ) a + S1x512x768.size a ≤ S8x512x768.size a) (r : Fin 512) (j : Fin 768) :
    v.readAt (Elt Ideal) (Rect.unit (s := S8x512x768) ![p, 0, 0] S1x512x768.size inb).toLoadRect X (ix3 0 r j)
      = v.read (Elt Ideal) X (ix3 ⟨p, hp⟩ r j) := by
  rw [View.readAt_apply]
  congr 1
  funext x
  refine Fin.ext ?_
  match x with
  | ⟨0, _⟩ => show p + 1 * 0 = p; omega
  | ⟨1, _⟩ => show 0 + 1 * r.val = r.val; omega
  | ⟨2, _⟩ => show 0 + 1 * j.val = j.val; omega

/-- A piece a trip stores for pair `p` is the block's attention there. -/
theorem tile_pair {sp : Space} (v14 : View sig .tc sp S8x512x768 .f32) (v15 v16 : View sig .tc sp S1024x1024 .bf16)
    (v17 : View sig .tc sp S512x1024 .bf16) (X14 : BufTy.Contents (Elt Ideal) v14.ty) (X15 : BufTy.Contents (Elt Ideal) v15.ty)
    (X16 : BufTy.Contents (Elt Ideal) v16.ty) (X17 : BufTy.Contents (Elt Ideal) v17.ty) (k : ℕ) (hk : k < 2) (p : ℕ)
    (hp : p < 8) (o o' : Fin 2 → ℕ) (ho : o = ![256 * k, 128 * p]) (ho' : o' = ![256 * k, 128 * p])
    (inb : ∀ a, o a + S256x128.size a ≤ S512x1024.size a) (inb' : ∀ a, o' a + S768x128.size a ≤ S1024x1024.size a)
    (inb3 : ∀ a, (![p, 0, 0] : Fin 3 → ℕ) a + S1x512x768.size a ≤ S8x512x768.size a)
    (w : (⟨2, ![256, 128]⟩ : Shape).Idx → EReal)
    (hw : w = weigh (scores
        (v17.readAt (Elt Ideal) (Rect.unit (s := S512x1024) o S256x128.size inb).toLoadRect X17)
        (v15.readAt (Elt Ideal) (Rect.unit (s := S1024x1024) o' S768x128.size inb').toLoadRect X15)
        (v14.readAt (Elt Ideal) (Rect.unit (s := S8x512x768) ![p, 0, 0] S1x512x768.size inb3).toLoadRect X14))
        (v16.readAt (Elt Ideal) (Rect.unit (s := S1024x1024) o' S768x128.size inb').toLoadRect X16))
    (r : Fin 512) (d : Fin 1024) :
    View.TileAt (Val := Elt Ideal) (S := S512x1024) (e := .bf16) (ix2 r d) o ![256, 128] w
      (blockAttend False (v17.read (Elt Ideal) X17) (v15.read (Elt Ideal) X15) (v16.read (Elt Ideal) X16)
        (v14.read (Elt Ideal) X14) r d) := by
  subst hw ho
  intro x hx
  obtain ⟨r', l', rfl⟩ : ∃ (r' : Fin 256) (l' : Fin 128), x = ix2 r' l' := ⟨x 0, x 1, by
    funext a
    match a with
    | ⟨0, _⟩ => rfl
    | ⟨1, _⟩ => rfl⟩
  have h0 : r.val = 256 * k + r'.val := hx 0
  have h1 : d.val = 128 * p + l'.val := hx 1
  have hr : r = ⟨k * 256 + r'.val, by omega⟩ := Fin.ext (by rw [h0, Nat.mul_comm])
  have hd : d = ⟨p * 128 + l'.val, by omega⟩ := Fin.ext (by rw [h1, Nat.mul_comm])
  rw [hr, hd]
  refine pair_block _ _ _ _ _ _ _ _ ⟨k, hk⟩ ⟨p, hp⟩ ?_ ?_ ?_ ?_ r' l'
  · intro a l
    rw [readAt_unit2 v17 X17 _ inb (k * 256) (p * 128) (by rw [Nat.mul_comm 256, Nat.mul_comm 128]) a l (by omega) (by omega)]
  · intro a l
    rw [readAt_unit2 v15 X15 _ inb' (k * 256) (p * 128) (by rw [ho', Nat.mul_comm 256, Nat.mul_comm 128]) a l (by omega) (by omega)]
  · intro a l
    rw [readAt_unit2 v16 X16 _ inb' (k * 256) (p * 128) (by rw [ho', Nat.mul_comm 256, Nat.mul_comm 128]) a l (by omega) (by omega)]
  · intro a l
    exact readAt_bias v14 X14 p hp inb3 a l

/-- A piece a trip stores for pair `p` is the block's attention there, the keys before the first position masked. -/
theorem tile_pair_masked {sp : Space} (v14 : View sig .tc sp S8x512x768 .f32) (v15 v16 : View sig .tc sp S1024x1024 .bf16)
    (v17 : View sig .tc sp S512x1024 .bf16) (X14 : BufTy.Contents (Elt Ideal) v14.ty) (X15 : BufTy.Contents (Elt Ideal) v15.ty)
    (X16 : BufTy.Contents (Elt Ideal) v16.ty) (X17 : BufTy.Contents (Elt Ideal) v17.ty) (k : ℕ) (hk : k < 2) (p : ℕ)
    (hp : p < 8) (o o' : Fin 2 → ℕ) (ho : o = ![256 * k, 128 * p]) (ho' : o' = ![256 * k, 128 * p])
    (inb : ∀ a, o a + S256x128.size a ≤ S512x1024.size a) (inb' : ∀ a, o' a + S768x128.size a ≤ S1024x1024.size a)
    (inb3 : ∀ a, (![p, 0, 0] : Fin 3 → ℕ) a + S1x512x768.size a ≤ S8x512x768.size a) (z : BitVec 32) (hz : z = BitVec.ofNat 32 (k * 256))
    (w : (⟨2, ![256, 128]⟩ : Shape).Idx → EReal)
    (hw : w = weigh (maskScores z (scores
        (v17.readAt (Elt Ideal) (Rect.unit (s := S512x1024) o S256x128.size inb).toLoadRect X17)
        (v15.readAt (Elt Ideal) (Rect.unit (s := S1024x1024) o' S768x128.size inb').toLoadRect X15)
        (v14.readAt (Elt Ideal) (Rect.unit (s := S8x512x768) ![p, 0, 0] S1x512x768.size inb3).toLoadRect X14)))
        (v16.readAt (Elt Ideal) (Rect.unit (s := S1024x1024) o' S768x128.size inb').toLoadRect X16))
    (r : Fin 512) (d : Fin 1024) :
    View.TileAt (Val := Elt Ideal) (S := S512x1024) (e := .bf16) (ix2 r d) o ![256, 128] w
      (blockAttend True (v17.read (Elt Ideal) X17) (v15.read (Elt Ideal) X15) (v16.read (Elt Ideal) X16)
        (v14.read (Elt Ideal) X14) r d) := by
  subst hw ho
  intro x hx
  obtain ⟨r', l', rfl⟩ : ∃ (r' : Fin 256) (l' : Fin 128), x = ix2 r' l' := ⟨x 0, x 1, by
    funext a
    match a with
    | ⟨0, _⟩ => rfl
    | ⟨1, _⟩ => rfl⟩
  have h0 : r.val = 256 * k + r'.val := hx 0
  have h1 : d.val = 128 * p + l'.val := hx 1
  have hr : r = ⟨k * 256 + r'.val, by omega⟩ := Fin.ext (by rw [h0, Nat.mul_comm])
  have hd : d = ⟨p * 128 + l'.val, by omega⟩ := Fin.ext (by rw [h1, Nat.mul_comm])
  rw [hr, hd]
  refine pair_block_masked _ _ _ _ _ _ _ _ ⟨k, hk⟩ ⟨p, hp⟩ z hz ?_ ?_ ?_ ?_ r' l'
  · intro a l
    rw [readAt_unit2 v17 X17 _ inb (k * 256) (p * 128) (by rw [Nat.mul_comm 256, Nat.mul_comm 128]) a l (by omega) (by omega)]
  · intro a l
    rw [readAt_unit2 v15 X15 _ inb' (k * 256) (p * 128) (by rw [ho', Nat.mul_comm 256, Nat.mul_comm 128]) a l (by omega) (by omega)]
  · intro a l
    rw [readAt_unit2 v16 X16 _ inb' (k * 256) (p * 128) (by rw [ho', Nat.mul_comm 256, Nat.mul_comm 128]) a l (by omega) (by omega)]
  · intro a l
    exact readAt_bias v14 X14 p hp inb3 a l

variable (𝒱 : Variants) (c : Dev nD) (bd : Option 𝒱.V) (i : grid0.Coords)
  (arg2 : Memref sig .tc .vmem S1x512x1024 .f32) (harg2 : arg2.IsWhole)
  (arg3 : Memref sig .tc .vmem S1x6x1024 .f32) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x1024 .bf16) (harg6 : arg6.IsWhole)
  (arg7 : Memref sig .tc .vmem S1x512x1024 .bf16) (harg7 : arg7.IsWhole)
  (arg8 : Memref sig .tc .vmem S16x1024 .f32) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1x512x1024 .f32) (harg13 : arg13.IsWhole)
  (arg14 : Memref sig .tc .vmem S8x512x768 .f32) (harg14 : arg14.IsWhole)
  (arg15 : Memref sig .tc .vmem S1024x1024 .bf16) (harg15 : arg15.IsWhole)
  (arg16 : Memref sig .tc .vmem S1024x1024 .bf16) (harg16 : arg16.IsWhole)
  (arg17 : Memref sig .tc .vmem S512x1024 .bf16) (harg17 : arg17.IsWhole)
  (arg18 : Memref sig .tc .vmem S512x1024 .bf16) (harg18 : arg18.IsWhole)

/-- The pieces a trip of the unmasked loop stores are the block's attention. -/
theorem trip2_at (v26 : FVec Ideal S512x1024 .f32) (hh : k0_cond3 i = 1#1)
    (X14 : BufTy.Contents (Elt Ideal) arg14.view.ty) (X15 : BufTy.Contents (Elt Ideal) arg15.view.ty)
    (X16 : BufTy.Contents (Elt Ideal) arg16.view.ty) (X17 : BufTy.Contents (Elt Ideal) arg17.view.ty)
    (k : Fin k0_t2_loop.trips) (r : Fin 512) (d : Fin 1024) :
    View.AllAt (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 k0_pay57 k0_pay58 hh X14 X15 X16 X17 k)
      (ix2 r d) (blockAttend False (arg17.view.read (Elt Ideal) X17) (arg15.view.read (Elt Ideal) X15)
        (arg16.view.read (Elt Ideal) X16) (arg14.view.read (Elt Ideal) X14) r d) := by
  have hk : k.val < 2 := Nat.lt_of_lt_of_le k.isLt k0_t2_abs.2.1
  unfold tripL_k0_t2 trip_k0_t2
  dsimp only
  refine View.allAt_cons_unit _ _ _ _ _ (tile_pair _ _ _ _ X14 X15 X16 X17 k.val hk 7 (by decide) _ _ (k0_off31_eq k) (k0_off32_eq k) (k0_off31_inb i k hh) (k0_off32_inb i k hh) (by decide) _ rfl r d) ?_
  refine View.allAt_cons_unit _ _ _ _ _ (tile_pair _ _ _ _ X14 X15 X16 X17 k.val hk 6 (by decide) _ _ (k0_off29_eq k) (k0_off30_eq k) (k0_off29_inb i k hh) (k0_off30_inb i k hh) (by decide) _ rfl r d) ?_
  refine View.allAt_cons_unit _ _ _ _ _ (tile_pair _ _ _ _ X14 X15 X16 X17 k.val hk 5 (by decide) _ _ (k0_off27_eq k) (k0_off28_eq k) (k0_off27_inb i k hh) (k0_off28_inb i k hh) (by decide) _ rfl r d) ?_
  refine View.allAt_cons_unit _ _ _ _ _ (tile_pair _ _ _ _ X14 X15 X16 X17 k.val hk 4 (by decide) _ _ (k0_off25_eq k) (k0_off26_eq k) (k0_off25_inb i k hh) (k0_off26_inb i k hh) (by decide) _ rfl r d) ?_
  refine View.allAt_cons_unit _ _ _ _ _ (tile_pair _ _ _ _ X14 X15 X16 X17 k.val hk 3 (by decide) _ _ (k0_off23_eq k) (k0_off24_eq k) (k0_off23_inb i k hh) (k0_off24_inb i k hh) (by decide) _ rfl r d) ?_
  refine View.allAt_cons_unit _ _ _ _ _ (tile_pair _ _ _ _ X14 X15 X16 X17 k.val hk 2 (by decide) _ _ (k0_off21_eq k) (k0_off22_eq k) (k0_off21_inb i k hh) (k0_off22_inb i k hh) (by decide) _ rfl r d) ?_
  refine View.allAt_cons_unit _ _ _ _ _ (tile_pair _ _ _ _ X14 X15 X16 X17 k.val hk 1 (by decide) _ _ (k0_off19_eq k) (k0_off20_eq k) (k0_off19_inb i k hh) (k0_off20_inb i k hh) (by decide) _ rfl r d) ?_
  refine View.allAt_cons_unit _ _ _ _ _ (tile_pair _ _ _ _ X14 X15 X16 X17 k.val hk 0 (by decide) _ _ (k0_off17_eq k) (k0_off18_eq k) (k0_off17_inb i k hh) (k0_off18_inb i k hh) (by decide) _ rfl r d) ?_
  exact View.allAt_nil _ _

/-- The first row of a trip's chunk, as the kernel computes it. -/
theorem trip_word : ∀ k : Fin k0_t1_loop.trips,
    Scalar.muli (Scf.iv 0#32 1#32 k) 256#32 = BitVec.ofNat 32 (k.val * 256) := by decide +kernel

/-- The pieces a trip of the masked loop stores are the block's attention. -/
theorem trip1_at (arg1 : BitVec 32) (v26 : FVec Ideal S512x1024 .f32) (hh : k0_cond2 i = 1#1)
    (X14 : BufTy.Contents (Elt Ideal) arg14.view.ty) (X15 : BufTy.Contents (Elt Ideal) arg15.view.ty)
    (X16 : BufTy.Contents (Elt Ideal) arg16.view.ty) (X17 : BufTy.Contents (Elt Ideal) arg17.view.ty)
    (k : Fin k0_t1_loop.trips) (r : Fin 512) (d : Fin 1024) :
    View.AllAt (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 (iota .tc S1x768 32 [1] iota_S1x768_d1_w32) hh X14 X15 X16 X17 k)
      (ix2 r d) (blockAttend True (arg17.view.read (Elt Ideal) X17) (arg15.view.read (Elt Ideal) X15)
        (arg16.view.read (Elt Ideal) X16) (arg14.view.read (Elt Ideal) X14) r d) := by
  have hk : k.val < 2 := Nat.lt_of_lt_of_le k.isLt k0_t1_abs.2.1
  unfold tripL_k0_t1 trip_k0_t1
  dsimp only
  refine View.allAt_cons_unit _ _ _ _ _ (tile_pair_masked _ _ _ _ X14 X15 X16 X17 k.val hk 7 (by decide) _ _ (k0_off15_eq k) (k0_off16_eq k) (k0_off15_inb i k hh) (k0_off16_inb i k hh) (by decide) _ (trip_word k) _ rfl r d) ?_
  refine View.allAt_cons_unit _ _ _ _ _ (tile_pair_masked _ _ _ _ X14 X15 X16 X17 k.val hk 6 (by decide) _ _ (k0_off13_eq k) (k0_off14_eq k) (k0_off13_inb i k hh) (k0_off14_inb i k hh) (by decide) _ (trip_word k) _ rfl r d) ?_
  refine View.allAt_cons_unit _ _ _ _ _ (tile_pair_masked _ _ _ _ X14 X15 X16 X17 k.val hk 5 (by decide) _ _ (k0_off11_eq k) (k0_off12_eq k) (k0_off11_inb i k hh) (k0_off12_inb i k hh) (by decide) _ (trip_word k) _ rfl r d) ?_
  refine View.allAt_cons_unit _ _ _ _ _ (tile_pair_masked _ _ _ _ X14 X15 X16 X17 k.val hk 4 (by decide) _ _ (k0_off9_eq k) (k0_off10_eq k) (k0_off9_inb i k hh) (k0_off10_inb i k hh) (by decide) _ (trip_word k) _ rfl r d) ?_
  refine View.allAt_cons_unit _ _ _ _ _ (tile_pair_masked _ _ _ _ X14 X15 X16 X17 k.val hk 3 (by decide) _ _ (k0_off7_eq k) (k0_off8_eq k) (k0_off7_inb i k hh) (k0_off8_inb i k hh) (by decide) _ (trip_word k) _ rfl r d) ?_
  refine View.allAt_cons_unit _ _ _ _ _ (tile_pair_masked _ _ _ _ X14 X15 X16 X17 k.val hk 2 (by decide) _ _ (k0_off5_eq k) (k0_off6_eq k) (k0_off5_inb i k hh) (k0_off6_inb i k hh) (by decide) _ (trip_word k) _ rfl r d) ?_
  refine View.allAt_cons_unit _ _ _ _ _ (tile_pair_masked _ _ _ _ X14 X15 X16 X17 k.val hk 1 (by decide) _ _ (k0_off3_eq k) (k0_off4_eq k) (k0_off3_inb i k hh) (k0_off4_inb i k hh) (by decide) _ (trip_word k) _ rfl r d) ?_
  refine View.allAt_cons_unit _ _ _ _ _ (tile_pair_masked _ _ _ _ X14 X15 X16 X17 k.val hk 0 (by decide) _ _ (k0_off1_eq k) (k0_off2_eq k) (k0_off1_inb i k hh) (k0_off2_inb i k hh) (by decide) _ (trip_word k) _ rfl r d) ?_
  exact View.allAt_nil _ _

/-- The pieces of the trips before `n` of the unmasked loop are the block's attention. -/
theorem pieces2_at (v26 : FVec Ideal S512x1024 .f32) (hh : k0_cond3 i = 1#1)
    (X14 : BufTy.Contents (Elt Ideal) arg14.view.ty) (X15 : BufTy.Contents (Elt Ideal) arg15.view.ty)
    (X16 : BufTy.Contents (Elt Ideal) arg16.view.ty) (X17 : BufTy.Contents (Elt Ideal) arg17.view.ty)
    (r : Fin 512) (d : Fin 1024) : ∀ n : ℕ, n ≤ k0_t2_loop.trips →
    View.AllAt (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 k0_pay57 k0_pay58 hh X14 X15 X16 X17 n)
      (ix2 r d) (blockAttend False (arg17.view.read (Elt Ideal) X17) (arg15.view.read (Elt Ideal) X15)
        (arg16.view.read (Elt Ideal) X16) (arg14.view.read (Elt Ideal) X14) r d)
  | 0, _ => View.allAt_nil _ _
  | n + 1, h => by
    rw [pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 k0_pay57 k0_pay58 hh X14 X15 X16 X17 ⟨n, h⟩]
    intro p hp
    rcases List.mem_append.mp hp with hp | hp
    · exact trip2_at 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 hh X14 X15 X16 X17 ⟨n, h⟩ r d p hp
    · exact pieces2_at v26 hh X14 X15 X16 X17 r d n (Nat.le_of_succ_le h) p hp

/-- What the unmasked loop leaves in the attention's buffer. -/
theorem loop2_at (v26 : FVec Ideal S512x1024 .f32) (hh : k0_cond3 i = 1#1)
    (X14 : BufTy.Contents (Elt Ideal) arg14.view.ty) (X15 : BufTy.Contents (Elt Ideal) arg15.view.ty)
    (X16 : BufTy.Contents (Elt Ideal) arg16.view.ty) (X17 : BufTy.Contents (Elt Ideal) arg17.view.ty)
    (r : Fin 512) (d : Fin 1024) :
    View.canon (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 k0_pay57 k0_pay58 hh X14 X15 X16 X17
        (Scf.trips k0_t2_loop.lb k0_t2_loop.ub k0_t2_loop.st)) (ix2 r d)
      = blockAttend False (arg17.view.read (Elt Ideal) X17) (arg15.view.read (Elt Ideal) X15)
        (arg16.view.read (Elt Ideal) X16) (arg14.view.read (Elt Ideal) X14) r d := by
  refine View.canon_eq_of_allAt _ _ _ ?_ (pieces2_at 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 hh X14 X15 X16 X17 r d _ (le_refl _))
  exact View.cover_of_tiledL (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 k0_pay57 k0_pay58 hh X14 X15 X16 X17
    (Scf.trips k0_t2_loop.lb k0_t2_loop.ub k0_t2_loop.st)) S256x128.size (by sl_kernel_rfl) (ix2 r d)

/-- The pieces of the trips before `n` of the masked loop are the block's attention. -/
theorem pieces1_at (arg1 : BitVec 32) (v26 : FVec Ideal S512x1024 .f32) (hh : k0_cond2 i = 1#1)
    (X14 : BufTy.Contents (Elt Ideal) arg14.view.ty) (X15 : BufTy.Contents (Elt Ideal) arg15.view.ty)
    (X16 : BufTy.Contents (Elt Ideal) arg16.view.ty) (X17 : BufTy.Contents (Elt Ideal) arg17.view.ty)
    (r : Fin 512) (d : Fin 1024) : ∀ n : ℕ, n ≤ k0_t1_loop.trips →
    View.AllAt (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 (iota .tc S1x768 32 [1] iota_S1x768_d1_w32) hh X14 X15 X16 X17 n)
      (ix2 r d) (blockAttend True (arg17.view.read (Elt Ideal) X17) (arg15.view.read (Elt Ideal) X15)
        (arg16.view.read (Elt Ideal) X16) (arg14.view.read (Elt Ideal) X14) r d)
  | 0, _ => View.allAt_nil _ _
  | n + 1, h => by
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 (iota .tc S1x768 32 [1] iota_S1x768_d1_w32) hh X14 X15 X16 X17 ⟨n, h⟩]
    intro p hp
    rcases List.mem_append.mp hp with hp | hp
    · exact trip1_at 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 hh X14 X15 X16 X17 ⟨n, h⟩ r d p hp
    · exact pieces1_at arg1 v26 hh X14 X15 X16 X17 r d n (Nat.le_of_succ_le h) p hp

/-- What the masked loop leaves in the attention's buffer. -/
theorem loop1_at (arg1 : BitVec 32) (v26 : FVec Ideal S512x1024 .f32) (hh : k0_cond2 i = 1#1)
    (X14 : BufTy.Contents (Elt Ideal) arg14.view.ty) (X15 : BufTy.Contents (Elt Ideal) arg15.view.ty)
    (X16 : BufTy.Contents (Elt Ideal) arg16.view.ty) (X17 : BufTy.Contents (Elt Ideal) arg17.view.ty)
    (r : Fin 512) (d : Fin 1024) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 (iota .tc S1x768 32 [1] iota_S1x768_d1_w32) hh X14 X15 X16 X17
        (Scf.trips k0_t1_loop.lb k0_t1_loop.ub k0_t1_loop.st)) (ix2 r d)
      = blockAttend True (arg17.view.read (Elt Ideal) X17) (arg15.view.read (Elt Ideal) X15)
        (arg16.view.read (Elt Ideal) X16) (arg14.view.read (Elt Ideal) X14) r d := by
  refine View.canon_eq_of_allAt _ _ _ ?_ (pieces1_at 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 hh X14 X15 X16 X17 r d _ (le_refl _))
  exact View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v26 (iota .tc S1x768 32 [1] iota_S1x768_d1_w32) hh X14 X15 X16 X17
    (Scf.trips k0_t1_loop.lb k0_t1_loop.ub k0_t1_loop.st)) S256x128.size (by sl_kernel_rfl) (ix2 r d)

end Cert.Attn

end
-- ==== Proof.Payload.lean ====
/-
  What the kernel's stored terms hold at an index: a head's tile of biases, the queries, the rows of keys and values, and
  the block of results.
-/
module

public import proofs.«01_k».proof.Proof.Gen.KernelIdeal.Skeleton
public import Idealize.ShloMosaic.Lib.Pointwise
public import proofs.«01_k».proof.Proof.Pair
public import proofs.«01_k».proof.Proof.RefOut
public import Idealize.ShloMosaic.PureOps.IdealRules

@[expose] public section

set_option maxRecDepth 16384

noncomputable section

namespace Cert.Attn

open Idealize.ShloMosaic Cert.KernelIdeal Cert.KernelIdeal.Gen
open Cert.KernelIdeal.Facts

/-- Key `j` of a chunk's window lies in the band of the chunk's row `r`. -/
def inBand (r : Fin 256) (j : Fin 768) : Prop := r.val / 64 * 64 ≤ j.val ∧ j.val < r.val / 64 * 64 + 576

/-- Whether a key lies in a row's band is decided by comparing numbers. -/
instance (r : Fin 256) (j : Fin 768) : Decidable (inBand r j) := by unfold inBand; infer_instance

/-- The first key of a row's band, as the kernel computes it. -/
def bandWord (r : Fin 256) : BitVec 32 :=
  (IntOp.muli
            (Scalar.select
              (IntOp.andi
                (IntOp.cmpi CmpIPredicate.ne
                  (IntOp.subi (BitVec.setWidth 32 (IntOp.cmpi CmpIPredicate.sgt (BitVec.ofNat 32 r.val) 0#32))
                    (BitVec.setWidth 32 (IntOp.cmpi CmpIPredicate.slt (BitVec.ofNat 32 r.val) 0#32)))
                  (Scalar.subi (Scalar.extui (Scalar.cmpi CmpIPredicate.sgt 64#32 0#32))
                    (Scalar.extui (Scalar.cmpi CmpIPredicate.slt 64#32 0#32))))
                (IntOp.cmpi CmpIPredicate.ne (IntOp.remsi ArithUnit.vector (BitVec.ofNat 32 r.val) 64#32) 0#32))
              (IntOp.subi (IntOp.divsi ArithUnit.vector (BitVec.ofNat 32 r.val) 64#32) 1#32)
              (IntOp.divsi ArithUnit.vector (BitVec.ofNat 32 r.val) 64#32))
            64#32)

/-- The first key of a row's band is the first key of its group of 64 rows. -/
theorem bandWord_eq : ∀ r : Fin 256, bandWord r = BitVec.ofNat 32 (r.val / 64 * 64) := by decide +kernel

/-- The kernel's two comparisons of a key say that it is one of the 576 keys from its group's first. -/
theorem band_case : ∀ (u : Fin 4) (j : Fin 768),
    IntOp.andi
      (IntOp.cmpi CmpIPredicate.sge (IntOp.subi (BitVec.ofNat 32 j.val) 512#32)
        (IntOp.subi (BitVec.ofNat 32 (u.val * 64)) 512#32))
      (IntOp.cmpi CmpIPredicate.slt (IntOp.subi (BitVec.ofNat 32 j.val) 512#32)
        (IntOp.addi (BitVec.ofNat 32 (u.val * 64)) 64#32))
      = if u.val * 64 ≤ j.val ∧ j.val < u.val * 64 + 576 then 1#1 else 0#1 := by decide +kernel

/-- The kernel's mask of a chunk's scores: the row's band. -/
theorem band_bit (r : Fin 256) (j : Fin 768) :
    k0_pay1 (ix2 r j) = if inBand r j then 1#1 else 0#1 := by
  pointwise [k0_pay1]
  refine Eq.trans ?_ (band_case ⟨r.val / 64, by omega⟩ j)
  rw [← bandWord_eq r]
  rfl

/-- A head's bias at a row and a key of its window: the head's vector of relative biases, at the key's distance from the
    row; the keys out of the row's band are masked. -/
theorem bias_piece (v : Vec Ideal S1x1024 .f32) (r : Fin 256) (j : Fin 768) :
    k0_pay4 (F := Ideal) k0_pay1 v (ix3 0 r j)
      = if inBand r j then v (ix2 0 ⟨(j.val + 1024 - r.val) % 1024, by omega⟩) else ⊥ := by
  pointwise [k0_pay4]
  rw [band_bit, IdealRules.named_const.ideal_named_scalar _ _ _ _ rfl]
  have e : (j.val + 1024 - r.val % 1024) % 1024 = (j.val + 1024 - r.val) % 1024 := by omega
  simp only [e]
  by_cases h : inBand r j
  · simp only [if_pos h]; rfl
  · simp only [if_neg h]; rfl

/-- The queries that a step computes: the modulated rows times the query weights. -/
theorem query_pay (x : Vec Ideal S1x512x1024 .f32) (v27 v33 : Vec Ideal S1x1x1024 .f32) (w : Vec Ideal S1024x1024 .bf16)
    (r : Fin 512) (d : Fin 1024) :
    k0_pay56 (F := Ideal) (k0_pay55 x) v27 v33 w (ix2 r d)
      = (∑ e : Fin 1024, (x (ix3 0 r e) * (Ideal.ofBits .f32 0x3F800000#32 + v27 (ix3 0 0 e)) + v33 (ix3 0 0 e)) * w (ix2 e d))
          * Ideal.ofBits .f32 0x3E000000#32 := by
  pointwise [k0_pay56, k0_pay55]

/-- Keys and values are laid into the window as they are. -/
theorem keys_pay (x : Vec Ideal S1x512x1024 .bf16) (r : Fin 512) (d : Fin 1024) :
    k0_pay51 (F := Ideal) x (ix2 r d) = x (ix3 0 r d) := by
  pointwise [k0_pay51]

/-- The residual sum at a row of a block. -/
def blockResidual (x : Vec Ideal S1x512x1024 .f32) (gate : Vec Ideal S1x1x1024 .f32) (w : Vec Ideal S1024x1024 .bf16)
    (a : Fin 1024 → EReal) (r : Fin 512) (d : Fin 1024) : EReal :=
  Ideal.ofBits .f32 0x3FD744FD#32 * x (ix3 0 r d) + gate (ix3 0 0 d) * ∑ k : Fin 1024, a k * w (ix2 k d)

/-- The sum that a step normalises, from its rows and its attention. -/
def sumPay (v26 : FVec Ideal S512x1024 .f32) (v64 : FVec Ideal S512x1024 .bf16)
    (v65 : FVec Ideal S1024x1024 .bf16) (v69 : FVec Ideal S1x1x1024 .f32) : FVec Ideal S512x1024 .f32 :=
  addf (mulf (broadcast S512x1024 (Scalar.ofBits .f32 0x3FD744FD#32)) v26) (mulf (broadcastTo S512x1024 (shapeCast S1x1024 v69 shapeCasts_S1x1x1024_S1x1024) broadcasts_S1x1024_S512x1024)
    (matmul dot_S512x1024_S1024x1024_S512x1024_1_0_0_1_n_n none v64 v65 (constant S512x1024 .f32 0x00000000#32)))

/-- The sum that a step normalises, at a row and a column. -/
theorem sumPay_apply (x : Vec Ideal S1x512x1024 .f32) (a : Vec Ideal S512x1024 .bf16) (w : Vec Ideal S1024x1024 .bf16)
    (gate : Vec Ideal S1x1x1024 .f32) (r : Fin 512) (d : Fin 1024) :
    sumPay (k0_pay55 x) a w gate (ix2 r d) = blockResidual x gate w (fun k => a (ix2 r k)) r d := by
  unfold blockResidual
  pointwise [sumPay, k0_pay55]

/-- The rows of a block normalized, scaled and shifted. -/
def normPay (v73 : FVec Ideal S512x1024 .f32) (v74 v76 : Vec Ideal S1x1024 .f32) : FVec Ideal S1x512x1024 .f32 :=
  have mean : FVec Ideal S512x1 .f32 := divf (shapeCast S512x1
    (multiReduction .add [1] S512 v73 0x00000000#32 reduces_S512x1024_S512 (.inl rfl) rfl) shapeCasts_S512_S512x1)
    (broadcast S512x1 (Scalar.ofBits .f32 0x44800000#32))
  have v83 : FVec Ideal S512x1024 .f32 := subf v73 (broadcastTo S512x1024 mean broadcasts_S512x1_S512x1024)
  have var : FVec Ideal S512x1 .f32 := divf (shapeCast S512x1
    (multiReduction .add [1] S512 (mulf v83 v83) 0x00000000#32 reduces_S512x1024_S512 (.inl rfl) rfl) shapeCasts_S512_S512x1)
    (broadcast S512x1 (Scalar.ofBits .f32 0x44800000#32))
  have v93 : FVec Ideal S512x1024 .f32 := mulf v83 (broadcastTo S512x1024
    (rsqrt (addf var (broadcast S512x1 (Scalar.ofBits .f32 0x3727C5AC#32)))) broadcasts_S512x1_S512x1024)
  shapeCast S1x512x1024 (addf (mulf v93 (broadcastTo S512x1024 (shapeCast S1x1024 v74 shapeCasts_S1x1024_S1x1024)
      broadcasts_S1x1024_S512x1024))
    (broadcastTo S512x1024 (shapeCast S1x1024 v76 shapeCasts_S1x1024_S1x1024) broadcasts_S1x1024_S512x1024))
    shapeCasts_S512x1024_S1x512x1024

/-- The normalised rows of a step are the plain normalisation's. -/
theorem normPay_apply (h : FVec Ideal S512x1024 .f32) (g s : Vec Ideal S1x1024 .f32) (r : Fin 512) (d : Fin 1024) :
    normPay h g s (ix3 0 r d)
      = layerNorm (fun d => h (ix2 r d)) (fun d => g (ix2 0 d)) (fun d => s (ix2 0 d)) d := by
  unfold layerNorm
  pointwise [normPay]

/-- The kernel's block of results at an index. -/
theorem out_pay (x : Vec Ideal S1x512x1024 .f32) (a : Vec Ideal S512x1024 .bf16) (w : Vec Ideal S1024x1024 .bf16)
    (gate : Vec Ideal S1x1x1024 .f32) (g s : Vec Ideal S1x1024 .f32) (r : Fin 512) (d : Fin 1024) :
    k0_pay61 (F := Ideal) (k0_pay55 x) a w gate g s (ix3 0 r d)
      = layerNorm (blockResidual x gate w (fun k => a (ix2 r k)) r) (fun d => g (ix2 0 d)) (fun d => s (ix2 0 d)) d := by
  have e : k0_pay61 (F := Ideal) (k0_pay55 x) a w gate g s = normPay (sumPay (k0_pay55 x) a w gate) g s := rfl
  rw [e, normPay_apply]
  simp only [sumPay_apply]

end Cert.Attn

end
-- ==== Proof.Block.lean ====
/-
  What the kernel's body leaves in the output's block and in its bias buffer.
-/
module

public import proofs.«01_k».proof.Proof.KI.Frame
public import proofs.«01_k».proof.Proof.Loop
public import proofs.«01_k».proof.Proof.Payload
public import Idealize.ShloMosaic.Lib.Pipeline.ValueKit

@[expose] public section

set_option maxRecDepth 16384

noncomputable section

namespace Cert.Attn

open Idealize.ShloMosaic Idealize.ShloMosaic.TcCoe Idealize.ShloMosaic.Tactic Cert.KernelIdeal Cert.KernelIdeal.Gen
open Cert.KernelIdeal.Facts

/-- A load of a whole window's contents, at an index. -/
theorem readAt_unread {s : Shape} {e : EltTy} {arg : Memref sig .tc .vmem s e} (h : arg.IsWhole) (B : LoadRect s)
    (x : Vec Ideal s e) : View.readAt (Elt Ideal) arg.view B (h.unread x) = fun j => x (B.idx j) := by
  funext j
  rw [View.readAt_apply, h.read_unread]

/-- The rectangle that is a whole two-dimensional shape keeps the index. -/
theorem idx_whole2 {m n : Nat} (inb : ∀ a, (![0, 0] : Fin 2 → Nat) a + (![m, n] : Fin 2 → Nat) a ≤ (⟨2, ![m, n]⟩ : Shape).size a)
    (y : (⟨2, ![m, n]⟩ : Shape).Idx) :
    (Rect.unit (s := (⟨2, ![m, n]⟩ : Shape)) ![0, 0] ![m, n] inb).toLoadRect.idx y = y := by
  funext a
  refine Fin.ext ?_
  match a with
  | ⟨0, _⟩ => show 0 + 1 * (y 0).val = (y 0).val; omega
  | ⟨1, _⟩ => show 0 + 1 * (y 1).val = (y 1).val; omega

/-- The rectangle that is a whole three-dimensional shape keeps the index. -/
theorem idx_whole3 {l m n : Nat}
    (inb : ∀ a, (![0, 0, 0] : Fin 3 → Nat) a + (![l, m, n] : Fin 3 → Nat) a ≤ (⟨3, ![l, m, n]⟩ : Shape).size a)
    (y : (⟨3, ![l, m, n]⟩ : Shape).Idx) :
    (Rect.unit (s := (⟨3, ![l, m, n]⟩ : Shape)) ![0, 0, 0] ![l, m, n] inb).toLoadRect.idx y = y := by
  funext a
  refine Fin.ext ?_
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A row of the modulation's block, at an index. -/
theorem idx_row (k : Fin 6) (inb : ∀ a, (![0, k.val, 0] : Fin 3 → Nat) a + (![1, 1, 1024] : Fin 3 → Nat) a ≤ S1x6x1024.size a)
    (e : Fin 1024) :
    (Rect.unit (s := S1x6x1024) ![0, k.val, 0] ![1, 1, 1024] inb).toLoadRect.idx (ix3 0 0 e : S1x1x1024.Idx) = ix3 0 k e := by
  funext a
  refine Fin.ext ?_
  match a with
  | ⟨0, _⟩ => rfl
  | ⟨1, _⟩ => show k.val + 1 * 0 = k.val; omega
  | ⟨2, _⟩ => show 0 + 1 * e.val = e.val; omega

/-- The scaled queries of a block. -/
def blockQuery (x0 : Vec Ideal S1x512x1024 .f32) (x1 : Vec Ideal S1x6x1024 .f32) (x7 : Vec Ideal S1024x1024 .bf16)
    (y : S512x1024.Idx) : EReal :=
  (∑ e : Fin 1024, (x0 (ix3 0 (y 0) e) * (Ideal.ofBits .f32 0x3F800000#32 + x1 (ix3 0 1 e)) + x1 (ix3 0 0 e)) * x7 (ix2 e (y 1)))
    * Ideal.ofBits .f32 0x3E000000#32

/-- The rows of the block before, then of the block itself. -/
def joined (a b : Vec Ideal S1x512x1024 .bf16) (y : S1024x1024.Idx) : EReal :=
  if h : (y 0).val < 512 then a (ix3 0 ⟨(y 0).val, h⟩ (y 1)) else b (ix3 0 ⟨(y 0).val - 512, by have := (y 0).isLt; change _ < 1024 at this; omega⟩ (y 1))

/-- The block of results, from the attention of its rows. -/
def blockOut (x0 : Vec Ideal S1x512x1024 .f32) (x1 : Vec Ideal S1x6x1024 .f32) (x8 : Vec Ideal S1024x1024 .bf16)
    (x9 x10 : Vec Ideal S1x1024 .f32) (a : Fin 1024 → EReal) (r : Fin 512) (d : Fin 1024) : EReal :=
  layerNorm (blockResidual x0 (fun y => x1 (ix3 0 2 (y 2))) x8 a r) (fun d => x9 (ix2 0 d)) (fun d => x10 (ix2 0 d)) d

/-- Two halves of 512 rows written into a buffer hold the joined rows. -/
theorem canon_joined (a b : Vec Ideal S1x512x1024 .bf16) (w0 w1 : S512x1024.Idx → EReal)
    (h0 : ∀ r d, w0 (ix2 r d) = a (ix3 0 r d)) (h1 : ∀ r d, w1 (ix2 r d) = b (ix3 0 r d)) (y : S1024x1024.Idx) :
    View.canon (Val := Elt Ideal) (e := EltTy.bf16)
      [⟨Rect.unit (s := S1024x1024) ![512, 0] ![512, 1024] inb_S1024x1024_S512x1024_512_0, w1⟩,
        ⟨Rect.unit (s := S1024x1024) ![0, 0] ![512, 1024] inb_S1024x1024_S512x1024_0_0, w0⟩] y = joined a b y := by
  refine View.canon_eq_of_allAt _ _ _ (View.cover_of_tiledL (s := S1024x1024) _ S512x1024.size (by sl_kernel_rfl) y) ?_
  refine View.allAt_cons_unit _ _ _ _ _ ?_ (View.allAt_cons_unit _ _ _ _ _ ?_ (View.allAt_nil _ _))
  · intro x hx
    have hy0 : (y 0).val = 512 + (x 0).val := hx 0
    have hy1 : (y 1).val = 0 + (x 1).val := hx 1
    have hx' : x = ix2 (x 0) (x 1) := by
      funext k
      match k with
      | ⟨0, _⟩ => rfl
      | ⟨1, _⟩ => rfl
    rw [hx']
    refine (h1 _ _).trans ?_
    unfold joined
    rw [dif_neg (by omega)]
    congr 2
    · exact Fin.ext (by show (x 0).val = (y 0).val - 512; omega)
    · exact Fin.ext (by show (x 1).val = (y 1).val; omega)
  · intro x hx
    have hx0 : (x 0).val < 512 := (x 0).isLt
    have hy0 : (y 0).val = 0 + (x 0).val := hx 0
    have hy1 : (y 1).val = 0 + (x 1).val := hx 1
    have hx' : x = ix2 (x 0) (x 1) := by
      funext k
      match k with
      | ⟨0, _⟩ => rfl
      | ⟨1, _⟩ => rfl
    rw [hx']
    refine (h0 _ _).trans ?_
    unfold joined
    rw [dif_pos (by omega)]
    congr 2
    · exact Fin.ext (by show (x 0).val = (y 0).val; omega)
    · exact Fin.ext (by show (x 1).val = (y 1).val; omega)

/-- The block's scaled queries, as the kernel stores them. -/
theorem canon_query (arg3 : Memref sig .tc .vmem S1x6x1024 .f32) (harg3 : arg3.IsWhole)
    (arg9 : Memref sig .tc .vmem S1024x1024 .bf16) (harg9 : arg9.IsWhole)
    (x0 : Vec Ideal S1x512x1024 .f32) (x1 : Vec Ideal S1x6x1024 .f32) (x7 : Vec Ideal S1024x1024 .bf16) (y : S512x1024.Idx) :
    View.canon (Val := Elt Ideal) (e := EltTy.bf16)
      [⟨Rect.unit (s := S512x1024) ![0, 0] S512x1024.size inb_S512x1024_S512x1024_0_0,
          k0_pay56 (F := Ideal) (k0_pay55 x0)
            (View.readAt (Elt Ideal) arg3.view
              (Rect.unit (s := S1x6x1024) ![0, 1, 0] S1x1x1024.size inb_S1x6x1024_S1x1x1024_0_1_0).toLoadRect (harg3.unread x1))
            (View.readAt (Elt Ideal) arg3.view
              (Rect.unit (s := S1x6x1024) ![0, 0, 0] S1x1x1024.size inb_S1x6x1024_S1x1x1024_0_0_0).toLoadRect (harg3.unread x1))
            (View.readAt (Elt Ideal) arg9.view
              (Rect.unit (s := S1024x1024) ![0, 0] S1024x1024.size inb_S1024x1024_S1024x1024_0_0).toLoadRect (harg9.unread x7))⟩]
      y = blockQuery x0 x1 x7 y := by
  rw [View.canon_cons_unit_lit _ _ _ (by decide)]
  have hy : y = ix2 (y 0) (y 1) := by
    funext k
    match k with
    | ⟨0, _⟩ => rfl
    | ⟨1, _⟩ => rfl
  rw [hy]
  refine (query_pay x0 _ _ _ (y 0) (y 1)).trans ?_
  unfold blockQuery
  simp only [readAt_unread]
  congr 1
  refine Finset.sum_congr rfl fun e _ => ?_
  congr 1
  · congr 1
    · congr 1
      exact congrArg (Ideal.ofBits .f32 0x3F800000#32 + ·) (congrArg x1 (idx_row 1 _ e))
    · exact congrArg x1 (idx_row 0 _ e)
  · exact congrArg x7 (idx_whole2 _ _)

/-- The biases of a block, from the heads' vectors of relative biases: masked out of each row's band. -/
def blockBias (x6 : Vec Ideal S16x1024 .f32) (y : S8x512x768.Idx) : EReal :=
  if inBand ⟨(y 1).val % 256, by omega⟩ (⟨(y 2).val, (y 2).isLt⟩ : Fin 768) then
    x6 (ix2 ⟨2 * (y 0).val + (y 1).val / 256, by
      have h0 : (y 0).val < 8 := (y 0).isLt
      have h1 : (y 1).val < 512 := (y 1).isLt
      omega⟩ ⟨((y 2).val + 1024 - (y 1).val % 256) % 1024, by omega⟩)
  else ⊥

/-- The tile stored for head `n = 2 p + h` is the block's biases there. -/
theorem tile_bias (arg8 : Memref sig .tc .vmem S16x1024 .f32) (harg8 : arg8.IsWhole) (x6 : Vec Ideal S16x1024 .f32)
    (n p h o : ℕ) (hn : n = 2 * p + h) (ho : o = h * 256) (hh : h < 2)
    (inb : ∀ a, (![n, 0] : Fin 2 → ℕ) a + S1x1024.size a ≤ S16x1024.size a) (w : (⟨3, ![1, 256, 768]⟩ : Shape).Idx → EReal)
    (hw : w = k0_pay4 (F := Ideal) k0_pay1 (View.readAt (Elt Ideal) arg8.view
      (Rect.unit (s := S16x1024) ![n, 0] S1x1024.size inb).toLoadRect (harg8.unread x6))) (y : S8x512x768.Idx) :
    View.TileAt (Val := Elt Ideal) (S := S8x512x768) (e := .f32) y ![p, o, 0] ![1, 256, 768] w (blockBias x6 y) := by
  subst hw ho hn
  intro x hx
  have hx0 : (x 0).val < 1 := (x 0).isLt
  have hx1 : (x 1).val < 256 := (x 1).isLt
  have hy0 : (y 0).val = p + (x 0).val := hx 0
  have hy1 : (y 1).val = h * 256 + (x 1).val := hx 1
  have hy2 : (y 2).val = 0 + (x 2).val := hx 2
  have hx' : x = ix3 0 (x 1) (x 2) := by
    funext k
    match k with
    | ⟨0, _⟩ => exact Fin.ext (by show (x 0).val = 0; omega)
    | ⟨1, _⟩ => rfl
    | ⟨2, _⟩ => rfl
  rw [hx']
  refine (bias_piece _ (x 1) (x 2)).trans ?_
  unfold blockBias
  have e1 : (⟨(y 1).val % 256, by omega⟩ : Fin 256) = x 1 := Fin.ext (by show (y 1).val % 256 = (x 1).val; omega)
  have e2 : (⟨(y 2).val, (y 2).isLt⟩ : Fin 768) = x 2 := Fin.ext (by show (y 2).val = (x 2).val; omega)
  rw [e1, e2, readAt_unread]
  by_cases hb : inBand (x 1) (x 2)
  · rw [if_pos hb, if_pos hb]
    refine congrArg x6 ?_
    funext a
    refine Fin.ext ?_
    match a with
    | ⟨0, _⟩ => show 2 * p + h + 1 * 0 = 2 * (y 0).val + (y 1).val / 256; omega
    | ⟨1, _⟩ =>
      show 0 + 1 * (((x 2).val + 1024 - (x 1).val) % 1024) = ((y 2).val + 1024 - (y 1).val % 256) % 1024
      rw [hy2, hy1]
      have : (h * 256 + (x 1).val) % 256 = (x 1).val := by omega
      rw [this]
      omega
  · rw [if_neg hb, if_neg hb]

/-- The biases the first block of all makes. -/
theorem bias_made (c : Dev nD) (arg8 : Memref sig .tc .vmem S16x1024 .f32) (harg8 : arg8.IsWhole)
    (x6 : Vec Ideal S16x1024 .f32) (y : S8x512x768.Idx) :
    View.canon (kernelRun0_A.sl.HS0_16 (F := Ideal) c arg8 harg8 x6) y = blockBias x6 y := by
  refine View.canon_eq_of_allAt _ _ _ (View.cover_of_tiledL (s := S8x512x768) _ S1x256x768.size (by sl_kernel_rfl) y) ?_
  unfold kernelRun0_A.sl.HS0_16
  refine View.allAt_cons_unit _ _ _ _ _ (tile_bias arg8 harg8 x6 15 7 1 256 (by decide) (by decide) (by decide) inb_S16x1024_S1x1024_15_0 _ rfl y) ?_
  refine View.allAt_cons_unit _ _ _ _ _ (tile_bias arg8 harg8 x6 14 7 0 0 (by decide) (by decide) (by decide) inb_S16x1024_S1x1024_14_0 _ rfl y) ?_
  refine View.allAt_cons_unit _ _ _ _ _ (tile_bias arg8 harg8 x6 13 6 1 256 (by decide) (by decide) (by decide) inb_S16x1024_S1x1024_13_0 _ rfl y) ?_
  refine View.allAt_cons_unit _ _ _ _ _ (tile_bias arg8 harg8 x6 12 6 0 0 (by decide) (by decide) (by decide) inb_S16x1024_S1x1024_12_0 _ rfl y) ?_
  refine View.allAt_cons_unit _ _ _ _ _ (tile_bias arg8 harg8 x6 11 5 1 256 (by decide) (by decide) (by decide) inb_S16x1024_S1x1024_11_0 _ rfl y) ?_
  refine View.allAt_cons_unit _ _ _ _ _ (tile_bias arg8 harg8 x6 10 5 0 0 (by decide) (by decide) (by decide) inb_S16x1024_S1x1024_10_0 _ rfl y) ?_
  refine View.allAt_cons_unit _ _ _ _ _ (tile_bias arg8 harg8 x6 9 4 1 256 (by decide) (by decide) (by decide) inb_S16x1024_S1x1024_9_0 _ rfl y) ?_
  refine View.allAt_cons_unit _ _ _ _ _ (tile_bias arg8 harg8 x6 8 4 0 0 (by decide) (by decide) (by decide) inb_S16x1024_S1x1024_8_0 _ rfl y) ?_
  refine View.allAt_cons_unit _ _ _ _ _ (tile_bias arg8 harg8 x6 7 3 1 256 (by decide) (by decide) (by decide) inb_S16x1024_S1x1024_7_0 _ rfl y) ?_
  refine View.allAt_cons_unit _ _ _ _ _ (tile_bias arg8 harg8 x6 6 3 0 0 (by decide) (by decide) (by decide) inb_S16x1024_S1x1024_6_0 _ rfl y) ?_
  refine View.allAt_cons_unit _ _ _ _ _ (tile_bias arg8 harg8 x6 5 2 1 256 (by decide) (by decide) (by decide) inb_S16x1024_S1x1024_5_0 _ rfl y) ?_
  refine View.allAt_cons_unit _ _ _ _ _ (tile_bias arg8 harg8 x6 4 2 0 0 (by decide) (by decide) (by decide) inb_S16x1024_S1x1024_4_0 _ rfl y) ?_
  refine View.allAt_cons_unit _ _ _ _ _ (tile_bias arg8 harg8 x6 3 1 1 256 (by decide) (by decide) (by decide) inb_S16x1024_S1x1024_3_0 _ rfl y) ?_
  refine View.allAt_cons_unit _ _ _ _ _ (tile_bias arg8 harg8 x6 2 1 0 0 (by decide) (by decide) (by decide) inb_S16x1024_S1x1024_2_0 _ rfl y) ?_
  refine View.allAt_cons_unit _ _ _ _ _ (tile_bias arg8 harg8 x6 1 0 1 256 (by decide) (by decide) (by decide) inb_S16x1024_S1x1024_1_0 _ rfl y) ?_
  refine View.allAt_cons_unit _ _ _ _ _ (tile_bias arg8 harg8 x6 0 0 0 0 (by decide) (by decide) (by decide) inb_S16x1024_S1x1024_0_0 _ rfl y) ?_
  exact View.allAt_nil _ _

/-- What case B leaves in the output's block: the attention of its rows, unmasked, over the biases held. -/
theorem out_B (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : ¬cond0_0 i) (hc1 : ¬cond0_1 i) (hc2 : cond0_2 i)
    (x0 : Vec Ideal S1x512x1024 .f32) (x1 : Vec Ideal S1x6x1024 .f32) (x2 x3 x4 x5 : Vec Ideal S1x512x1024 .bf16)
    (x6 : Vec Ideal S16x1024 .f32) (x7 x8 : Vec Ideal S1024x1024 .bf16) (x9 x10 : Vec Ideal S1x1024 .f32) (xs0 : Vec Ideal S8x512x768 .f32) (r : Fin 512) (d : Fin 1024) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0 (ix3 0 r d)
      = blockOut x0 x1 x8 x9 x10 (blockAttend False (blockQuery x0 x1 x7) (joined x2 x3) (joined x4 x5) xs0 r) r d := by
  unfold out0_B_11
  rw [View.read_writes_junk_eq_canon]
  unfold kernelRun0_B
  dsimp only
  rw [View.canon_cons_unit_lit _ _ _ (by decide)]
  have e0 : kernelRun0_B.sl.r c arg2 harg2 x0 = k0_pay55 x0 := by
    unfold kernelRun0_B.sl.r
    rw [readAt_unread]
    simp only [idx_whole3]
  rw [e0, out_pay]
  unfold blockOut
  simp only [readAt_unread, idx_whole2]
  have hq : ∀ y, arg17.view.read (Elt Ideal) (arg17.view.writes (Elt Ideal) arg17.view.junk
      (kernelRun0_B.sl.HS3_1 c arg2 harg2 arg3 harg3 arg9 harg9 x0 x1 x7)) y = blockQuery x0 x1 x7 y := by
    intro y
    rw [View.read_writes_junk_eq_canon]
    unfold kernelRun0_B.sl.HS3_1
    rw [e0]
    exact canon_query arg3 harg3 arg9 harg9 x0 x1 x7 y
  have hk : ∀ y, arg15.view.read (Elt Ideal) (arg15.view.writes (Elt Ideal) arg15.view.junk
      (kernelRun0_B.sl.HS1_2 c arg4 harg4 arg5 harg5 x2 x3)) y = joined x2 x3 y := by
    intro y
    rw [View.read_writes_junk_eq_canon]
    unfold kernelRun0_B.sl.HS1_2
    simp only [readAt_unread, idx_whole3]
    exact canon_joined x2 x3 _ _ (keys_pay x2) (keys_pay x3) y
  have hv : ∀ y, arg16.view.read (Elt Ideal) (arg16.view.writes (Elt Ideal) arg16.view.junk
      (kernelRun0_B.sl.HS2_2 c arg6 harg6 arg7 harg7 x4 x5)) y = joined x4 x5 y := by
    intro y
    rw [View.read_writes_junk_eq_canon]
    unfold kernelRun0_B.sl.HS2_2
    simp only [readAt_unread, idx_whole3]
    exact canon_joined x4 x5 _ _ (keys_pay x4) (keys_pay x5) y
  congr 1
  unfold blockResidual
  funext d'
  congr 2
  · exact congrArg x1 (idx_row 2 _ d')
  · refine Finset.sum_congr rfl fun k _ => ?_
    congr 1
    rw [View.readCov_eq_canon']
    dsimp only
    rw [idx_whole2]
    refine (loop2_at Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay55 x0) hc2 _ _ _ _ r k).trans ?_
    simp only [funext hq, funext hk, funext hv, harg14.read_unread]

/-- What case C leaves in the output's block: a sequence's first block: the keys before it masked, over the biases held. -/
theorem out_C (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : ¬cond0_0 i) (hc1 : cond0_1 i) (hc2 : ¬cond0_2 i)
    (x0 : Vec Ideal S1x512x1024 .f32) (x1 : Vec Ideal S1x6x1024 .f32) (x2 x3 x4 x5 : Vec Ideal S1x512x1024 .bf16)
    (x6 : Vec Ideal S16x1024 .f32) (x7 x8 : Vec Ideal S1024x1024 .bf16) (x9 x10 : Vec Ideal S1x1024 .f32) (xs0 : Vec Ideal S8x512x768 .f32) (r : Fin 512) (d : Fin 1024) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0 (ix3 0 r d)
      = blockOut x0 x1 x8 x9 x10 (blockAttend True (blockQuery x0 x1 x7) (joined x2 x3) (joined x4 x5) xs0 r) r d := by
  unfold out0_C_11
  rw [View.read_writes_junk_eq_canon]
  unfold kernelRun0_C
  dsimp only
  rw [View.canon_cons_unit_lit _ _ _ (by decide)]
  have e0 : kernelRun0_C.sl.r c arg2 harg2 x0 = k0_pay55 x0 := by
    unfold kernelRun0_C.sl.r
    rw [readAt_unread]
    simp only [idx_whole3]
  rw [e0, out_pay]
  unfold blockOut
  simp only [readAt_unread, idx_whole2]
  have hq : ∀ y, arg17.view.read (Elt Ideal) (arg17.view.writes (Elt Ideal) arg17.view.junk
      (kernelRun0_C.sl.HS3_1 c arg2 harg2 arg3 harg3 arg9 harg9 x0 x1 x7)) y = blockQuery x0 x1 x7 y := by
    intro y
    rw [View.read_writes_junk_eq_canon]
    unfold kernelRun0_C.sl.HS3_1
    rw [e0]
    exact canon_query arg3 harg3 arg9 harg9 x0 x1 x7 y
  have hk : ∀ y, arg15.view.read (Elt Ideal) (arg15.view.writes (Elt Ideal) arg15.view.junk
      (kernelRun0_C.sl.HS1_2 c arg4 harg4 arg5 harg5 x2 x3)) y = joined x2 x3 y := by
    intro y
    rw [View.read_writes_junk_eq_canon]
    unfold kernelRun0_C.sl.HS1_2
    simp only [readAt_unread, idx_whole3]
    exact canon_joined x2 x3 _ _ (keys_pay x2) (keys_pay x3) y
  have hv : ∀ y, arg16.view.read (Elt Ideal) (arg16.view.writes (Elt Ideal) arg16.view.junk
      (kernelRun0_C.sl.HS2_2 c arg6 harg6 arg7 harg7 x4 x5)) y = joined x4 x5 y := by
    intro y
    rw [View.read_writes_junk_eq_canon]
    unfold kernelRun0_C.sl.HS2_2
    simp only [readAt_unread, idx_whole3]
    exact canon_joined x4 x5 _ _ (keys_pay x4) (keys_pay x5) y
  congr 1
  unfold blockResidual
  funext d'
  congr 2
  · exact congrArg x1 (idx_row 2 _ d')
  · refine Finset.sum_congr rfl fun k _ => ?_
    congr 1
    rw [View.readCov_eq_canon']
    dsimp only
    rw [idx_whole2]
    refine (loop1_at Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ (k0_pay55 x0) hc1 _ _ _ _ r k).trans ?_
    simp only [funext hq, funext hk, funext hv, harg14.read_unread]

/-- What case A leaves in the output's block: the first block of all: the keys before it masked, over the biases it makes. -/
theorem out_A (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : cond0_0 i) (hc1 : cond0_1 i) (hc2 : ¬cond0_2 i)
    (x0 : Vec Ideal S1x512x1024 .f32) (x1 : Vec Ideal S1x6x1024 .f32) (x2 x3 x4 x5 : Vec Ideal S1x512x1024 .bf16)
    (x6 : Vec Ideal S16x1024 .f32) (x7 x8 : Vec Ideal S1024x1024 .bf16) (x9 x10 : Vec Ideal S1x1024 .f32) (r : Fin 512) (d : Fin 1024) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 (ix3 0 r d)
      = blockOut x0 x1 x8 x9 x10 (blockAttend True (blockQuery x0 x1 x7) (joined x2 x3) (joined x4 x5) (blockBias x6) r) r d := by
  unfold out0_A_11
  rw [View.read_writes_junk_eq_canon]
  unfold kernelRun0_A
  dsimp only
  rw [View.canon_cons_unit_lit _ _ _ (by decide)]
  have e0 : kernelRun0_A.sl.r_4 c arg2 harg2 x0 = k0_pay55 x0 := by
    unfold kernelRun0_A.sl.r_4
    rw [readAt_unread]
    simp only [idx_whole3]
  rw [e0, out_pay]
  unfold blockOut
  simp only [readAt_unread, idx_whole2]
  have hq : ∀ y, arg17.view.read (Elt Ideal) (arg17.view.writes (Elt Ideal) arg17.view.junk
      (kernelRun0_A.sl.HS3_1 c arg2 harg2 arg3 harg3 arg9 harg9 x0 x1 x7)) y = blockQuery x0 x1 x7 y := by
    intro y
    rw [View.read_writes_junk_eq_canon]
    unfold kernelRun0_A.sl.HS3_1
    rw [e0]
    exact canon_query arg3 harg3 arg9 harg9 x0 x1 x7 y
  have hk : ∀ y, arg15.view.read (Elt Ideal) (arg15.view.writes (Elt Ideal) arg15.view.junk
      (kernelRun0_A.sl.HS1_2 c arg4 harg4 arg5 harg5 x2 x3)) y = joined x2 x3 y := by
    intro y
    rw [View.read_writes_junk_eq_canon]
    unfold kernelRun0_A.sl.HS1_2
    simp only [readAt_unread, idx_whole3]
    exact canon_joined x2 x3 _ _ (keys_pay x2) (keys_pay x3) y
  have hv : ∀ y, arg16.view.read (Elt Ideal) (arg16.view.writes (Elt Ideal) arg16.view.junk
      (kernelRun0_A.sl.HS2_2 c arg6 harg6 arg7 harg7 x4 x5)) y = joined x4 x5 y := by
    intro y
    rw [View.read_writes_junk_eq_canon]
    unfold kernelRun0_A.sl.HS2_2
    simp only [readAt_unread, idx_whole3]
    exact canon_joined x4 x5 _ _ (keys_pay x4) (keys_pay x5) y
  have hb : ∀ y, arg14.view.read (Elt Ideal) (arg14.view.writes (Elt Ideal) arg14.view.junk
      (kernelRun0_A.sl.HS0_16 c arg8 harg8 x6)) y = blockBias x6 y := by
    intro y
    rw [View.read_writes_junk_eq_canon]
    exact bias_made c arg8 harg8 x6 y
  congr 1
  unfold blockResidual
  funext d'
  congr 2
  · exact congrArg x1 (idx_row 2 _ d')
  · refine Finset.sum_congr rfl fun k _ => ?_
    congr 1
    rw [View.readCov_eq_canon']
    dsimp only
    rw [idx_whole2]
    refine (loop1_at Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ (k0_pay55 x0) hc1 _ _ _ _ r k).trans ?_
    simp only [funext hq, funext hk, funext hv, funext hb]

/-- What case A leaves in the bias buffer. -/
theorem sout_A (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S16x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x512x768 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S512x1024 .bf16) (harg18 : arg18.IsWhole) (hc0 : cond0_0 i) (hc1 : cond0_1 i) (hc2 : ¬cond0_2 i)
    (x0 : Vec Ideal S1x512x1024 .f32) (x1 : Vec Ideal S1x6x1024 .f32) (x2 x3 x4 x5 : Vec Ideal S1x512x1024 .bf16)
    (x6 : Vec Ideal S16x1024 .f32) (x7 x8 : Vec Ideal S1024x1024 .bf16) (x9 x10 : Vec Ideal S1x1024 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 = blockBias x6 := by
  funext y
  unfold sout0_A_0
  rw [View.read_writes_junk_eq_canon]
  exact bias_made c arg8 harg8 x6 y

end Cert.Attn

end
-- ==== Proof.Attend.lean ====
/- The attention of the kernel's block is the attention of the reference at the block's positions. -/

module

public import proofs.«01_k».proof.Proof.RefOut
public import proofs.«01_k».proof.Proof.Block

@[expose] public section

noncomputable section

namespace Cert.Attn

open Idealize.ShloMosaic

/-- A value that is a real number. -/
def Real' (x : EReal) : Prop := ∃ r : ℝ, x = (r : EReal)

/-- The sum of two real numbers is one. -/
theorem Real'.add {x y : EReal} (hx : Real' x) (hy : Real' y) : Real' (x + y) := by
  obtain ⟨a, rfl⟩ := hx
  obtain ⟨b, rfl⟩ := hy
  exact ⟨a + b, (EReal.coe_add a b).symm⟩

/-- The product of two real numbers is one. -/
theorem Real'.mul {x y : EReal} (hx : Real' x) (hy : Real' y) : Real' (x * y) := by
  obtain ⟨a, rfl⟩ := hx
  obtain ⟨b, rfl⟩ := hy
  exact ⟨a * b, (EReal.coe_mul a b).symm⟩

/-- A finite sum of real numbers is one. -/
theorem Real'.sum {ι : Type*} [Fintype ι] {f : ι → EReal} (hf : ∀ i, Real' (f i)) : Real' (∑ i, f i) := by
  choose r hr using hf
  exact ⟨∑ i, r i, by rw [← coe_sum]; exact Finset.sum_congr rfl fun i _ => hr i⟩

/-- The word of one. -/
theorem one_word : Ideal.ofBits .f32 0x3F800000#32 = 1 := by
  simp [Ideal.ofBits, Ideal.ieee]
  rw [← EReal.coe_mul, ← EReal.coe_one]
  norm_num

/-- The scale of the scores is a real number that is not negative. -/
theorem scale_real : ∃ r : ℝ, 0 ≤ r ∧ Ideal.ofBits .f32 0x3E000000#32 = (r : EReal) := by
  refine ⟨1/8, by norm_num, ?_⟩
  simp [Ideal.ofBits, Ideal.ieee]
  rw [← EReal.coe_mul]
  norm_num

/-- A sum over the 128 lanes of a pair of heads that keeps one head's lanes is the sum over that head's 64. -/
theorem sum_own (h : Nat) (hh : h < 2) (f : Fin 128 → EReal) (g : Fin 128 → EReal) :
    ∑ l : Fin 128, (if l.val / 64 = h then f l else 0) * g l
      = ∑ e : Fin 64, f ⟨h * 64 + e.val, by omega⟩ * g ⟨h * 64 + e.val, by omega⟩ := by
  refine (sum_band (fun e : Fin 64 => (⟨h * 64 + e.val, by omega⟩ : Fin 128)) (fun a b hab => ?_) _ (fun j hj => ?_)).trans ?_
  · have := congrArg Fin.val hab
    simp only at this
    exact Fin.ext (by omega)
  · rw [if_neg, zero_mul]
    intro hjh
    exact hj ⟨j.val - h * 64, by omega⟩ (Fin.ext (by simp only; omega))
  · refine Finset.sum_congr rfl fun e _ => ?_
    rw [if_pos (by simp only; omega)]

/-- The column of the table a place of the host's vector of biases is read from. -/
def relVec (u : Fin 1024) : Fin 257 := ⟨min (if u.val < 768 then 640 - u.val else 256) 256, by omega⟩

/-- The host's vector at a row's place holds the reference's column. -/
theorem relVec_eq (r : Nat) (hr : r < 64) (j : Fin 576) (rr : Nat) (hrr : rr < 256) (h : rr % 64 = r) :
    relVec ⟨(rr / 64 * 64 + j.val + 1024 - rr) % 1024, by omega⟩ = relIdx ⟨r, hr⟩ j := by
  unfold relVec relIdx
  refine Fin.ext ?_
  simp only
  split <;> omega

section

variable (x0 : Cert.ReferenceIdeal.S2x16384x1024.Idx → EReal) (x1 : Cert.ReferenceIdeal.S16x6x1024.Idx → EReal)
  (x2 x3 : Cert.ReferenceIdeal.S2x16384x1024.Idx → EReal) (x4 : Cert.ReferenceIdeal.S16x257.Idx → EReal)
  (x5 : Cert.ReferenceIdeal.S1024x1024.Idx → EReal)
  (X0 : Vec Ideal Cert.KernelIdeal.S1x512x1024 .f32) (X1 : Vec Ideal Cert.KernelIdeal.S1x6x1024 .f32)
  (X2 X3 X4 X5 : Vec Ideal Cert.KernelIdeal.S1x512x1024 .bf16) (X6 : Vec Ideal Cert.KernelIdeal.S16x1024 .f32)
  (X7 : Vec Ideal Cert.KernelIdeal.S1024x1024 .bf16) (b : Fin 2) (i : Fin 32)

/-- A position of a block. -/
abbrev pos (i : Fin 32) (r : Fin 512) : Fin 16384 := ⟨512 * i.val + r.val, by omega⟩

/-- The kernel's queries are the reference's, scaled. -/
theorem block_query (h0 : ∀ r d, X0 (ix3 0 r d) = x0 (ix3 b (pos i r) d))
    (h1 : ∀ k e, X1 (ix3 0 k e) = x1 (ix3 ⟨8 + b.val, by omega⟩ k e)) (h7 : ∀ e d, X7 (ix2 e d) = x5 (ix2 e d))
    (r : Fin 512) (d : Fin 1024) :
    blockQuery X0 X1 X7 (ix2 r d) = query x0 x1 x5 b (pos i r) d * Ideal.ofBits .f32 0x3E000000#32 := by
  unfold blockQuery query
  refine congrArg (· * Ideal.ofBits .f32 0x3E000000#32) (Finset.sum_congr rfl fun e _ => ?_)
  simp only [one_word]
  exact congrArg₂ (· * ·) (congrArg₂ (· + ·) (congrArg₂ (· * ·) (h0 _ _) (congrArg (1 + ·) (h1 _ _))) (h1 _ _)) (h7 _ _)

/-- A row of the joined blocks is the reference's band's row. -/
theorem joined_band (x : Cert.ReferenceIdeal.S2x16384x1024.Idx → EReal) (X Y : Vec Ideal Cert.KernelIdeal.S1x512x1024 .bf16)
    (hX : ∀ h : i.val ≠ 0, ∀ r d, X (ix3 0 r d) = x (ix3 b (pos ⟨i.val - 1, by omega⟩ r) d))
    (hY : ∀ r d, Y (ix3 0 r d) = x (ix3 b (pos i r) d)) (r : Fin 512) (k : Fin 576) (d : Fin 1024) (c : Fin 256)
    (hc : c.val = 8 * i.val + r.val / 64) (h : 512 ≤ 64 * c.val + k.val) (p : Fin 1024)
    (hp : p.val = r.val / 64 * 64 + k.val) :
    joined X Y (ix2 p d) = bandRow x c b k d := by
  unfold joined bandRow
  rw [dif_pos h]
  change (if h : p.val < 512 then X (ix3 0 ⟨p.val, h⟩ d) else Y (ix3 0 ⟨p.val - 512, _⟩ d)) = _
  split
  · rw [hX (by omega)]
    refine congrArg x (congrArg (fun q => ix3 b q d) (Fin.ext ?_))
    simp only
    omega
  · rw [hY]
    refine congrArg x (congrArg (fun q => ix3 b q d) (Fin.ext ?_))
    simp only
    omega

/-- The band's rows before the sequence are zero. -/
theorem band_before (x : Cert.ReferenceIdeal.S2x16384x1024.Idx → EReal) (c : Fin 256) (b : Fin 2) (k : Fin 576) (d : Fin 1024)
    (h : ¬512 ≤ 64 * c.val + k.val) : bandRow x c b k d = 0 :=
  dif_neg h

/-- The place among a row's 768 keys of the k-th key of its band. -/
def place (r : Fin 512) (k : Fin 576) : Fin 768 := ⟨r.val % 256 / 64 * 64 + k.val, by omega⟩

/-- The kernel's score of a key outside a row's band is minus infinity. -/
theorem score_out (q : Cert.KernelIdeal.S512x1024.Idx → EReal) (k : Cert.KernelIdeal.S1024x1024.Idx → EReal)
    (r : Fin 512) (d : Fin 1024) (j : Fin 768) (hj : ∀ k, place r k ≠ j) :
    blockScore q k (blockBias X6) r d j = ⊥ := by
  have hb : blockBias X6 (ix3 ⟨d.val / 128, by omega⟩ ⟨d.val % 128 / 64 * 256 + r.val % 256, by omega⟩ j) = ⊥ := by
    unfold blockBias
    refine if_neg fun hh => ?_
    unfold inBand at hh
    change (d.val % 128 / 64 * 256 + r.val % 256) % 256 / 64 * 64 ≤ j.val
      ∧ j.val < (d.val % 128 / 64 * 256 + r.val % 256) % 256 / 64 * 64 + 576 at hh
    exact hj ⟨j.val - r.val % 256 / 64 * 64, by omega⟩ (Fin.ext (by unfold place; simp only; omega))
  unfold blockScore
  rw [hb, EReal.add_bot]

/-- The kernel's score of a key of a row's band is the reference's. -/
theorem score_in (h0 : ∀ r d, X0 (ix3 0 r d) = x0 (ix3 b (pos i r) d))
    (h1 : ∀ k e, X1 (ix3 0 k e) = x1 (ix3 ⟨8 + b.val, by omega⟩ k e))
    (h2 : ∀ h : i.val ≠ 0, ∀ r d, X2 (ix3 0 r d) = x2 (ix3 b (pos ⟨i.val - 1, by omega⟩ r) d))
    (h3 : ∀ r d, X3 (ix3 0 r d) = x2 (ix3 b (pos i r) d))
    (h6 : ∀ n u, X6 (ix2 n u) = x4 (ix2 n (relVec u)))
    (h7 : ∀ e d, X7 (ix2 e d) = x5 (ix2 e d)) (r : Fin 512) (d : Fin 1024) (k : Fin 576) :
    (if i.val = 0 → 512 ≤ (place r k).val + r.val / 256 * 256 then
        blockScore (blockQuery X0 X1 X7) (joined X2 X3) (blockBias X6) r d (place r k) else ⊥)
      = refScore x0 x1 x2 x4 x5 b ⟨(pos i r).val / 64, by omega⟩ ⟨d.val / 64, by omega⟩ ⟨(pos i r).val % 64, by omega⟩ k := by
  have hp : (pos i r).val = 512 * i.val + r.val := rfl
  have hpl : (place r k).val = r.val % 256 / 64 * 64 + k.val := rfl
  unfold refScore
  by_cases hv : 512 ≤ 64 * ((pos i r).val / 64) + k.val
  · rw [if_pos (show 512 ≤ 64 * ((pos i r).val / 64) + k.val from hv), if_pos (by intro h; omega)]
    unfold blockScore
    refine congrArg₂ (· + ·) ?_ ?_
    · obtain ⟨s, hs, hse⟩ := scale_real
      rw [hse, sum_mul_real _ _ _ hs, ← hse]
      refine (sum_own (d.val % 128 / 64) (by omega)
        (fun l => blockQuery X0 X1 X7 (ix2 r ⟨d.val / 128 * 128 + l.val, by omega⟩))
        (fun l => joined X2 X3 (ix2 ⟨r.val / 256 * 256 + (place r k).val, by omega⟩ ⟨d.val / 128 * 128 + l.val, by omega⟩))).trans ?_
      refine Finset.sum_congr rfl fun e _ => ?_
      have hl : (⟨d.val / 128 * 128 + (d.val % 128 / 64 * 64 + e.val), by omega⟩ : Fin 1024) = lane ⟨d.val / 64, by omega⟩ e :=
        Fin.ext (by simp only; omega)
      have ht : (⟨(⟨(pos i r).val / 64, by omega⟩ : Fin 256).val * 64 + (⟨(pos i r).val % 64, by omega⟩ : Fin 64).val, by simp only; omega⟩ : Fin 16384) = pos i r :=
        Fin.ext (by simp only; omega)
      simp only [hl]
      rw [ht, block_query x0 x1 x5 X0 X1 X7 b i h0 h1 h7,
        joined_band b i x2 X2 X3 h2 h3 r k _ ⟨(pos i r).val / 64, by omega⟩ (show (pos i r).val / 64 = _ by omega) hv _ (show r.val / 256 * 256 + (place r k).val = _ by omega)]
      rw [mul_assoc, mul_assoc, mul_comm (Ideal.ofBits .f32 0x3E000000#32)]
    · unfold blockBias
      refine (if_pos ?_).trans ?_
      · unfold inBand
        change (d.val % 128 / 64 * 256 + r.val % 256) % 256 / 64 * 64 ≤ (place r k).val
          ∧ (place r k).val < (d.val % 128 / 64 * 256 + r.val % 256) % 256 / 64 * 64 + 576
        omega
      · rw [h6]
        refine congrArg x4 (congrArg₂ ix2 (Fin.ext ?_) ?_)
        · change 2 * (d.val / 128) + (d.val % 128 / 64 * 256 + r.val % 256) / 256 = d.val / 64
          omega
        · refine Eq.trans ?_ (relVec_eq ((pos i r).val % 64) (by omega) k (r.val % 256) (by omega) (by omega))
          refine congrArg relVec (Fin.ext ?_)
          change ((place r k).val + 1024 - (d.val % 128 / 64 * 256 + r.val % 256) % 256) % 1024 = _
          simp only
          omega
  · rw [if_neg (show ¬512 ≤ 64 * ((pos i r).val / 64) + k.val from hv), if_neg ?_]
    intro h
    have hi : i.val = 0 := by omega
    have := h hi
    omega

/-- A score of the reference over real numbers is minus infinity or a real number; at a key that is not before the
    sequence it is a real number. -/
theorem ref_score_real (f0 : ∀ j, Real' (x0 j)) (f1 : ∀ j, Real' (x1 j)) (f2 : ∀ j, Real' (x2 j)) (f4 : ∀ j, Real' (x4 j))
    (f5 : ∀ j, Real' (x5 j)) (c : Fin 256) (n : Fin 16) (r : Fin 64) (k : Fin 576) (h : 512 ≤ 64 * c.val + k.val) :
    Real' (refScore x0 x1 x2 x4 x5 b c n r k) := by
  unfold refScore
  rw [if_pos h]
  obtain ⟨s, -, hs⟩ := scale_real
  refine Real'.add (Real'.mul (Real'.sum fun e => Real'.mul ?_ ?_) ⟨s, hs⟩) (f4 _)
  · unfold query
    exact Real'.sum fun d => Real'.mul (Real'.add (Real'.mul (f0 _) (Real'.add ⟨1, rfl⟩ (f1 _))) (f1 _)) (f5 _)
  · unfold bandRow
    rw [dif_pos h]
    exact f2 _

/-- The attention of a block's row is the reference's at its position, when what the scores are made of is finite. -/
theorem attend_eq (f0 : ∀ j, Real' (x0 j)) (f1 : ∀ j, Real' (x1 j)) (f2 : ∀ j, Real' (x2 j)) (f4 : ∀ j, Real' (x4 j))
    (f5 : ∀ j, Real' (x5 j))
    (h0 : ∀ r d, X0 (ix3 0 r d) = x0 (ix3 b (pos i r) d))
    (h1 : ∀ k e, X1 (ix3 0 k e) = x1 (ix3 ⟨8 + b.val, by omega⟩ k e))
    (h2 : ∀ h : i.val ≠ 0, ∀ r d, X2 (ix3 0 r d) = x2 (ix3 b (pos ⟨i.val - 1, by omega⟩ r) d))
    (h3 : ∀ r d, X3 (ix3 0 r d) = x2 (ix3 b (pos i r) d))
    (h4 : ∀ h : i.val ≠ 0, ∀ r d, X4 (ix3 0 r d) = x3 (ix3 b (pos ⟨i.val - 1, by omega⟩ r) d))
    (h5 : ∀ r d, X5 (ix3 0 r d) = x3 (ix3 b (pos i r) d))
    (h6 : ∀ n u, X6 (ix2 n u) = x4 (ix2 n (relVec u)))
    (h7 : ∀ e d, X7 (ix2 e d) = x5 (ix2 e d)) (m : Prop) [Decidable m] (hm : m ↔ i.val = 0) (r : Fin 512) (d : Fin 1024) :
    blockAttend m (blockQuery X0 X1 X7) (joined X2 X3) (joined X4 X5) (blockBias X6) r d
      = refRow x0 x1 x2 x3 x4 x5 b (pos i r) d := by
  have hp : (pos i r).val = 512 * i.val + r.val := rfl
  unfold blockAttend refRow refAttend
  have hs := score_in x0 x1 x2 x4 x5 X0 X1 X2 X3 X6 X7 b i h0 h1 h2 h3 h6 h7 r d
  set s : Fin 768 → EReal := fun j => if m → 512 ≤ j.val + r.val / 256 * 256 then
    blockScore (blockQuery X0 X1 X7) (joined X2 X3) (blockBias X6) r d j else ⊥ with hsd
  have hs' : ∀ k, s (place r k) = refScore x0 x1 x2 x4 x5 b ⟨(pos i r).val / 64, by omega⟩ ⟨d.val / 64, by omega⟩
      ⟨(pos i r).val % 64, by omega⟩ k := fun k => by
    rw [← hs k, hsd]
    simp only [hm]
  have h0' : ∀ j, (∀ k, place r k ≠ j) → s j = ⊥ := fun j hj => by
    rw [hsd]
    simp only [score_out X6 _ _ r d j hj, ite_self]
  set v : Fin 768 → EReal := fun j => joined X4 X5 (ix2 ⟨r.val / 256 * 256 + j.val, by omega⟩ d) with hvd
  have hreal := ref_score_real x0 x1 x2 x4 x5 b f0 f1 f2 f4 f5
  have hv : row s v = row s fun j => if s j = ⊥ then 0 else v j := by
    unfold row
    refine congrArg (· * _) (Finset.sum_congr rfl fun j _ => ?_)
    by_cases hj : s j = ⊥
    · rw [hj, EReal.bot_sub, Ideal.exp_bot, zero_mul, zero_mul]
    · exact congrArg (Ideal.exp (s j - Finset.univ.sup s) * ·) (if_neg hj).symm
  rw [hv]
  unfold row
  refine (row_eq (place r) (fun a c hac => Fin.ext ?_) s _ (fun k => ?_) h0' ⟨575, by omega⟩ ?_).trans ?_
  · have := congrArg Fin.val hac
    unfold place at this
    simp only at this
    omega
  · rw [hs']
    by_cases hk : 512 ≤ 64 * ((pos i r).val / 64) + k.val
    · exact Or.inr (hreal _ _ _ _ hk)
    · exact Or.inl (if_neg hk)
  · rw [hs']
    obtain ⟨q, hq⟩ := hreal ⟨(pos i r).val / 64, by omega⟩ ⟨d.val / 64, by omega⟩ ⟨(pos i r).val % 64, by omega⟩ ⟨575, by omega⟩ (show 512 ≤ 64 * ((pos i r).val / 64) + 575 by omega)
    rw [hq]
    exact EReal.coe_ne_bot q
  · simp only [hs']
    refine Finset.sum_congr rfl fun k _ => congrArg₂ (· * ·) rfl ?_
    have hl : lane ⟨d.val / 64, by omega⟩ ⟨d.val % 64, by omega⟩ = d := Fin.ext (by simp only; omega)
    rw [hl]
    by_cases hk : 512 ≤ 64 * ((pos i r).val / 64) + k.val
    · obtain ⟨q, hq⟩ := hreal ⟨(pos i r).val / 64, by omega⟩ ⟨d.val / 64, by omega⟩ ⟨(pos i r).val % 64, by omega⟩ k hk
      rw [if_neg (by rw [hq]; exact EReal.coe_ne_bot q)]
      exact joined_band b i x3 X4 X5 h4 h5 r k _ ⟨(pos i r).val / 64, by omega⟩ (show (pos i r).val / 64 = _ by omega) hk _
        (show r.val / 256 * 256 + (r.val % 256 / 64 * 64 + k.val) = _ by omega)
    · rw [if_pos (by unfold refScore; exact if_neg hk)]
      exact (band_before x3 ⟨(pos i r).val / 64, by omega⟩ b k d hk).symm

end

end Cert.Attn
-- ==== Proof.Array.lean ====
/- What the kernel's windows and its scratch of biases hold at a grid point. -/

module

public import proofs.«01_k».proof.Proof.KI.Value
public import proofs.«01_k».proof.Proof.Attend
public import Idealize.ShloMosaic.Lib.StableHlo.ReadAt

@[expose] public section

set_option maxRecDepth 16384

noncomputable section

namespace Cert.Attn

open Idealize.ShloMosaic Idealize.ShloMosaic.TcCoe Idealize.ShloMosaic.Tactic Cert.KernelIdeal Cert.KernelIdeal.Gen
open Cert.KernelIdeal.Facts
open Idealize.ShloMosaic.Pipeline (Dat)

/-- Where each window's block stands at a grid point. -/
theorem idx : ∀ t : Fin cfg0.N,
    win0_0.index t = ![t.val / 32, t.val % 32, 0] ∧ win0_1.index t = ![t.val / 32 + 8, 0, 0]
      ∧ win0_2.index t = ![t.val / 32, t.val % 32 - 1, 0] ∧ win0_3.index t = ![t.val / 32, t.val % 32, 0]
      ∧ win0_4.index t = ![t.val / 32, t.val % 32 - 1, 0] ∧ win0_5.index t = ![t.val / 32, t.val % 32, 0]
      ∧ win0_6.index t = ![0, 0] ∧ win0_7.index t = ![0, 0] ∧ win0_8.index t = ![0, 0] ∧ win0_9.index t = ![0, 0]
      ∧ win0_10.index t = ![0, 0] ∧ win0_11.index t = ![t.val / 32, t.val % 32, 0] := by
  decide +kernel

variable (m : (ℓ : Loc nD τ sig) → Buf (Elt Ideal) ℓ) (c : Dev nD) (t : Fin cfg0.N)

/-- A grid point's batch. -/
abbrev bat (t : Fin cfg0.N) : Fin 2 := ⟨t.val / 32, by have := lt_of_lt_of_eq t.isLt (show cfg0.N = 64 from N_0); omega⟩

/-- A grid point's block of the sequence. -/
abbrev blkOf (t : Fin cfg0.N) : Fin 32 := ⟨t.val % 32, by omega⟩

/-- The block of the input at a step: the batch's and the block's rows. -/
theorem blk0 (r : Fin 512) (d : Fin 1024) : iblk m c 0 t (ix3 0 r d) = m ((c : Thread nD τ).loc main_arg0) (ix3 (bat t) (pos (blkOf t) r) d) := by
  blk_ext [iblk, V, idx t]
/-- The block of the modulation at a step: the batch's row, after the eight of the other batch. -/
theorem blk1 (k : Fin 6) (d : Fin 1024) : iblk m c 1 t (ix3 0 k d) = m ((c : Thread nD τ).loc main_arg1) (ix3 ⟨8 + (bat t).val, by omega⟩ k d) := by
  blk_ext [iblk, V, idx t]
/-- The block of the keys before: the rows of the block before, of a block that has one. -/
theorem blk2 (h : (blkOf t).val ≠ 0) (r : Fin 512) (d : Fin 1024) : iblk m c 2 t (ix3 0 r d) = m ((c : Thread nD τ).loc main_arg2) (ix3 (bat t) (pos ⟨(blkOf t).val - 1, by omega⟩ r) d) := by
  blk_ext [iblk, V, idx t]
/-- The block of the keys: the block's own rows. -/
theorem blk3 (r : Fin 512) (d : Fin 1024) : iblk m c 3 t (ix3 0 r d) = m ((c : Thread nD τ).loc main_arg2) (ix3 (bat t) (pos (blkOf t) r) d) := by
  blk_ext [iblk, V, idx t]
/-- The block of the values before: the rows of the block before, of a block that has one. -/
theorem blk4 (h : (blkOf t).val ≠ 0) (r : Fin 512) (d : Fin 1024) : iblk m c 4 t (ix3 0 r d) = m ((c : Thread nD τ).loc main_arg3) (ix3 (bat t) (pos ⟨(blkOf t).val - 1, by omega⟩ r) d) := by
  blk_ext [iblk, V, idx t]
/-- The block of the values: the block's own rows. -/
theorem blk5 (r : Fin 512) (d : Fin 1024) : iblk m c 5 t (ix3 0 r d) = m ((c : Thread nD τ).loc main_arg3) (ix3 (bat t) (pos (blkOf t) r) d) := by
  blk_ext [iblk, V, idx t]
/-- The query weights are read whole at every step. -/
theorem blk7 (e d : Fin 1024) : iblk m c 7 t (ix2 e d) = m ((c : Thread nD τ).loc main_arg5) (ix2 e d) := by
  blk_ext [iblk, V, idx t]
/-- The output weights are read whole at every step. -/
theorem blk8 (e d : Fin 1024) : iblk m c 8 t (ix2 e d) = m ((c : Thread nD τ).loc main_arg6) (ix2 e d) := by
  blk_ext [iblk, V, idx t]
/-- The table of relative biases is read whole at every step. -/
theorem blk6 (n : Fin 16) (u : Fin 1024) : iblk m c 6 t (ix2 n u) = V m c main_v17 (ix2 n u) := by
  blk_ext [iblk, idx t]

/-- The normalisation's scale, laid out as a row before the launch. -/
theorem entry18 (d : Fin 1024) : V m c main_v18 (ix2 0 d) = m ((c : Thread nD τ).loc main_arg7) (ix1 d) := by
  unfold V hostOps0 hostOps0_1 hostOps0_2 hostOps0_3 hostOps0_4
  simp only [List.flatten_cons, List.flatten_nil, List.cons_append, List.nil_append, List.append_nil]
  entry_read
  pointwise

/-- The normalisation's shift, laid out as a row before the launch. -/
theorem entry19 (d : Fin 1024) : V m c main_v19 (ix2 0 d) = m ((c : Thread nD τ).loc main_arg8) (ix1 d) := by
  unfold V hostOps0 hostOps0_1 hostOps0_2 hostOps0_3 hostOps0_4
  simp only [List.flatten_cons, List.flatten_nil, List.cons_append, List.nil_append, List.append_nil]
  entry_read
  pointwise

/-- The host's gather at an index: the operand's row, at the column the start index names, clamped. -/
theorem rel_gather {α : Type} (x : S16x257.Idx → α) (idx : IVec S1024x1 32) (n : Fin 16) (u : Fin 1024) (p : Fin 257)
    (h : min (idx (ix2 u 0)).toInt.toNat 256 = p.val) :
    Host.gather gather_S16x257_S1024x1_S16x1024_0_1_n_n_1_1_161 x idx (ix2 n u) = x (ix2 n p) := by
  have hs : GatherDims.siIdx gather_S16x257_S1024x1_S16x1024_0_1_n_n_1_1_161 (ix2 n u) ⟨0, Nat.one_pos⟩ = ix2 u 0 := by
    funext k
    refine Fin.ext ?_
    match k with
    | ⟨0, _⟩ => rfl
    | ⟨1, _⟩ => rfl
  unfold Host.gather
  congr 1
  funext a
  refine Fin.ext ?_
  match a with
  | ⟨0, _⟩ =>
    show 0 + 0 + n.val = _
    simp
  | ⟨1, _⟩ =>
    rw [← hs] at h
    exact h

/-- The column the host computes for a place of its vector. -/
theorem clipped_rel : ∀ u : Fin 1024, clipped (IntOp.subi 512#32
    (Scalar.select (IntOp.cmpi CmpIPredicate.slt (BitVec.ofNat 32 u.val) 768#32) (BitVec.ofNat 32 u.val)
      (IntOp.subi (BitVec.ofNat 32 u.val) 1024#32))) = (relVec u).val := by
  decide +kernel

/-- The host's vector of biases: a head's row of the table, read at the distance of each place, clipped. -/
theorem rel_vec (n : Fin 16) (u : Fin 1024) : V m c main_v17 (ix2 n u) = m ((c : Thread nD τ).loc main_arg4) (ix2 n (relVec u)) := by
  unfold V hostOps0 hostOps0_1 hostOps0_2 hostOps0_3 hostOps0_4
  simp only [List.flatten_cons, List.flatten_nil, List.cons_append, List.nil_append, List.append_nil]
  after_reads_at
  refine rel_gather _ _ n u _ ?_
  pointwise
  exact clipped_rel u

/-- The normalisation's scale at a step is the argument. -/
theorem blk9 (d : Fin 1024) : iblk m c 9 t (ix2 0 d) = m ((c : Thread nD τ).loc main_arg7) (ix1 d) := by
  rw [← entry18 m c d]
  blk_ext [iblk, idx t]

/-- The normalisation's shift at a step is the argument. -/
theorem blk10 (d : Fin 1024) : iblk m c 10 t (ix2 0 d) = m ((c : Thread nD τ).loc main_arg8) (ix1 d) := by
  rw [← entry19 m c d]
  blk_ext [iblk, idx t]

/-- The block of the host's vector is the same at every point. -/
theorem blk6_same (t t' : Fin cfg0.N) : (iblk m c 6 t : Vec Ideal S16x1024 .f32) = iblk m c 6 t' := by
  funext y
  obtain ⟨n, u, rfl⟩ : ∃ (n : Fin 16) (u : Fin 1024), y = ix2 n u := ⟨y 0, y 1, by funext a; match a with | ⟨0, _⟩ => rfl | ⟨1, _⟩ => rfl⟩
  rw [blk6, blk6]

/-- The first point stores the block's biases. -/
theorem scratch_first (h0 : t.val % 64 = 0) (h1 : t.val % 32 = 0) (h2 : ¬1 ≤ t.val % 32) :
    (outsAt0 m c t.val t.isLt).2 = blockBias (iblk m c 6 t) := by
  rw [outsAt0_A m c t h0 h1 h2]
  dsimp only
  rw [sout_A]

/-- Every other point leaves the scratch of biases as it was. -/
theorem scratch_hold (h0 : ¬t.val % 64 = 0) :
    (outsAt0 m c t.val t.isLt).2 = (outsAt0 m c (t.val - 1) (lt_of_le_of_lt (Nat.sub_le _ _) t.isLt)).2 := by
  by_cases h1 : t.val % 32 = 0
  · rw [outsAt0_C m c t h0 h1 (by omega)]
    dsimp only
    unfold sout0_C_0
    with_reducible rfl
  · rw [outsAt0_B m c t h0 h1 (by omega)]
    dsimp only
    unfold sout0_B_0
    with_reducible rfl

/-- The scratch of biases after any point: the block's biases. -/
theorem scratch_eq (n : Nat) : ∀ (hn : n < cfg0.N) (t : Fin cfg0.N), (outsAt0 m c n hn).2 = blockBias (iblk m c 6 t) := by
  induction n with
  | zero =>
    intro hn t
    rw [blk6_same m c t ⟨0, hn⟩]
    exact scratch_first m c ⟨0, hn⟩ rfl rfl (by simp)
  | succ n ih =>
    intro hn t
    have hN : n + 1 < 64 := lt_of_lt_of_eq hn (show cfg0.N = 64 from N_0)
    exact (scratch_hold m c ⟨n + 1, hn⟩ (show ¬(n + 1) % 64 = 0 by omega)).trans (ih _ t)

end Cert.Attn
-- ==== Proof.Final.lean ====
/- The kernel's result array is the reference's value of the arguments. -/

module

public import proofs.«01_k».proof.Proof.Array

@[expose] public section

set_option maxRecDepth 16384

noncomputable section

namespace Cert.Attn

open Idealize.ShloMosaic Idealize.ShloMosaic.TcCoe Idealize.ShloMosaic.Tactic Cert.KernelIdeal Cert.KernelIdeal.Gen
open Cert.KernelIdeal.Facts
open Idealize.ShloMosaic.Pipeline (Dat)

variable (m : (ℓ : Loc nD τ sig) → Buf (Elt Ideal) ℓ) (c : Dev nD) (t : Fin cfg0.N)

/-- The reference's value of the kernel's arguments. -/
def result : Cert.ReferenceIdeal.S2x16384x1024.Idx → EReal :=
  Cert.ReferenceIdeal.Read.val_main_v130 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The arguments that the scores are made of are real numbers. -/
structure Finite : Prop where
  f0 : ∀ j : Cert.ReferenceIdeal.S2x16384x1024.Idx, Real' (m ((c : Thread nD τ).loc main_arg0) j)
  f1 : ∀ j : Cert.ReferenceIdeal.S16x6x1024.Idx, Real' (m ((c : Thread nD τ).loc main_arg1) j)
  f2 : ∀ j : Cert.ReferenceIdeal.S2x16384x1024.Idx, Real' (m ((c : Thread nD τ).loc main_arg2) j)
  f4 : ∀ j : Cert.ReferenceIdeal.S16x257.Idx, Real' (m ((c : Thread nD τ).loc main_arg4) j)
  f5 : ∀ j : Cert.ReferenceIdeal.S1024x1024.Idx, Real' (m ((c : Thread nD τ).loc main_arg5) j)

/-- A block's results, from its windows, are the reference's at the block's positions. -/
theorem block_eq (hf : Finite m c) (p : Prop) [Decidable p] (hp : p ↔ t.val % 32 = 0) (r : Fin 512) (d : Fin 1024) :
    blockOut (iblk m c 0 t) (iblk m c 1 t) (iblk m c 8 t) (iblk m c 9 t) (iblk m c 10 t)
        (blockAttend p (blockQuery (iblk m c 0 t) (iblk m c 1 t) (iblk m c 7 t)) (joined (iblk m c 2 t) (iblk m c 3 t))
          (joined (iblk m c 4 t) (iblk m c 5 t)) (blockBias (iblk m c 6 t)) r) r d
      = result m c (ix3 (bat t) (pos (blkOf t) r) d) := by
  have ha := attend_eq _ _ _ _ _ _ (iblk m c 0 t) (iblk m c 1 t) (iblk m c 2 t) (iblk m c 3 t) (iblk m c 4 t) (iblk m c 5 t)
    (iblk m c 6 t) (iblk m c 7 t) (bat t) (blkOf t) hf.f0 hf.f1 hf.f2 hf.f4 hf.f5 (blk0 m c t) (blk1 m c t) (blk2 m c t) (blk3 m c t)
    (blk4 m c t) (blk5 m c t) (fun n u => (blk6 m c t n u).trans (rel_vec m c n u)) (blk7 m c t) p hp r
  unfold result
  rw [reference_apply, funext ha]
  unfold blockOut
  have h1 : ∀ a : Fin 1024 → EReal,
      blockResidual (iblk m c 0 t) (fun y => (iblk m c 1 t : Vec Ideal S1x6x1024 .f32) (ix3 0 2 (y 2))) (iblk m c 8 t) a r
        = residual (m ((c : Thread nD τ).loc main_arg0)) (m ((c : Thread nD τ).loc main_arg1)) (m ((c : Thread nD τ).loc main_arg6)) a
          (bat t) (pos (blkOf t) r) := fun a => funext fun d => by
    unfold blockResidual residual
    refine congrArg₂ (· + ·) (congrArg₂ (· * ·) rfl (blk0 m c t r d)) (congrArg₂ (· * ·) (blk1 m c t 2 d) ?_)
    exact Finset.sum_congr rfl fun k _ => congrArg₂ (· * ·) rfl (blk8 m c t k d)
  rw [h1, funext (blk9 m c t), funext (blk10 m c t)]

/-- What a grid point leaves in its block of results. -/
theorem point_eq (hf : Finite m c) (r : Fin 512) (d : Fin 1024) :
    (outsAt0 m c t.val t.isLt).1 (ix3 0 r d) = result m c (ix3 (bat t) (pos (blkOf t) r) d) := by
  by_cases h1 : t.val % 32 = 0
  · rw [← block_eq m c t hf True ⟨fun _ => h1, fun _ => trivial⟩ r d]
    by_cases h0 : t.val % 64 = 0
    · rw [outsAt0_A m c t h0 h1 (by omega)]
      dsimp only
      rw [out_A]
    · rw [outsAt0_C m c t h0 h1 (by omega)]
      dsimp only
      rw [out_C, scratch_eq m c _ _ t]
  · rw [← block_eq m c t hf False ⟨False.elim, fun h => h1 h⟩ r d, outsAt0_B m c t (by omega) h1 (by omega)]
    dsimp only
    rw [out_B, scratch_eq m c _ _ t]

/-- The kernel's result array after the run. -/
theorem array_eq (hf : Finite m c) : (dats m 0 c).arrAt 11 cfg0.N = result m c := by
  refine (dats m 0 c).arrAt_eq_of_covers 11 _ (by decide +kernel) fun t hfl y => ?_
  blk_simp
  rw [after0_11]
  obtain ⟨r, d, rfl⟩ : ∃ (r : Fin 512) (d : Fin 1024), y = ix3 0 r d := ⟨y 1, y 2, by
    funext a
    match a with
    | ⟨0, _⟩ => exact Subsingleton.elim (α := Fin 1) _ _
    | ⟨1, _⟩ => rfl
    | ⟨2, _⟩ => rfl⟩
  refine (point_eq m c t hf r d).trans ?_
  blk_ext [idx t]

end Cert.Attn
-- ==== Proof.FfnSum.lean ====
/-
  The plain layer's formulas: the gated linear unit, and a sum over the hidden lanes cut in three.
-/
module

public import proofs.«01_k».proof.Proof.RefOut

@[expose] public section

noncomputable section

namespace Cert.Ffn

open Idealize.ShloMosaic

/-- The bits of one. -/
theorem one_bits : Ideal.ofBits .f32 0x3F800000#32 = 1 := by
  simp [Ideal.ofBits, Ideal.ieee]
  rw [← EReal.coe_mul, ← EReal.coe_one]
  norm_num

/-- The bits of one half. -/
theorem half_bits : Ideal.ofBits .f32 0x3F000000#32 = ((1 / 2 : ℝ) : EReal) := by
  simp [Ideal.ofBits, Ideal.ieee]
  rw [← EReal.coe_mul]
  norm_num

/-- On the reals the logistic function is half of one plus the hyperbolic tangent of half. -/
theorem real_gate (r : ℝ) : 1 / 2 * Real.tanh (1 / 2 * r) + 1 / 2 = (1 + Real.exp (-r))⁻¹ := by
  have h : Real.exp (-r) = Real.exp (-(1 / 2 * r)) * Real.exp (-(1 / 2 * r)) := by
    rw [← Real.exp_add]; congr 1; ring
  have hm : Real.exp (1 / 2 * r) * Real.exp (-(1 / 2 * r)) = 1 := by
    rw [← Real.exp_add]; simp
  rw [Real.tanh_eq_sinh_div_cosh, Real.sinh_eq, Real.cosh_eq, h]
  have hp : 0 < Real.exp (1 / 2 * r) := Real.exp_pos _
  have hq : 0 < Real.exp (-(1 / 2 * r)) := Real.exp_pos _
  generalize Real.exp (1 / 2 * r) = p at *
  generalize Real.exp (-(1 / 2 * r)) = q at *
  have h1 : p + q ≠ 0 := by positivity
  have h2 : 1 + q * q ≠ 0 := by positivity
  field_simp
  linear_combination (2 * q) * hm

/-- The kernel's gate, by the hyperbolic tangent, is the logistic function, infinities included. -/
theorem gate_eq (x : EReal) :
    Ideal.ofBits .f32 0x3F000000#32 * Ideal.tanh (Ideal.ofBits .f32 0x3F000000#32 * x) + Ideal.ofBits .f32 0x3F000000#32
      = Ideal.logistic x := by
  rw [half_bits]
  induction x with
  | bot =>
    rw [EReal.coe_mul_bot_of_pos (by norm_num), Ideal.tanh_bot, Ideal.logistic_bot]
    have : ((1 / 2 : ℝ) : EReal) * (-1) + ((1 / 2 : ℝ) : EReal) = (((1 / 2 : ℝ) * (-1) + 1 / 2 : ℝ) : EReal) := by
      push_cast; rfl
    rw [this]; norm_num
  | top =>
    rw [EReal.coe_mul_top_of_pos (by norm_num), Ideal.tanh_top, Ideal.logistic_top, mul_one, ← EReal.coe_add]
    norm_num
  | coe r =>
    rw [← EReal.coe_mul, Ideal.tanh_coe, ← EReal.coe_mul, ← EReal.coe_add, Ideal.logistic_coe, real_gate]

/-- A row times a column of weights. -/
def dot {n : Nat} (h w : Fin n → EReal) : EReal := ∑ e, h e * w e

/-- A hidden lane: the gated row through the gate's weights, times the row through the other weights. -/
def hidden (h g u : Fin 1024 → EReal) : EReal := dot h g * Ideal.logistic (dot h g) * dot h u

/-- A sum over the hidden lanes, in the kernel's three pieces. -/
theorem sum_pieces (f : Fin 2816 → EReal) :
    ∑ k, f k = (∑ k : Fin 1024, f ⟨k.val, by omega⟩) + (∑ k : Fin 1024, f ⟨1024 + k.val, by omega⟩)
      + ∑ k : Fin 768, f ⟨2048 + k.val, by omega⟩ := by
  rw [Fin.sum_univ_add (a := 2048) (b := 768) f, Fin.sum_univ_add (a := 1024) (b := 1024) fun k => f (Fin.castAdd 768 k)]
  rfl

end Cert.Ffn

end
-- ==== Proof.FfnPay.lean ====
/-
  What the second kernel stores, at an index.
-/
module

public import proofs.«01_k».proof.Proof.FfnSum
public import proofs.«01_k».proof.Proof.Gen.Kernel2Ideal.Frame
public import Idealize.ShloMosaic.Lib.Pointwise
public import Idealize.ShloMosaic.Lib.Pipeline.ValueKit.Tiles
public import Idealize.ShloMosaic.Lib.Pipeline.Value

@[expose] public section

set_option maxRecDepth 16384

noncomputable section

namespace Cert.Ffn

open Idealize.ShloMosaic Cert.Kernel2Ideal Cert.Kernel2Ideal.Gen
open Cert.Kernel2Ideal.Facts

/-- A block's modulated rows. -/
def rowsOf (x : Vec Ideal S1x512x1024 .f32) (sh sc : Vec Ideal S1x1x1024 .f32) (r : Fin 512) (e : Fin 1024) : EReal :=
  x (ix3 0 r e) * (Ideal.ofBits .f32 0x3F800000#32 + sc (ix3 0 0 e)) + sh (ix3 0 0 e)

/-- The rows that a step modulates. -/
theorem rows_pay (sh sc : Vec Ideal S1x1x1024 .f32) (x : Vec Ideal S1x512x1024 .f32) (r : Fin 512) (e : Fin 1024) :
    k0_pay1 (F := Ideal) sh sc x (ix2 r e) = rowsOf x sh sc r e := by
  unfold rowsOf
  pointwise [k0_pay1]

/-- A wide piece's product. -/
def wide (h : FVec Ideal S512x1024 .bf16) (w : Vec Ideal S1x1024x1024 .bf16) : FVec Ideal S512x1024 .f32 :=
  matmul dot_S512x1024_S1024x1024_S512x1024_1_0_0_1_n_n none h
    (shapeCast S1024x1024 w shapeCasts_S1x1024x1024_S1024x1024 : FVec Ideal S1024x1024 .bf16) (constant S512x1024 .f32 0x00000000#32)

/-- A wide piece's product at an index. -/
theorem wide_apply (h : FVec Ideal S512x1024 .bf16) (w : Vec Ideal S1x1024x1024 .bf16) (r : Fin 512) (k : Fin 1024) :
    wide h w (ix2 r k) = dot (fun e => h (ix2 r e)) fun e => w (ix3 0 e k) := by
  unfold dot
  pointwise [wide]

/-- The last piece's product at an index. -/
theorem narrow_apply (h : FVec Ideal S512x1024 .bf16) (w : Vec Ideal S1x1024x768 .bf16) (r : Fin 512) (k : Fin 768) :
    k0_pay5 (F := Ideal) h w (ix2 r k) = dot (fun e => h (ix2 r e)) fun e => w (ix3 0 e k) := by
  unfold dot
  pointwise [k0_pay5]

/-- A wide piece's hidden lanes, from its two products. -/
def wideHidden (g u : FVec Ideal S512x1024 .f32) : FVec Ideal S512x1024 .bf16 :=
  have half : FVec Ideal S512x1024 .f32 := broadcast S512x1024 (Scalar.ofBits .f32 0x3F000000#32)
  truncf .bf16 (mulf (mulf g (addf (mulf half (tanh (mulf half g))) half)) u) bitsLt_bf16_f32

/-- A wide piece's hidden lanes at an index. -/
theorem wideHidden_apply (h : FVec Ideal S512x1024 .bf16) (wg wu : Vec Ideal S1x1024x1024 .bf16) (r : Fin 512) (k : Fin 1024) :
    wideHidden (wide h wg) (wide h wu) (ix2 r k)
      = hidden (fun e => h (ix2 r e)) (fun e => wg (ix3 0 e k)) fun e => wu (ix3 0 e k) := by
  unfold hidden
  rw [← wide_apply, ← wide_apply, ← gate_eq]
  pointwise [wideHidden]

/-- The sum of the first two pieces at an index. -/
theorem two_pay (h : FVec Ideal S512x1024 .bf16) (g1 u1 g2 u2 d1 d2 : Vec Ideal S1x1024x1024 .bf16)
    (r : Fin 512) (d : Fin 1024) :
    k0_pay4 (F := Ideal) h (wideHidden (wide h g1) (wide h u1)) (k0_pay3 d1) (constant S512x1024 .f32 0x00000000#32) g2 u2 d2 (ix2 r d)
      = (∑ k : Fin 1024, hidden (fun e => h (ix2 r e)) (fun e => g1 (ix3 0 e k)) (fun e => u1 (ix3 0 e k)) * d1 (ix3 0 k d))
        + ∑ k : Fin 1024, hidden (fun e => h (ix2 r e)) (fun e => g2 (ix3 0 e k)) (fun e => u2 (ix3 0 e k)) * d2 (ix3 0 k d) := by
  have e : k0_pay4 (F := Ideal) h (wideHidden (wide h g1) (wide h u1)) (k0_pay3 d1) (constant S512x1024 .f32 0x00000000#32) g2 u2 d2
      = addf (wide (wideHidden (wide h g1) (wide h u1)) d1) (wide (wideHidden (wide h g2) (wide h u2)) d2) := rfl
  rw [e]
  simp only [← wideHidden_apply]
  generalize wideHidden (wide h g1) (wide h u1) = p
  generalize wideHidden (wide h g2) (wide h u2) = q
  exact congrArg₂ (· + ·) (wide_apply p d1 r d) (wide_apply q d2 r d)

/-- The last piece's hidden lanes, from its two products. -/
def narrowHidden (g u : FVec Ideal S512x768 .f32) : FVec Ideal S512x768 .bf16 :=
  have half : FVec Ideal S512x768 .f32 := broadcast S512x768 (Scalar.ofBits .f32 0x3F000000#32)
  truncf .bf16 (mulf (mulf g (addf (mulf half (tanh (mulf half g))) half)) u) bitsLt_bf16_f32

/-- The last piece's hidden lanes at an index. -/
theorem narrowHidden_apply (h : FVec Ideal S512x1024 .bf16) (wg wu : Vec Ideal S1x1024x768 .bf16) (r : Fin 512) (k : Fin 768) :
    narrowHidden (k0_pay5 h wg) (k0_pay5 h wu) (ix2 r k)
      = hidden (fun e => h (ix2 r e)) (fun e => wg (ix3 0 e k)) fun e => wu (ix3 0 e k) := by
  unfold hidden
  rw [← narrow_apply, ← narrow_apply, ← gate_eq]
  pointwise [narrowHidden]

/-- The last piece's projection. -/
def lastPay (a : FVec Ideal S512x768 .bf16) (w : Vec Ideal S1x768x1024 .bf16) : FVec Ideal S512x1024 .f32 :=
  matmul dot_S512x768_S768x1024_S512x1024_1_0_0_1_n_n none a
    (shapeCast S768x1024 w shapeCasts_S1x768x1024_S768x1024 : FVec Ideal S768x1024 .bf16) (constant S512x1024 .f32 0x00000000#32)

/-- The last piece's projection at an index. -/
theorem lastPay_apply (a : FVec Ideal S512x768 .bf16) (w : Vec Ideal S1x768x1024 .bf16) (r : Fin 512) (d : Fin 1024) :
    lastPay a w (ix2 r d) = ∑ k : Fin 768, a (ix2 r k) * w (ix3 0 k d) := by
  pointwise [lastPay]

/-- The sum that a step normalises, from its block and its projected lanes. -/
def sumPay (x : Vec Ideal S1x512x1024 .f32) (gate : Vec Ideal S1x1x1024 .f32) (p : FVec Ideal S512x1024 .f32) : FVec Ideal S1x512x1024 .f32 :=
  addf (mulf (broadcast S1x512x1024 (Scalar.ofBits .f32 0x3FD744FD#32)) x)
    (mulf (broadcastTo S1x512x1024 gate broadcasts_S1x1x1024_S1x512x1024) (shapeCast S1x512x1024 p shapeCasts_S512x1024_S1x512x1024))

/-- The sum that a step normalises, at an index. -/
theorem sumPay_apply (x : Vec Ideal S1x512x1024 .f32) (gate : Vec Ideal S1x1x1024 .f32) (p : FVec Ideal S512x1024 .f32)
    (r : Fin 512) (d : Fin 1024) :
    sumPay x gate p (ix3 0 r d) = Ideal.ofBits .f32 0x3FD744FD#32 * x (ix3 0 r d) + gate (ix3 0 0 d) * p (ix2 r d) := by
  pointwise [sumPay]

/-- A block's rows normalised, scaled and shifted. -/
def normPay (s : FVec Ideal S1x512x1024 .f32) (g b : Vec Ideal S1x1024 .f32) : FVec Ideal S1x512x1024 .f32 :=
  have mean : FVec Ideal S1x512x1 .f32 := divf (shapeCast S1x512x1
    (multiReduction .add [2] S1x512 s 0x00000000#32 reduces_S1x512x1024_S1x512 (.inl rfl) rfl) shapeCasts_S1x512_S1x512x1)
    (broadcast S1x512x1 (Scalar.ofBits .f32 0x44800000#32))
  have z : FVec Ideal S1x512x1024 .f32 := subf s (broadcastTo S1x512x1024 mean broadcasts_S1x512x1_S1x512x1024)
  have var : FVec Ideal S1x512x1 .f32 := divf (shapeCast S1x512x1
    (multiReduction .add [2] S1x512 (mulf z z) 0x00000000#32 reduces_S1x512x1024_S1x512 (.inl rfl) rfl) shapeCasts_S1x512_S1x512x1)
    (broadcast S1x512x1 (Scalar.ofBits .f32 0x44800000#32))
  have n : FVec Ideal S1x512x1024 .f32 := mulf z (broadcastTo S1x512x1024
    (rsqrt (addf var (broadcast S1x512x1 (Scalar.ofBits .f32 0x3727C5AC#32)))) broadcasts_S1x512x1_S1x512x1024)
  addf (mulf n (broadcastTo S1x512x1024 (shapeCast S1x1x1024 (shapeCast S1x1024 g shapeCasts_S1x1024_S1x1024)
      shapeCasts_S1x1024_S1x1x1024) broadcasts_S1x1x1024_S1x512x1024))
    (broadcastTo S1x512x1024 (shapeCast S1x1x1024 (shapeCast S1x1024 b shapeCasts_S1x1024_S1x1024)
      shapeCasts_S1x1024_S1x1x1024) broadcasts_S1x1x1024_S1x512x1024)

/-- The normalised rows of a step are the plain normalisation's. -/
theorem normPay_apply (s : FVec Ideal S1x512x1024 .f32) (g b : Vec Ideal S1x1024 .f32) (r : Fin 512) (d : Fin 1024) :
    normPay s g b (ix3 0 r d)
      = Cert.Attn.layerNorm (fun d => s (ix3 0 r d)) (fun d => g (ix2 0 d)) (fun d => b (ix2 0 d)) d := by
  unfold Cert.Attn.layerNorm
  pointwise [normPay]

/-- A load of a part of a window, at an index. -/
theorem ld3 {e : EltTy} {A B C a b c : ℕ} (X : (⟨3, ![A, B, C]⟩ : Shape).Idx → Elt Ideal e) (o p q : ℕ)
    (inb : ∀ k, (![o, p, q] : Fin 3 → ℕ) k + (![a, b, c] : Fin 3 → ℕ) k ≤ (⟨3, ![A, B, C]⟩ : Shape).size k)
    (x : Fin a) (y : Fin b) (z : Fin c) (x' : Fin A) (y' : Fin B) (z' : Fin C)
    (hx : x'.val = o + x.val) (hy : y'.val = p + y.val) (hz : z'.val = q + z.val) :
    View.ld X (Rect.unit (s := ⟨3, ![A, B, C]⟩) ![o, p, q] ![a, b, c] inb) (ix3 x y z) = X (ix3 x' y' z') :=
  View.ld_unit_apply_of X _ _ _ _ _ fun k => match k with
    | ⟨0, _⟩ => hx
    | ⟨1, _⟩ => hy
    | ⟨2, _⟩ => hz

/-- A hidden lane of equal rows and columns. -/
theorem hidden_congr {h h' g g' u u' : Fin 1024 → EReal} (eh : h = h') (eg : g = g') (eu : u = u') :
    hidden h g u = hidden h' g' u' := by
  rw [eh, eg, eu]

/-- A block's residual sums, from its windows. -/
def blockResidual (x : Vec Ideal S1x512x1024 .f32) (md : Vec Ideal S1x6x1024 .f32) (wg wu : Vec Ideal S1x1024x2816 .bf16)
    (wd : Vec Ideal S1x2816x1024 .bf16) (r : Fin 512) (d : Fin 1024) : EReal :=
  Ideal.ofBits .f32 0x3FD744FD#32 * x (ix3 0 r d)
    + md (ix3 0 5 d)
      * ∑ k : Fin 2816, hidden (fun e => x (ix3 0 r e) * (Ideal.ofBits .f32 0x3F800000#32 + md (ix3 0 4 e)) + md (ix3 0 3 e))
          (fun e => wg (ix3 0 e k)) (fun e => wu (ix3 0 e k)) * wd (ix3 0 k d)

/-- What a step leaves in its block of results, from its windows. -/
theorem out_apply (x : Vec Ideal S1x512x1024 .f32) (md : Vec Ideal S1x6x1024 .f32) (wg wu : Vec Ideal S1x1024x2816 .bf16)
    (wd : Vec Ideal S1x2816x1024 .bf16) (g b : Vec Ideal S1x1024 .f32) (r : Fin 512) (d : Fin 1024) :
    out0_7 (F := Ideal) x md wg wu wd g b (ix3 0 r d)
      = Cert.Attn.layerNorm (blockResidual x md wg wu wd r) (fun d => g (ix2 0 d)) (fun d => b (ix2 0 d)) d := by
  have e : out0_7 (F := Ideal) x md wg wu wd g b = normPay (sumPay (View.ld x r0_3) (View.ld md r0_2)
      (addf (k0_pay4 (k0_pay9 x md wg wu wd g b)
          (wideHidden (wide (k0_pay9 x md wg wu wd g b) (View.ld wg r0_4)) (wide (k0_pay9 x md wg wu wd g b) (View.ld wu r0_4)))
          (k0_pay3 (View.ld wd r0_5)) (constant S512x1024 .f32 0x00000000#32) (View.ld wg r0_6) (View.ld wu r0_6) (View.ld wd r0_7))
        (lastPay (narrowHidden (k0_pay5 (k0_pay9 x md wg wu wd g b) (View.ld wg r0_8))
          (k0_pay5 (k0_pay9 x md wg wu wd g b) (View.ld wu r0_8))) (View.ld wd r0_9))))
      (View.ld g r0_10) (View.ld b r0_10) := by
    unfold out0_7
    rw [View.canon_cons_unit_lit _ _ _ (by decide)]
    rfl
  have h9 : ∀ e : Fin 1024, k0_pay9 (F := Ideal) x md wg wu wd g b (ix2 r e)
      = x (ix3 0 r e) * (Ideal.ofBits .f32 0x3F800000#32 + md (ix3 0 4 e)) + md (ix3 0 3 e) := fun e => by
    refine (rows_pay _ _ _ r e).trans ?_
    unfold rowsOf
    rw [ld3 x 0 0 0 _ 0 r e 0 r e (by omega) (by omega) (by omega), ld3 md 0 4 0 _ 0 0 e 0 4 e (by omega) (by omega) (by omega),
      ld3 md 0 3 0 _ 0 0 e 0 3 e (by omega) (by omega) (by omega)]
  rw [e, normPay_apply]
  generalize k0_pay9 (F := Ideal) x md wg wu wd g b = h at h9 ⊢
  have hr : (fun d => sumPay (View.ld x r0_3) (View.ld md r0_2)
      (addf (k0_pay4 h (wideHidden (wide h (View.ld wg r0_4)) (wide h (View.ld wu r0_4)))
          (k0_pay3 (View.ld wd r0_5)) (constant S512x1024 .f32 0x00000000#32) (View.ld wg r0_6) (View.ld wu r0_6) (View.ld wd r0_7))
        (lastPay (narrowHidden (k0_pay5 h (View.ld wg r0_8)) (k0_pay5 h (View.ld wu r0_8))) (View.ld wd r0_9))) (ix3 0 r d))
      = blockResidual x md wg wu wd r := funext fun d => by
    unfold blockResidual
    rw [sumPay_apply, sum_pieces, ld3 x 0 0 0 _ 0 r d 0 r d (by omega) (by omega) (by omega),
      ld3 md 0 5 0 _ 0 0 d 0 5 d (by omega) (by omega) (by omega)]
    refine congrArg₂ (· + ·) rfl (congrArg₂ (· * ·) rfl ?_)
    refine congrArg₂ (· + ·) ((two_pay h _ _ _ _ _ _ r d).trans (congrArg₂ (· + ·) ?_ ?_)) ((lastPay_apply _ _ r d).trans ?_)
    · refine Finset.sum_congr rfl fun k _ => congrArg₂ (· * ·) (hidden_congr (funext h9) (funext fun e => ?_) (funext fun e => ?_)) ?_
      · exact ld3 wg 0 0 0 _ 0 e k 0 e _ rfl (Nat.zero_add _).symm (Nat.zero_add _).symm
      · exact ld3 wu 0 0 0 _ 0 e k 0 e _ rfl (Nat.zero_add _).symm (Nat.zero_add _).symm
      · exact ld3 wd 0 0 0 _ 0 k d 0 _ d rfl (Nat.zero_add _).symm (Nat.zero_add _).symm
    · refine Finset.sum_congr rfl fun k _ => congrArg₂ (· * ·) (hidden_congr (funext h9) (funext fun e => ?_) (funext fun e => ?_)) ?_
      · exact ld3 wg 0 0 1024 _ 0 e k 0 e _ rfl (Nat.zero_add _).symm rfl
      · exact ld3 wu 0 0 1024 _ 0 e k 0 e _ rfl (Nat.zero_add _).symm rfl
      · exact ld3 wd 0 1024 0 _ 0 k d 0 _ d rfl rfl (Nat.zero_add _).symm
    · refine Finset.sum_congr rfl fun k _ => congrArg₂ (· * ·) ((narrowHidden_apply h _ _ r k).trans
        (hidden_congr (funext h9) (funext fun e => ?_) (funext fun e => ?_))) ?_
      · exact ld3 wg 0 0 2048 _ 0 e k 0 e _ rfl (Nat.zero_add _).symm rfl
      · exact ld3 wu 0 0 2048 _ 0 e k 0 e _ rfl (Nat.zero_add _).symm rfl
      · exact ld3 wd 0 2048 0 _ 0 k d 0 _ d rfl rfl (Nat.zero_add _).symm
  rw [hr, View.ld_unit_lit _ g (by decide), View.ld_unit_lit _ b (by decide)]

end Cert.Ffn

end
-- ==== Proof.FfnRef.lean ====
/-
  The reference's gated linear unit layer read at an index.
-/
module

public import proofs.«01_k».proof.Proof.FfnSum
public import proofs.«01_k».proof.Proof.Gen.Reference2Ideal.Read
public import Idealize.ShloMosaic.Lib.Pointwise

@[expose] public section

set_option maxRecDepth 16384

noncomputable section

namespace Cert.Ffn

open Idealize.ShloMosaic Cert.Reference2Ideal Cert.Reference2Ideal.Read
open Cert.Reference2Ideal.Facts Cert.Reference2Ideal.Gen

variable (x0 : (⟨S2x16384x1024, .f32⟩ : BufTy).Contents (Elt Ideal))
  (x1 : (⟨S16x6x1024, .f32⟩ : BufTy).Contents (Elt Ideal))
  (x2 x3 : (⟨S2x1024x2816, .bf16⟩ : BufTy).Contents (Elt Ideal))
  (x4 : (⟨S2x2816x1024, .bf16⟩ : BufTy).Contents (Elt Ideal))
  (x5 x6 : (⟨S1024, .f32⟩ : BufTy).Contents (Elt Ideal))

/-- The modulated input at a position. -/
def moduled (x0 : S2x16384x1024.Idx → EReal) (x1 : S16x6x1024.Idx → EReal) (b : Fin 2) (t : Fin 16384) (e : Fin 1024) : EReal :=
  x0 (ix3 b t e) * (Ideal.ofBits .f32 0x3F800000#32 + x1 (ix3 ⟨8 + b.val, by omega⟩ 4 e)) + x1 (ix3 ⟨8 + b.val, by omega⟩ 3 e)

/-- The reference modulates its input. -/
theorem moduled_apply (b : Fin 2) (t : Fin 16384) (e : Fin 1024) :
    val_main_v9 (F := Ideal) x0 x1 (ix3 b t e) = moduled x0 x1 b t e := by
  unfold moduled
  pointwise [val_main_v9, val_main_v8, val_main_v7, val_main_v6, val_main_v5, val_main_v4, val_main_cst, val_main_v3,
    val_main_v2, val_main_v1, val_main_v0]

/-- The reference's gate before its logistic. -/
theorem gate_apply (b : Fin 2) (t : Fin 16384) (k : Fin 2816) :
    val_main_v19 (F := Ideal) x0 x1 x2 (ix3 b t k) = dot (moduled x0 x1 b t) fun e => x2 (ix3 0 e k) := by
  unfold dot
  simp only [← moduled_apply]
  pointwise [val_main_v19, val_main_v12, val_main_v11, val_main_v10]

/-- The reference's other factor. -/
theorem up_apply (b : Fin 2) (t : Fin 16384) (k : Fin 2816) :
    val_main_v21 (F := Ideal) x0 x1 x3 (ix3 b t k) = dot (moduled x0 x1 b t) fun e => x3 (ix3 0 e k) := by
  unfold dot
  simp only [← moduled_apply]
  pointwise [val_main_v21, val_main_v15, val_main_v14, val_main_v13]

/-- The logistic function as the reference spells it out. -/
theorem logistic_bits (x : EReal) :
    Ideal.div (Ideal.ofBits .f32 0x3F800000#32) (Ideal.ofBits .f32 0x3F800000#32 + Ideal.exp (-x)) = Ideal.logistic x := by
  rw [one_bits]
  rfl

/-- A hidden lane of the reference. -/
theorem hidden_apply (b : Fin 2) (t : Fin 16384) (k : Fin 2816) :
    val_main_v22 (F := Ideal) x0 x1 x2 x3 (ix3 b t k)
      = hidden (moduled x0 x1 b t) (fun e => x2 (ix3 0 e k)) fun e => x3 (ix3 0 e k) := by
  unfold hidden
  rw [← gate_apply, ← up_apply, ← logistic_bits]
  pointwise [val_main_v22, val_main_v20, val_main_call0_v0, val_main_call0_v1, val_main_call0_v2, val_main_call0_v3,
    val_main_call0_v4, val_main_call0_v5, val_main_call0_cst, val_main_call0_cst_0]

/-- The residual sum: the input scaled, and the gated projection of the hidden lanes. -/
def residual (x0 : S2x16384x1024.Idx → EReal) (x1 : S16x6x1024.Idx → EReal) (x2 x3 : S2x1024x2816.Idx → EReal)
    (x4 : S2x2816x1024.Idx → EReal) (b : Fin 2) (t : Fin 16384) (d : Fin 1024) : EReal :=
  Ideal.ofBits .f32 0x3FD744FD#32 * x0 (ix3 b t d)
    + x1 (ix3 ⟨8 + b.val, by omega⟩ 5 d)
      * ∑ k : Fin 2816, hidden (moduled x0 x1 b t) (fun e => x2 (ix3 0 e k)) (fun e => x3 (ix3 0 e k)) * x4 (ix3 0 k d)

/-- The sum that the reference normalises. -/
theorem residual_apply (b : Fin 2) (t : Fin 16384) (d : Fin 1024) :
    val_main_v28 (F := Ideal) x0 x1 x2 x3 x4 (ix3 b t d) = residual x0 x1 x2 x3 x4 b t d := by
  unfold residual
  simp only [← hidden_apply]
  pointwise [val_main_v28, val_main_v27, val_main_v26, val_main_v25, val_main_v24, val_main_v23, val_main_v18, val_main_v17,
    val_main_v16, val_main_cst_0, val_main_v3, val_main_v0]

/-- The reference's result at an index. -/
theorem reference_apply (b : Fin 2) (t : Fin 16384) (d : Fin 1024) :
    val_main_v52 (F := Ideal) x0 x1 x2 x3 x4 x5 x6 (ix3 b t d)
      = Cert.Attn.layerNorm (residual x0 x1 x2 x3 x4 b t) (fun d => x5 (ix1 d)) (fun d => x6 (ix1 d)) d := by
  unfold Cert.Attn.layerNorm
  simp only [← residual_apply]
  pointwise [val_main_v52, val_main_v51, val_main_v50, val_main_v49, val_main_v48, val_main_v47, val_main_v46, val_main_v45,
    val_main_v44, val_main_v43, val_main_v42, val_main_v41, val_main_v40, val_main_v39, val_main_v38, val_main_v37,
    val_main_v36, val_main_v35, val_main_v34, val_main_v33, val_main_v32, val_main_v31, val_main_v30, val_main_v29,
    val_main_cst_1, val_main_cst_2, val_main_cst_3, val_main_cst_4, val_main_cst_5]

end Cert.Ffn

end
-- ==== Proof.FfnArray.lean ====
/- The second kernel's result array is its reference's value of the arguments. -/

module

public import proofs.«01_k».proof.Proof.FfnPay
public import proofs.«01_k».proof.Proof.FfnRef
public import proofs.«01_k».proof.Proof.Gen.Kernel2Ideal.Value
public import Idealize.ShloMosaic.Lib.Pipeline.ValueKit
public import Idealize.ShloMosaic.Lib.StableHlo.ReadAt

@[expose] public section

set_option maxRecDepth 16384

noncomputable section

namespace Cert.Ffn

open Idealize.ShloMosaic Idealize.ShloMosaic.TcCoe Idealize.ShloMosaic.Tactic Cert.Kernel2Ideal Cert.Kernel2Ideal.Gen
open Cert.Kernel2Ideal.Facts
open Idealize.ShloMosaic.Pipeline (Dat)

/-- Where each window's block stands at a grid point. -/
theorem idx : ∀ t : Fin cfg0.N,
    win0_0.index t = ![t.val / 32, t.val % 32, 0] ∧ win0_1.index t = ![t.val / 32 + 8, 0, 0]
      ∧ win0_2.index t = ![0, 0, 0] ∧ win0_3.index t = ![0, 0, 0] ∧ win0_4.index t = ![0, 0, 0]
      ∧ win0_5.index t = ![0, 0] ∧ win0_6.index t = ![0, 0] ∧ win0_7.index t = ![t.val / 32, t.val % 32, 0] := by
  decide +kernel

variable (m : (ℓ : Loc nD τ sig) → Buf (Elt Ideal) ℓ) (c : Dev nD) (t : Fin cfg0.N)

/-- A grid point's batch. -/
abbrev bat (t : Fin cfg0.N) : Fin 2 := ⟨t.val / 32, by have := lt_of_lt_of_eq t.isLt (show cfg0.N = 64 from N_0); omega⟩

/-- The position of a row of a grid point's block. -/
abbrev pos (t : Fin cfg0.N) (r : Fin 512) : Fin 16384 := ⟨t.val % 32 * 512 + r.val, by omega⟩

/-- The block of the input at a step: the batch's and the block's rows. -/
theorem blk0 (r : Fin 512) (d : Fin 1024) : iblk m c 0 t (ix3 0 r d) = m ((c : Thread nD τ).loc main_arg0) (ix3 (bat t) (pos t r) d) := by
  blk_ext [iblk, V, idx t]
/-- The block of the modulation at a step: the batch's row, after the eight of the other batch. -/
theorem blk1 (k : Fin 6) (d : Fin 1024) : iblk m c 1 t (ix3 0 k d) = m ((c : Thread nD τ).loc main_arg1) (ix3 ⟨8 + (bat t).val, by omega⟩ k d) := by
  blk_ext [iblk, V, idx t]
/-- The gate's weights at a step: those of the first layer. -/
theorem blk2 (e : Fin 1024) (k : Fin 2816) : iblk m c 2 t (ix3 0 e k) = m ((c : Thread nD τ).loc main_arg2) (ix3 0 e k) := by
  blk_ext [iblk, V, idx t]
/-- The other factor's weights at a step. -/
theorem blk3 (e : Fin 1024) (k : Fin 2816) : iblk m c 3 t (ix3 0 e k) = m ((c : Thread nD τ).loc main_arg3) (ix3 0 e k) := by
  blk_ext [iblk, V, idx t]
/-- The projection's weights at a step. -/
theorem blk4 (k : Fin 2816) (d : Fin 1024) : iblk m c 4 t (ix3 0 k d) = m ((c : Thread nD τ).loc main_arg4) (ix3 0 k d) := by
  blk_ext [iblk, V, idx t]

/-- The normalisation's scale, laid out as a row before the launch. -/
theorem entry0 (d : Fin 1024) : V m c main_v0 (ix2 0 d) = m ((c : Thread nD τ).loc main_arg5) (ix1 d) := by
  unfold V hostOps0
  entry_read
  pointwise

/-- The normalisation's shift, laid out as a row before the launch. -/
theorem entry1 (d : Fin 1024) : V m c main_v1 (ix2 0 d) = m ((c : Thread nD τ).loc main_arg6) (ix1 d) := by
  unfold V hostOps0
  entry_read
  pointwise

/-- The normalisation's scale at a step is the argument. -/
theorem blk5 (d : Fin 1024) : iblk m c 5 t (ix2 0 d) = m ((c : Thread nD τ).loc main_arg5) (ix1 d) := by
  rw [← entry0 m c d]
  blk_ext [iblk, idx t]

/-- The normalisation's shift at a step is the argument. -/
theorem blk6 (d : Fin 1024) : iblk m c 6 t (ix2 0 d) = m ((c : Thread nD τ).loc main_arg6) (ix1 d) := by
  rw [← entry1 m c d]
  blk_ext [iblk, idx t]

/-- The reference's value of the kernel's arguments. -/
def result : Cert.Reference2Ideal.S2x16384x1024.Idx → EReal :=
  Cert.Reference2Ideal.Read.val_main_v52 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- What a grid point leaves in its block of results. -/
theorem point_eq (r : Fin 512) (d : Fin 1024) :
    out0_7 (iblk m c 0 t) (iblk m c 1 t) (iblk m c 2 t) (iblk m c 3 t) (iblk m c 4 t) (iblk m c 5 t) (iblk m c 6 t) (ix3 0 r d)
      = result m c (ix3 (bat t) (pos t r) d) := by
  unfold result
  rw [reference_apply]
  refine (out_apply _ _ _ _ _ _ _ r d).trans ?_
  have h : blockResidual (iblk m c 0 t) (iblk m c 1 t) (iblk m c 2 t) (iblk m c 3 t) (iblk m c 4 t) r
      = residual (m ((c : Thread nD τ).loc main_arg0)) (m ((c : Thread nD τ).loc main_arg1)) (m ((c : Thread nD τ).loc main_arg2))
          (m ((c : Thread nD τ).loc main_arg3)) (m ((c : Thread nD τ).loc main_arg4)) (bat t) (pos t r) := funext fun d => by
    unfold blockResidual residual moduled
    refine congrArg₂ (· + ·) (congrArg₂ (· * ·) rfl (blk0 m c t r d)) (congrArg₂ (· * ·) (blk1 m c t 5 d) ?_)
    refine Finset.sum_congr rfl fun k _ => congrArg₂ (· * ·) (hidden_congr (funext fun e => ?_) (funext fun e => blk2 m c t e k)
      (funext fun e => blk3 m c t e k)) (blk4 m c t k d)
    exact congrArg₂ (· + ·) (congrArg₂ (· * ·) (blk0 m c t r e) (congrArg₂ (· + ·) rfl (blk1 m c t 4 e))) (blk1 m c t 3 e)
  rw [h, funext (blk5 m c t), funext (blk6 m c t)]

/-- The kernel's result array after the run. -/
theorem array_eq : (dats m 0 c).arrAt 7 cfg0.N = result m c := by
  refine (dats m 0 c).arrAt_eq_of_covers 7 _ (by decide +kernel) fun t hfl y => ?_
  blk_simp
  rw [after0_7]
  obtain ⟨r, d, rfl⟩ : ∃ (r : Fin 512) (d : Fin 1024), y = ix3 0 r d := ⟨y 1, y 2, by
    funext a
    match a with
    | ⟨0, _⟩ => exact Subsingleton.elim (α := Fin 1) _ _
    | ⟨1, _⟩ => rfl
    | ⟨2, _⟩ => rfl⟩
  refine (point_eq m c t r d).trans ?_
  blk_ext [idx t]

end Cert.Ffn

end
-- ==== Proof.E3I.Run.lean ====
/- The kernel body of the experts' launch, run once per branch: the tile's result block holds the tile's product when the
   tile is in use, and zeros when it is not. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of the tiles' experts, as the body is handed it. -/
abbrev tbM0_0 : Memref sig .tc .smem S136 .i32 := Memref.whole main_arg0
/-- The number of tiles in use, as the body is handed it. -/
abbrev tbM0_1 : Memref sig .tc .smem S1 .i32 := Memref.whole main_arg1

/-- The contents of a table's buffer. -/
abbrev TbBuf0 (c : Dev nD) {S : Shape} {e : EltTy} (M : Memref sig .tc .smem S e) : Type := Buf (Elt F) (M.view.loc (c : Thread nD τ))
/-- A table held for reading. -/
abbrev tbPt0 (c : Dev nD) {S : Shape} {e : EltTy} (M : Memref sig .tc .smem S e) (f : TbBuf0 (F := F) c M) : sProp 𝕄 :=
  M.view.loc (c : Thread nD τ) ↦{fullShare.right} f

/-- The word the body compares the tile's number with. -/
abbrev bound (c : Dev nD) (f : TbBuf0 (F := F) c tbM0_1) : BitVec 32 :=
  View.readAt (Elt F) tbM0_1.view (Rect.unit (s := S1) ![0] S1.size inb_S1_S1_0).toLoadRect f (Shape.Idx.first (numel1_S1.symm ▸ Nat.one_pos))

/-- The whole block of rows. -/
abbrev rRows : Rect S512x8x128 := Rect.unit (s := S512x8x128) ![0, 0, 0] S512x8x128.size inb_S512x8x128_S512x8x128_0_0_0
/-- The whole block of the two factors' weights. -/
abbrev rIn : Rect S1x1x1024x2816 := Rect.unit (s := S1x1x1024x2816) ![0, 0, 0, 0] S1x1x1024x2816.size inb_S1x1x1024x2816_S1x1x1024x2816_0_0_0_0
/-- The whole block of the projection's weights. -/
abbrev rOut : Rect S1x1x1408x1024 := Rect.unit (s := S1x1x1408x1024) ![0, 0, 0, 0] S1x1x1408x1024.size inb_S1x1x1408x1024_S1x1x1408x1024_0_0_0_0

/-- The result block of a tile in use. -/
def outUsed (x0 : Vec F S512x8x128 .f32) (x1 : Vec F S1x1x1024x2816 .bf16) (x2 : Vec F S1x1x1408x1024 .bf16) : Vec F S512x8x128 .f32 :=
  View.canon [⟨rRows, k0_pay1 (View.ld x0 rRows) (View.ld x1 rIn) (View.ld x2 rOut)⟩]

/-- The result block of a tile not in use. -/
def outFree : Vec F S512x8x128 .f32 := View.canon [⟨rRows, k0_pay2 (F := F)⟩]

/-- One store over the whole block covers it. -/
theorem coverRows (p : Vec F S512x8x128 .f32) (y : S512x8x128.Idx) :
    ∃ pc ∈ ([⟨rRows, p⟩] : List (View.Piece (Elt F) S512x8x128 .f32)), y ∈ pc.1.set :=
  View.cover_of_tiled [⟨rRows, p⟩] S512x8x128.size (by rfl) y

/-- The result block, by the body's first condition. -/
def outOf (i : grid0.Coords) (b : BitVec 32) (x0 : Vec F S512x8x128 .f32) (x1 : Vec F S1x1x1024x2816 .bf16) (x2 : Vec F S1x1x1408x1024 .bf16) :
    Vec F S512x8x128 .f32 := if k0_cond1 i b = 1#1 then outUsed x0 x1 x2 else outFree

/-- The body's two conditions exclude each other and one of them holds. -/
theorem cond_iff (i : grid0.Coords) (b : BitVec 32) : k0_cond2 i b = 1#1 ↔ ¬ k0_cond1 i b = 1#1 := by
  unfold k0_cond2 k0_cond1
  simp only [Scalar.cmpi, Scalar.extui, IntOp.cmpi]
  by_cases h : (BitVec.ofNat 32 (i 0).val).slt b
  · have h' : b.sle (BitVec.ofNat 32 (i 0).val) = false := by
      rw [BitVec.slt_iff_toInt_lt] at h; rw [BitVec.sle_eq_decide]; simpa using h
    simp [h, h']
  · have h' : b.sle (BitVec.ofNat 32 (i 0).val) = true := by
      rw [BitVec.slt_iff_toInt_lt] at h; rw [BitVec.sle_eq_decide]; simpa using h
    simp [h, h']

set_option maxHeartbeats 2000000 in
/-- The body on a tile in use: the three input blocks and the tables are left as they are, the result block ends at the product. -/
theorem run_used (c : Dev nD) (i : grid0.Coords) (arg3 : Memref sig .tc .vmem S512x8x128 .f32) (harg3 : arg3.IsWhole)
    (arg4 : Memref sig .tc .vmem S1x1x1024x2816 .bf16) (harg4 : arg4.IsWhole) (arg5 : Memref sig .tc .vmem S1x1x1408x1024 .bf16) (harg5 : arg5.IsWhole)
    (arg6 : Memref sig .tc .vmem S512x8x128 .f32) (harg6 : arg6.IsWhole) (x0 : Vec F S512x8x128 .f32) (x1 : Vec F S1x1x1024x2816 .bf16)
    (x2 : Vec F S1x1x1408x1024 .bf16) (xt0 : TbBuf0 (F := F) c tbM0_0) (xt1 : TbBuf0 (F := F) c tbM0_1)
    (h1 : k0_cond1 i (bound c xt1) = 1#1) (h2 : ¬ k0_cond2 i (bound c xt1) = 1#1) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2
            ∗ owns (c : Thread nD τ) arg6 fullShare (outUsed x0 x1 x2) ∗ tbPt0 c tbM0_0 xt0 ∗ tbPt0 c tbM0_1 xt1) -∗ K ⟨⟩))
      ⊢ wp frame (wpE (defs₀ (F := F)) Variants.none c none) E
          (cc0_experts i tbM0_0 (Memref.isWhole_whole _) tbM0_1 (Memref.isWhole_whole _) arg3 harg3 arg4 harg4 arg5 harg5 arg6 harg6) K := by
  rw [cc0_experts_eq_skeleton]; unfold cc0_experts_skel
  unfold owns
  iintro ⟨⟨%f0, %hf0, H0⟩, ⟨%f1, %hf1, H1⟩, ⟨%f2, %hf2, H2⟩, ⟨%d3, %f3, -, H3⟩, HT0, HT1, Hk⟩
  subst hf0 hf1 hf2
  have hT0 : tbM0_0.IsWhole := Memref.isWhole_whole _
  have hT1 : tbM0_1.IsWhole := Memref.isWhole_whole _
  sl_exec! (disch := first | (guard_target = k0_cond1 _ _ = _; exact h1) | (guard_target = ¬(k0_cond2 _ _ = _); exact h2))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (coverRows _)).trans ?_
    rfl
  isplitl [HT0]; · iexact HT0
  iexact HT1

set_option maxHeartbeats 2000000 in
/-- The body on a tile not in use: the result block ends at zeros. -/
theorem run_free (c : Dev nD) (i : grid0.Coords) (arg3 : Memref sig .tc .vmem S512x8x128 .f32) (harg3 : arg3.IsWhole)
    (arg4 : Memref sig .tc .vmem S1x1x1024x2816 .bf16) (harg4 : arg4.IsWhole) (arg5 : Memref sig .tc .vmem S1x1x1408x1024 .bf16) (harg5 : arg5.IsWhole)
    (arg6 : Memref sig .tc .vmem S512x8x128 .f32) (harg6 : arg6.IsWhole) (x0 : Vec F S512x8x128 .f32) (x1 : Vec F S1x1x1024x2816 .bf16)
    (x2 : Vec F S1x1x1408x1024 .bf16) (xt0 : TbBuf0 (F := F) c tbM0_0) (xt1 : TbBuf0 (F := F) c tbM0_1)
    (h1 : ¬ k0_cond1 i (bound c xt1) = 1#1) (h2 : k0_cond2 i (bound c xt1) = 1#1) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2
            ∗ owns (c : Thread nD τ) arg6 fullShare outFree ∗ tbPt0 c tbM0_0 xt0 ∗ tbPt0 c tbM0_1 xt1) -∗ K ⟨⟩))
      ⊢ wp frame (wpE (defs₀ (F := F)) Variants.none c none) E
          (cc0_experts i tbM0_0 (Memref.isWhole_whole _) tbM0_1 (Memref.isWhole_whole _) arg3 harg3 arg4 harg4 arg5 harg5 arg6 harg6) K := by
  rw [cc0_experts_eq_skeleton]; unfold cc0_experts_skel
  unfold owns
  iintro ⟨H0, H1, H2, ⟨%d3, %f3, -, H3⟩, HT0, HT1, Hk⟩
  have hT0 : tbM0_0.IsWhole := Memref.isWhole_whole _
  have hT1 : tbM0_1.IsWhole := Memref.isWhole_whole _
  sl_exec! (disch := first | (guard_target = ¬(k0_cond1 _ _ = _); exact h1) | (guard_target = k0_cond2 _ _ = _; exact h2))
  sl_step
  iapply Hk
  isplitl [H0]; · iexact H0
  isplitl [H1]; · iexact H1
  isplitl [H2]; · iexact H2
  isplitl [H3]
  · iexists _; isplitr
    swap; · iexact H3
    ipureintro
    refine (View.read_writes_eq_canon _ _ _ (coverRows _)).trans ?_
    rfl
  isplitl [HT0]; · iexact HT0
  iexact HT1

/-- The body at any tile: the result block ends at the tile's product or at zeros, as the tile is in use or not. -/
theorem run_body (c : Dev nD) (i : grid0.Coords) (arg3 : Memref sig .tc .vmem S512x8x128 .f32) (harg3 : arg3.IsWhole)
    (arg4 : Memref sig .tc .vmem S1x1x1024x2816 .bf16) (harg4 : arg4.IsWhole) (arg5 : Memref sig .tc .vmem S1x1x1408x1024 .bf16) (harg5 : arg5.IsWhole)
    (arg6 : Memref sig .tc .vmem S512x8x128 .f32) (harg6 : arg6.IsWhole) (x0 : Vec F S512x8x128 .f32) (x1 : Vec F S1x1x1024x2816 .bf16)
    (x2 : Vec F S1x1x1408x1024 .bf16) (xt0 : TbBuf0 (F := F) c tbM0_0) (xt1 : TbBuf0 (F := F) c tbM0_1) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2
            ∗ owns (c : Thread nD τ) arg6 fullShare (outOf i (bound c xt1) x0 x1 x2) ∗ tbPt0 c tbM0_0 xt0 ∗ tbPt0 c tbM0_1 xt1) -∗ K ⟨⟩))
      ⊢ wp frame (wpE (defs₀ (F := F)) Variants.none c none) E
          (cc0_experts i tbM0_0 (Memref.isWhole_whole _) tbM0_1 (Memref.isWhole_whole _) arg3 harg3 arg4 harg4 arg5 harg5 arg6 harg6) K := by
  by_cases h : k0_cond1 i (bound c xt1) = 1#1
  · have e : outOf i (bound c xt1) x0 x1 x2 = outUsed x0 x1 x2 := if_pos h
    rw [e]
    exact run_used c i arg3 harg3 arg4 harg4 arg5 harg5 arg6 harg6 x0 x1 x2 xt0 xt1 h (fun h' => (cond_iff i _).1 h' h) E K
  · have e : outOf i (bound c xt1) x0 x1 x2 = outFree := if_neg h
    rw [e]
    exact run_free c i arg3 harg3 arg4 harg4 arg5 harg5 arg6 harg6 x0 x1 x2 xt0 xt1 h ((cond_iff i _).2 h) E K

end Cert.Kernel3Ideal.Gen

end
-- ==== Proof.E3I.Frame.lean ====
/- The experts' launch, at any tables whose words keep the blocks inside the arrays: it runs, its result array holds every
   tile's block, and its arguments end unchanged. -/
module

public import proofs.«01_k».proof.Proof.E3I.Run
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the launch is entered: as the program is started. -/
abbrev V (c : Dev nD) (b : Ref sig .tc) : Buf (Elt F) ((c : Thread nD τ).loc b) := m ((c : Thread nD τ).loc b)

set_option maxHeartbeats 800000 in
/-- The program is the launch alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents when the launch is entered. -/
def tbl : pre0.Contents (Elt F) := fun j => V m (0 : Dev nD) (pre0.ref j)
/-- The one device holds those tables. -/
theorem V_pre (c : Dev nD) (j : Fin 2) : V m c (pre0.ref j) = tbl m j := by
  obtain rfl : c = 0 := Subsingleton.elim _ _; rfl
/-- Every block that a table's word places lies inside its array. -/
abbrev Ok : Prop := ok0 (F := F) (tbl m)
/-- The tables as the launch takes them. -/
abbrev adm (hO : Ok m) : (pcfg0 (F := F)).Adm := ⟨tbl m, hO⟩
/-- The pipeline at the tables. -/
abbrev cfgM (hO : Ok m) : Pipeline.Cfg sig Λ₀ := cfg0 (adm m hO)

/-- The shares of the tables that the body is handed, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The result's block is written back at every tile. -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide)
    (Pipeline.Window.sep_of_coord cc0_transform_3 0 0 (fun _ => rfl) (by decide)) (P := 1) (m := 0) (by decide) rfl t).mpr (Nat.mod_one _) :
    ∀ t : Fin grid0.N, Pipeline.Window.flushOf grid0 true cc0_transform_3 t = true)

/-- The kernel body at a tile, on the buffers the pipeline hands it. -/
abbrev bodyAt0 (a : (pcfg0 (F := F)).Adm) (t : Fin (cfg0 a).N) : Prog (TpuEff nD τ sig (Elt F) Λ₀ .tc) PUnit :=
  cc0_experts (grid0.coords t) (Memref.whole main_arg0) (Memref.isWhole_whole _) (Memref.whole main_arg1) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))

/-- A window's block at a tile, read off its array as the launch finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the body leaves in the result's buffer at a tile. -/
def left (hO : Ok m) (c : Dev nD) (t : Fin (cfgM m hO).N) : Vec F S512x8x128 .f32 :=
  outOf (grid0.coords t) (bound c (tbl m 1)) (iblk m hO c 0 t) (iblk m hO c 1 t) (iblk m hO c 2 t)

/-- The proof data of the launch: the inputs' buffers keep their blocks, the result's holds what the body leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => left m hO c t
  Φ _ := iprop(Pipeline.ΦA spec0 c ∗ Pipeline.ΦT pre0 (tbl m) c)
  q _ := fullShare
  owed _ := 0

/-- The launch finds its arrays as the program is started. -/
theorem A_eq (hO : Ok m) (c : Dev nD) (w : Fin (cfgM m hO).W) : (dats m hO 0 c).A w = V m c (Pipeline.arrRef spec0 w) := by
  dsimp only [dats]

/-- The rows' buffer keeps its block. -/
theorem after0_0 (hO : Ok m) (c : Dev nD) (t : Fin (cfgM m hO).N) : (dats m hO 0 c).after 0 t = iblk m hO c 0 t := by dsimp only [dats]; try rfl
/-- The two factors' buffer keeps its block. -/
theorem after0_1 (hO : Ok m) (c : Dev nD) (t : Fin (cfgM m hO).N) : (dats m hO 0 c).after 1 t = iblk m hO c 1 t := by dsimp only [dats]; try rfl
/-- The projection's buffer keeps its block. -/
theorem after0_2 (hO : Ok m) (c : Dev nD) (t : Fin (cfgM m hO).N) : (dats m hO 0 c).after 2 t = iblk m hO c 2 t := by dsimp only [dats]; try rfl
/-- The result's buffer holds what the body leaves. -/
theorem after0_3 (hO : Ok m) (c : Dev nD) (t : Fin (cfgM m hO).N) : (dats m hO 0 c).after 3 t = left m hO c t := by dsimp only [dats]; try rfl

/-- The rows' buffer holds its block when the body is called. -/
theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- The two factors' buffer holds its block when the body is called. -/
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- The projection's buffer holds its block when the body is called. -/
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- A window's buffer at a tile. -/
abbrev ms0_0 (hO : Ok m) (t : Fin (cfgM m hO).N) : Memref sig .tc .vmem S512x8x128 .f32 := spec0_0.stage ((cfgM m hO).slots t 0)
/-- A window's buffer at a tile. -/
abbrev ms0_1 (hO : Ok m) (t : Fin (cfgM m hO).N) : Memref sig .tc .vmem S1x1x1024x2816 .bf16 := spec0_1.stage ((cfgM m hO).slots t 1)
/-- A window's buffer at a tile. -/
abbrev ms0_2 (hO : Ok m) (t : Fin (cfgM m hO).N) : Memref sig .tc .vmem S1x1x1408x1024 .bf16 := spec0_2.stage ((cfgM m hO).slots t 2)
/-- A window's buffer at a tile. -/
abbrev ms0_3 (hO : Ok m) (t : Fin (cfgM m hO).N) : Memref sig .tc .vmem S512x8x128 .f32 := spec0_3.stage ((cfgM m hO).slots t 3)

/-- What the body is called with at a tile. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- What the body returns at a tile. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

/-- The body at a tile, from what it is called with to what it returns. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  unfold left
  iintro ⟨⟨HΦ, ⟨HT0, HT1⟩⟩, Ho, ⟨%d0, H0⟩, ⟨%d1, H1⟩, ⟨%d2, H2⟩, ⟨%d3, H3⟩⟩
  iapply (run_body c (grid0.coords t) _ _ _ _ _ _ _ _ (iblk m hO c 0 t) (iblk m hO c 1 t) (iblk m hO c 2 t) (tbl m 0) (tbl m 1) Set.univ _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, H3, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  iexact H3

/-- The pipeline's body is the kernel's at the buffers of the tile. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- Every tile's body writes the result's buffer: one of its two conditions holds. -/
theorem busy (hO : Ok m) (i : grid0.Coords) : (cfgM m hO).idle 3 i = false := by
  show (!(k0_cond1 i ((tbl m).atD 1 ![0]) == 1#1) && !(k0_cond2 i ((tbl m).atD 1 ![0]) == 1#1)) = false
  by_cases h : k0_cond1 i ((tbl m).atD 1 ![0]) = 1#1
  · simp [h]
  · simp [(cond_iff i _).2 h]

/-- The body's obligation at every tile. -/
theorem body_obligation (hO : Ok m) (c : Dev nD) : BodyObligation (dats (F := F) m hO 0 c) (defs₀ (F := F)) Variants.none () Set.univ := fun t => by
  rw [bigSep_W0, bigSep_W0, defs₀_row m hO, busy m hO]
  exact triple_restated (sound_body m hO c t) rfl .rfl fun _ => .rfl

set_option backward.isDefEq.respectTransparency.types false in
/-- The launch runs to the arrays the proof data give, every counter at zero. -/
theorem run_main (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The result array holds every tile's block, the arguments end unchanged, every counter at zero. -/
theorem run_blocks (hO : Ok m) : θ_run defs (onTc (τ := τ) (main (F := F))) ⟨m, fun _ => 0, ρ⟩ (fun r => (∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2))⟩, h.2⟩) (run_main m ρ hO)

/-- The frame: the arguments end unchanged, every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_blocks m ρ hO)

end Cert.Kernel3Ideal.Gen

end
-- ==== Proof.E3I.Ok.lean ====
/- The tables' words in range place every block inside its array. -/
module

public import proofs.«01_k».proof.Proof.E3I.Frame
public import Idealize.ShloMosaic.Lib.Pipeline.ValueKit

@[expose] public section

set_option maxRecDepth 16384

noncomputable section

namespace Cert.Kernel3Ideal.Gen

open Idealize.ShloMosaic Idealize.ShloMosaic.TcCoe

variable {F : FTy → Type} [FloatOps F]
variable (m : (ℓ : Loc nD τ sig) → Buf (Elt F) ℓ)

/-- The expert that the table names for a tile. -/
def expertWord (t : Fin 136) : BitVec 32 := m (((0 : Dev nD) : Thread nD τ).loc main_arg0) (ix1 t)

/-- The number of tiles in use. -/
def usedWord : BitVec 32 := m (((0 : Dev nD) : Thread nD τ).loc main_arg1) (ix1 0)

/-- Every tile's expert is one of the eight, and at least one tile is in use. -/
def InRange : Prop :=
  (∀ t, 0 ≤ (expertWord m t).toInt ∧ (expertWord m t).toInt ≤ 7) ∧ 1 ≤ (usedWord m).toInt

/-- A tile's number. -/
abbrev tile (i : grid0.Coords) : Fin 136 := i 0

/-- The word of the first table that places a tile's weights. -/
theorem at_expert (i : grid0.Coords) :
    (tbl m).at 0 (Rect.unit (s := S136) ![(Scalar.indexCast (BitVec.ofNat 32 (i 0).val)).toNat] S1.size (k0_off1_inb i)) numel1_S1
      = expertWord m (tile i) := by
  have hi : (i 0).val < 136 := (i 0).isLt
  refine congrArg (m (((0 : Dev nD) : Thread nD τ).loc main_arg0)) (funext fun (a : Fin 1) => Fin.ext ?_)
  match a with
  | ⟨0, _⟩ =>
  show (Scalar.indexCast (BitVec.ofNat 32 (i 0).val)).toNat + 0 * 1 = (i 0).val
  simp only [Scalar.indexCast, BitVec.toNat_ofNat]
  omega

/-- The word of the second table. -/
theorem at_used : (tbl m).at 1 (Rect.unit (s := S1) ![0] S1.size inb_S1_S1_0) numel1_S1 = usedWord m :=
  congrArg (m (((0 : Dev nD) : Thread nD τ).loc main_arg1)) (funext fun (a : Fin 1) => match a with
    | ⟨0, _⟩ => Subsingleton.elim (α := Fin 1) _ _)

/-- The block of weights of a tile is its expert's. -/
theorem place1 (i : grid0.Coords) : cc0_transform_1 k0_off1_inb numel1_S1 (tbl m) i = ![0, (expertWord m (tile i)).toNat, 0, 0] := by
  rw [← at_expert]; rfl

/-- The block of the projection's weights of a tile is its expert's. -/
theorem place2 (i : grid0.Coords) : cc0_transform_2 k0_off1_inb numel1_S1 (tbl m) i = ![0, (expertWord m (tile i)).toNat, 0, 0] := by
  rw [← at_expert]; rfl

/-- The lesser of a tile's number and the last tile in use. -/
def rowsAt (i : grid0.Coords) : Nat := (Scalar.minsi (BitVec.ofNat 32 (i 0).val) (Scalar.subi (usedWord m) 1#32)).toNat

/-- The block of rows of a tile. -/
theorem place0 (i : grid0.Coords) : cc0_transform_0 inb_S1_S1_0 numel1_S1 (tbl m) i = ![rowsAt m i, 0, 0] := by
  unfold rowsAt; rw [← at_used]; rfl

/-- A word in range as a number. -/
theorem expert_lt (h : InRange m) (t : Fin 136) : (expertWord m t).toNat < 8 := by
  obtain ⟨h0, h1⟩ := h.1 t
  simp only [BitVec.toInt] at h0 h1
  split at h1 <;> omega

/-- The number of tiles in use as a number. -/
theorem used_nat (h : InRange m) : 1 ≤ (usedWord m).toNat ∧ (usedWord m).toNat < 2 ^ 31 := by
  have h0 := h.2
  have := (usedWord m).isLt
  simp only [BitVec.toInt] at h0
  split at h0 <;> omega

/-- The rows' block is the lesser of the two tiles. -/
theorem rowsAt_eq (h : InRange m) (i : grid0.Coords) : rowsAt m i = min (i 0).val ((usedWord m).toNat - 1) := by
  have hi : (i 0).val < 136 := (i 0).isLt
  obtain ⟨h0, h1⟩ := used_nat m h
  show (if (BitVec.ofNat 32 (i 0).val).slt (usedWord m - 1#32) then BitVec.ofNat 32 (i 0).val else usedWord m - 1#32).toNat = _
  generalize usedWord m = u at h0 h1 ⊢
  have e : (u - 1#32).toNat = u.toNat - 1 := by
    rw [BitVec.toNat_sub]; simp; omega
  have s : (BitVec.ofNat 32 (i 0).val).slt (u - 1#32) = decide ((i 0).val < u.toNat - 1) := by
    simp only [BitVec.slt, BitVec.toInt, e, BitVec.toNat_ofNat]
    congr 1
    apply propext
    split <;> split <;> omega
  rw [s]
  by_cases hlt : (i 0).val < u.toNat - 1
  · rw [if_pos (by simpa using hlt), BitVec.toNat_ofNat]; omega
  · rw [if_neg (by simpa using hlt), e]; omega

/-- Every block lies inside its array. -/
theorem ok_of (h : InRange m) : Ok m := by
  refine ⟨fun i => ⟨?_, .inl rfl⟩, fun i => ⟨?_, .inr (Affine.block_words_dvd (s := S2x8x1024x2816) (p := EltTy.packing .bf16) (by decide) (by decide))⟩,
    fun i => ⟨?_, .inr (Affine.block_words_dvd (s := S2x8x1408x1024) (p := EltTy.packing .bf16) (by decide) (by decide))⟩⟩
  · have hi : (i 0).val < 136 := (i 0).isLt
    rw [place0, rowsAt_eq m h]
    intro a
    match a with
    | ⟨0, _⟩ => show (min (i 0).val ((usedWord m).toNat - 1) + 1) * 512 ≤ 69632; omega
    | ⟨1, _⟩ => show (0 + 1) * 8 ≤ 8; omega
    | ⟨2, _⟩ => show (0 + 1) * 128 ≤ 128; omega
  · have := expert_lt m h (tile i)
    rw [place1]
    intro a
    match a with
    | ⟨0, _⟩ => show (0 + 1) * 1 ≤ 2; omega
    | ⟨1, _⟩ => show ((expertWord m (tile i)).toNat + 1) * 1 ≤ 8; omega
    | ⟨2, _⟩ => show (0 + 1) * 1024 ≤ 1024; omega
    | ⟨3, _⟩ => show (0 + 1) * 2816 ≤ 2816; omega
  · have := expert_lt m h (tile i)
    rw [place2]
    intro a
    match a with
    | ⟨0, _⟩ => show (0 + 1) * 1 ≤ 2; omega
    | ⟨1, _⟩ => show ((expertWord m (tile i)).toNat + 1) * 1 ≤ 8; omega
    | ⟨2, _⟩ => show (0 + 1) * 1408 ≤ 1408; omega
    | ⟨3, _⟩ => show (0 + 1) * 1024 ≤ 1024; omega

end Cert.Kernel3Ideal.Gen

end
-- ==== Proof.ExpPay.lean ====
/-
  What the experts' kernel stores in a tile in use, at an index.
-/
module

public import proofs.«01_k».proof.Proof.FfnPay
public import proofs.«01_k».proof.Proof.E3I.Ok
public import Idealize.ShloMosaic.Lib.Pointwise
public import Idealize.ShloMosaic.Lib.Pipeline.ValueKit.Tiles
public import Idealize.ShloMosaic.Lib.Pipeline.Value

@[expose] public section

set_option maxRecDepth 16384

noncomputable section

namespace Cert.Experts

open Idealize.ShloMosaic Cert.Kernel3Ideal Cert.Kernel3Ideal.Gen Cert.Ffn

/-- A tile's rows, laid out as lanes. -/
def lanes (x : Vec Ideal S512x8x128 .f32) : FVec Ideal S512x1024 .bf16 :=
  truncf .bf16 (shapeCast S512x1024 x shapeCasts_S512x8x128_S512x1024 : FVec Ideal S512x1024 .f32) bitsLt_bf16_f32

/-- A tile's rows at an index. -/
theorem lanes_apply (x : Vec Ideal S512x8x128 .f32) (r : Fin 512) (d : Fin 1024) :
    lanes x (ix2 r d) = x (ix3 r ⟨d.val / 128, by omega⟩ ⟨d.val % 128, by omega⟩) := by
  pointwise [lanes]

/-- The rows times both factors' weights. -/
def both (h : FVec Ideal S512x1024 .bf16) (w : Vec Ideal S1x1x1024x2816 .bf16) : FVec Ideal S512x2816 .f32 :=
  matmul dot_S512x1024_S1024x2816_S512x2816_1_0_0_1_n_n none h
    (shapeCast S1024x2816 w shapeCasts_S1x1x1024x2816_S1024x2816 : FVec Ideal S1024x2816 .bf16) (constant S512x2816 .f32 0x00000000#32)

/-- The rows times both factors' weights at an index. -/
theorem both_apply (h : FVec Ideal S512x1024 .bf16) (w : Vec Ideal S1x1x1024x2816 .bf16) (r : Fin 512) (k : Fin 2816) :
    both h w (ix2 r k) = dot (fun e => h (ix2 r e)) fun e => w (ix4 0 0 e k) := by
  unfold dot
  pointwise [both]

/-- The hidden lanes from the two halves of that product. -/
def pairHidden (b : FVec Ideal S512x2816 .f32) : FVec Ideal S512x1408 .bf16 :=
  have half : FVec Ideal S512x1408 .f32 := broadcast S512x1408 (Scalar.ofBits .f32 0x3F000000#32)
  have g : FVec Ideal S512x1408 .f32 := extractStridedSlice S512x1408 ![0, 0] b slices_S512x2816_o0_0_S512x1408
  have u : FVec Ideal S512x1408 .f32 := extractStridedSlice S512x1408 ![0, 1408] b slices_S512x2816_o0_1408_S512x1408
  truncf .bf16 (mulf (mulf g (addf (mulf half (tanh (mulf half g))) half)) u) bitsLt_bf16_f32

/-- The hidden lanes at an index, from the product. -/
theorem pairHidden_read (b : FVec Ideal S512x2816 .f32) (r : Fin 512) (k : Fin 1408) :
    pairHidden b (ix2 r k) = b (ix2 r ⟨k.val, by omega⟩) * Ideal.logistic (b (ix2 r ⟨k.val, by omega⟩)) * b (ix2 r ⟨1408 + k.val, by omega⟩) := by
  rw [← gate_eq]
  pointwise [pairHidden]

/-- The hidden lanes at an index. -/
theorem pairHidden_apply (h : FVec Ideal S512x1024 .bf16) (w : Vec Ideal S1x1x1024x2816 .bf16) (r : Fin 512) (k : Fin 1408) :
    pairHidden (both h w) (ix2 r k) = Cert.Ffn.hidden (fun e => h (ix2 r e)) (fun e => w (ix4 0 0 e ⟨k.val, by omega⟩))
      fun e => w (ix4 0 0 e ⟨1408 + k.val, by omega⟩) := by
  rw [pairHidden_read, both_apply, both_apply]
  rfl

/-- The projection of the hidden lanes, laid out as rows. -/
def projected (a : FVec Ideal S512x1408 .bf16) (w : Vec Ideal S1x1x1408x1024 .bf16) : FVec Ideal S512x8x128 .f32 :=
  shapeCast S512x8x128 (matmul dot_S512x1408_S1408x1024_S512x1024_1_0_0_1_n_n none a
    (shapeCast S1408x1024 w shapeCasts_S1x1x1408x1024_S1408x1024 : FVec Ideal S1408x1024 .bf16) (constant S512x1024 .f32 0x00000000#32)
      : FVec Ideal S512x1024 .f32) shapeCasts_S512x1024_S512x8x128

/-- The projection at an index. -/
theorem projected_apply (a : FVec Ideal S512x1408 .bf16) (w : Vec Ideal S1x1x1408x1024 .bf16) (r : Fin 512) (s : Fin 8) (l : Fin 128) :
    projected a w (ix3 r s l) = ∑ k : Fin 1408, a (ix2 r k) * w (ix4 0 0 k ⟨s.val * 128 + l.val, by omega⟩) := by
  pointwise [projected]

/-- What a tile in use leaves in its block, from its windows. -/
theorem used_apply (x : Vec Ideal S512x8x128 .f32) (wi : Vec Ideal S1x1x1024x2816 .bf16) (wo : Vec Ideal S1x1x1408x1024 .bf16)
    (r : Fin 512) (s : Fin 8) (l : Fin 128) :
    outUsed (F := Ideal) x wi wo (ix3 r s l)
      = ∑ k : Fin 1408, Cert.Ffn.hidden (fun a => x (ix3 r ⟨a.val / 128, by omega⟩ ⟨a.val % 128, by omega⟩))
          (fun a => wi (ix4 0 0 a ⟨k.val, by omega⟩)) (fun a => wi (ix4 0 0 a ⟨1408 + k.val, by omega⟩))
        * wo (ix4 0 0 k ⟨s.val * 128 + l.val, by omega⟩) := by
  have e : outUsed (F := Ideal) x wi wo = projected (pairHidden (both (lanes x) wi)) wo := by
    unfold outUsed
    rw [View.canon_cons_unit_lit _ _ _ (by decide), View.ld_unit_lit _ _ (by decide), View.ld_unit_lit _ _ (by decide),
      View.ld_unit_lit _ _ (by decide)]
    rfl
  rw [e, projected_apply]
  simp only [pairHidden_apply, lanes_apply]

/-- What a tile not in use leaves in its block: zeros. -/
theorem free_apply (r : Fin 512) (s : Fin 8) (l : Fin 128) : outFree (F := Ideal) (ix3 r s l) = 0 := by
  unfold outFree
  rw [View.canon_cons_unit_lit _ _ _ (by decide)]
  exact Ideal.ofBits_zero .f32

end Cert.Experts

end
-- ==== Proof.ExpRef.lean ====
/-
  The experts' reference read at an index: a sum over the experts, each times its tile's gate.
-/
module

public import proofs.«01_k».proof.Proof.FfnRef
public import proofs.«01_k».proof.Proof.Gen.Reference3Ideal.Read
public import Idealize.ShloMosaic.Lib.Pointwise

@[expose] public section

set_option maxRecDepth 16384

noncomputable section

namespace Cert.Experts

open Idealize.ShloMosaic Cert.Reference3Ideal Cert.Reference3Ideal.Read Cert.Ffn
open Cert.Reference3Ideal.Facts Cert.Reference3Ideal.Gen

variable (x0 : (⟨S136, .i32⟩ : BufTy).Contents (Elt Ideal)) (x1 : (⟨S1, .i32⟩ : BufTy).Contents (Elt Ideal))
  (x2 : (⟨S69632x8x128, .f32⟩ : BufTy).Contents (Elt Ideal)) (x3 : (⟨S2x8x1024x2816, .bf16⟩ : BufTy).Contents (Elt Ideal))
  (x4 : (⟨S2x8x1408x1024, .bf16⟩ : BufTy).Contents (Elt Ideal))

/-- A tile's row among all rows. -/
abbrev rowOf (t : Fin 136) (r : Fin 512) : Fin 69632 := ⟨t.val * 512 + r.val, by omega⟩

/-- A row's word that says whether a tile is in use and belongs to an expert. -/
def gateWord (t : Fin 136) (e : ℕ) : BitVec 1 :=
  IntOp.andi (IntOp.cmpi .eq (x0 (ix1 t)) (BitVec.ofNat 32 e)) (IntOp.cmpi .slt (BitVec.ofNat 32 t.val) (x1 (ix1 0)))

/-- The gate of a row for an expert. -/
theorem gates_apply (t : Fin 136) (r : Fin 512) (e : Fin 8) :
    val_main_v16 (F := Ideal) x0 x1 (ix2 (rowOf t r) e) = FloatOps.uitofp (F := Ideal) .f32 (gateWord x0 x1 t e.val) := by
  have h : idx_main_v15 (idx_main_v16 (ix2 (rowOf t r) e)) = ix2 t e := by
    funext a
    match a with
    | ⟨0, _⟩ => refine Fin.ext ?_; show ((t.val * 512 + r.val) * 8 + e.val) / 4096 = t.val; omega
    | ⟨1, _⟩ => refine Fin.ext ?_; show ((t.val * 512 + r.val) * 8 + e.val) % 8 = e.val; omega
  rw [val_main_v16_apply, val_main_v15_apply, h]
  unfold gateWord
  pointwise [val_main_v14, val_main_v13, val_main_v12, val_main_v11, val_main_v10, val_main_v9, val_main_v8, val_main_v7,
    val_main_v6, val_main_v5, val_main_v4, val_main_v3, val_main_v2, val_main_v1]

/-- The two factors' weights of an expert, from a column on. -/
def inWeights (e k : ℕ) (h : S2x8x1024x2816.Slices ![0, e, 0, k] S1x1x1024x1408) : FVec Ideal S1024x1408 .f32 :=
  extf .f32 (shapeCast S1024x1408 (extractStridedSlice S1x1x1024x1408 ![0, e, 0, k] x3 h) shapeCasts_S1x1x1024x1408_S1024x1408) bitsLt_bf16_f32

/-- The projection's weights of an expert. -/
def outWeights (e : ℕ) (h : S2x8x1408x1024.Slices ![0, e, 0, 0] S1x1x1408x1024) : FVec Ideal S1408x1024 .f32 :=
  extf .f32 (shapeCast S1408x1024 (extractStridedSlice S1x1x1408x1024 ![0, e, 0, 0] x4 h) shapeCasts_S1x1x1408x1024_S1408x1024) bitsLt_bf16_f32

/-- The two factors' weights of an expert at an index. -/
theorem inWeights_apply (e : Fin 8) (k : ℕ) (h) (hk : k ≤ 1408) (a : Fin 1024) (b : Fin 1408) :
    inWeights x3 e.val k h (ix2 a b) = x3 (ix4 0 e a ⟨k + b.val, by omega⟩) := by
  pointwise [inWeights]

/-- The projection's weights of an expert at an index. -/
theorem outWeights_apply (e : Fin 8) (h) (a : Fin 1408) (b : Fin 1024) :
    outWeights x4 e.val h (ix2 a b) = x4 (ix4 0 e a b) := by
  pointwise [outWeights]

/-- The rows at an index: a row of lanes, eight groups of 128. -/
theorem rows_apply (p : Fin 69632) (d : Fin 1024) :
    val_main_v0 (F := Ideal) x2 (ix2 p d) = x2 (ix3 p ⟨d.val / 128, by omega⟩ ⟨d.val % 128, by omega⟩) := by
  pointwise [val_main_v0]

/-- Rows times a factor's weights. -/
def factor (h : FVec Ideal S69632x1024 .f32) (w : FVec Ideal S1024x1408 .f32) : FVec Ideal S69632x1408 .f32 :=
  Host.dotGeneral dot_S69632x1024_S1024x1408_S69632x1408_1_0_0_1_n_n none h w

/-- Rows times a factor's weights at an index. -/
theorem factor_apply (h : FVec Ideal S69632x1024 .f32) (w : FVec Ideal S1024x1408 .f32) (p : Fin 69632) (k : Fin 1408) :
    factor h w (ix2 p k) = dot (fun e => h (ix2 p e)) fun e => w (ix2 e k) := by
  unfold dot
  pointwise [factor]

/-- The hidden lanes from the two factors. -/
def gated (g u : FVec Ideal S69632x1408 .f32) : FVec Ideal S69632x1408 .f32 :=
  have one : FVec Ideal S69632x1408 .f32 := broadcastInDim S69632x1408 ![] bcast_S_S69632x1408 (constant S_ .f32 0x3F800000#32)
  mulf (mulf g (Host.divf one (addf one (Host.exp (Host.negf g))))) u

/-- The hidden lanes at an index. -/
theorem gated_apply (h : FVec Ideal S69632x1024 .f32) (wg wu : FVec Ideal S1024x1408 .f32) (p : Fin 69632) (k : Fin 1408) :
    gated (factor h wg) (factor h wu) (ix2 p k)
      = hidden (fun e => h (ix2 p e)) (fun e => wg (ix2 e k)) fun e => wu (ix2 e k) := by
  unfold Cert.Ffn.hidden
  rw [← factor_apply, ← factor_apply, ← logistic_bits]
  pointwise [gated]

/-- An expert's rows, each times its gate. -/
def term (e : ℕ) (hg : S69632x8.Slices ![0, e] S69632x1) (hi : S2x8x1024x2816.Slices ![0, e, 0, 0] S1x1x1024x1408)
    (hu : S2x8x1024x2816.Slices ![0, e, 0, 1408] S1x1x1024x1408) (ho : S2x8x1408x1024.Slices ![0, e, 0, 0] S1x1x1408x1024) :
    FVec Ideal S69632x1024 .f32 :=
  mulf (broadcastInDim S69632x1024 ![0, 1] bcast_S69632x1_S69632x1024_0_1 (extractStridedSlice S69632x1 ![0, e] (val_main_v16 x0 x1) hg))
    (Host.dotGeneral dot_S69632x1408_S1408x1024_S69632x1024_1_0_0_1_n_n none
      (gated (factor (val_main_v0 x2) (inWeights x3 e 0 hi)) (factor (val_main_v0 x2) (inWeights x3 e 1408 hu))) (outWeights x4 e ho))

/-- A row through an expert, at a lane. -/
def expert (x2 : S69632x8x128.Idx → EReal) (x3 : S2x8x1024x2816.Idx → EReal) (x4 : S2x8x1408x1024.Idx → EReal)
    (e : Fin 8) (p : Fin 69632) (d : Fin 1024) : EReal :=
  ∑ k : Fin 1408, hidden (fun a => x2 (ix3 p ⟨a.val / 128, by omega⟩ ⟨a.val % 128, by omega⟩)) (fun a => x3 (ix4 0 e a ⟨k.val, by omega⟩))
    (fun a => x3 (ix4 0 e a ⟨1408 + k.val, by omega⟩)) * x4 (ix4 0 e k d)

/-- Rows times the projection's weights at an index, each times a gate. -/
theorem scaled_apply (c : FVec Ideal S69632x8 .f32) (a : FVec Ideal S69632x1408 .f32) (w : FVec Ideal S1408x1024 .f32) (e : Fin 8) (hg)
    (p : Fin 69632) (d : Fin 1024) :
    mulf (broadcastInDim S69632x1024 ![0, 1] bcast_S69632x1_S69632x1024_0_1 (extractStridedSlice S69632x1 ![0, e.val] c hg))
      (Host.dotGeneral dot_S69632x1408_S1408x1024_S69632x1024_1_0_0_1_n_n none a w) (ix2 p d)
      = c (ix2 p e) * ∑ k : Fin 1408, a (ix2 p k) * w (ix2 k d) := by
  pointwise

/-- An expert's gated rows at an index. -/
theorem term_apply (e : Fin 8) (hg) (hi) (hu) (ho) (t : Fin 136) (r : Fin 512) (d : Fin 1024) :
    term x0 x1 x2 x3 x4 e.val hg hi hu ho (ix2 (rowOf t r) d)
      = FloatOps.uitofp (F := Ideal) .f32 (gateWord x0 x1 t e.val) * expert x2 x3 x4 e (rowOf t r) d := by
  unfold term expert
  rw [scaled_apply, gates_apply]
  simp only [gated_apply, rows_apply, inWeights_apply x3 e 0 hi (by omega), inWeights_apply x3 e 1408 hu (by omega), outWeights_apply,
    Nat.zero_add]

/-- The reference adds the experts' gated rows one after another. -/
theorem sum_terms : val_main_v161 (F := Ideal) x0 x1 x2 x3 x4 =
    (have y : FVec Ideal S69632x1024 .f32 := val_main_v17 (F := Ideal)
     have y := addf y (term x0 x1 x2 x3 x4 0 slices_S69632x8_S69632x1_0_0 slices_S2x8x1024x2816_S1x1x1024x1408_0_0_0_0 slices_S2x8x1024x2816_S1x1x1024x1408_0_0_0_1408 slices_S2x8x1408x1024_S1x1x1408x1024_0_0_0_0)
     have y := addf y (term x0 x1 x2 x3 x4 1 slices_S69632x8_S69632x1_0_1 slices_S2x8x1024x2816_S1x1x1024x1408_0_1_0_0 slices_S2x8x1024x2816_S1x1x1024x1408_0_1_0_1408 slices_S2x8x1408x1024_S1x1x1408x1024_0_1_0_0)
     have y := addf y (term x0 x1 x2 x3 x4 2 slices_S69632x8_S69632x1_0_2 slices_S2x8x1024x2816_S1x1x1024x1408_0_2_0_0 slices_S2x8x1024x2816_S1x1x1024x1408_0_2_0_1408 slices_S2x8x1408x1024_S1x1x1408x1024_0_2_0_0)
     have y := addf y (term x0 x1 x2 x3 x4 3 slices_S69632x8_S69632x1_0_3 slices_S2x8x1024x2816_S1x1x1024x1408_0_3_0_0 slices_S2x8x1024x2816_S1x1x1024x1408_0_3_0_1408 slices_S2x8x1408x1024_S1x1x1408x1024_0_3_0_0)
     have y := addf y (term x0 x1 x2 x3 x4 4 slices_S69632x8_S69632x1_0_4 slices_S2x8x1024x2816_S1x1x1024x1408_0_4_0_0 slices_S2x8x1024x2816_S1x1x1024x1408_0_4_0_1408 slices_S2x8x1408x1024_S1x1x1408x1024_0_4_0_0)
     have y := addf y (term x0 x1 x2 x3 x4 5 slices_S69632x8_S69632x1_0_5 slices_S2x8x1024x2816_S1x1x1024x1408_0_5_0_0 slices_S2x8x1024x2816_S1x1x1024x1408_0_5_0_1408 slices_S2x8x1408x1024_S1x1x1408x1024_0_5_0_0)
     have y := addf y (term x0 x1 x2 x3 x4 6 slices_S69632x8_S69632x1_0_6 slices_S2x8x1024x2816_S1x1x1024x1408_0_6_0_0 slices_S2x8x1024x2816_S1x1x1024x1408_0_6_0_1408 slices_S2x8x1408x1024_S1x1x1408x1024_0_6_0_0)
     addf y (term x0 x1 x2 x3 x4 7 slices_S69632x8_S69632x1_0_7 slices_S2x8x1024x2816_S1x1x1024x1408_0_7_0_0 slices_S2x8x1024x2816_S1x1x1024x1408_0_7_0_1408 slices_S2x8x1408x1024_S1x1x1408x1024_0_7_0_0)) := rfl

/-- The reference's result at an index: the sum over the experts of the gate times the expert's row. -/
theorem reference_apply (t : Fin 136) (r : Fin 512) (s : Fin 8) (l : Fin 128) :
    val_main_v162 (F := Ideal) x0 x1 x2 x3 x4 (ix3 (rowOf t r) s l)
      = ∑ e : Fin 8, FloatOps.uitofp (F := Ideal) .f32 (gateWord x0 x1 t e.val) * expert x2 x3 x4 e (rowOf t r) ⟨s.val * 128 + l.val, by omega⟩ := by
  have h : idx_main_v162 (ix3 (rowOf t r) s l) = ix2 (rowOf t r) ⟨s.val * 128 + l.val, by omega⟩ := by
    funext a
    match a with
    | ⟨0, _⟩ => refine Fin.ext ?_; show (((rowOf t r).val * 8 + s.val) * 128 + l.val) / 1024 = (rowOf t r).val; omega
    | ⟨1, _⟩ => refine Fin.ext ?_; show (((rowOf t r).val * 8 + s.val) * 128 + l.val) % 1024 = s.val * 128 + l.val; omega
  rw [val_main_v162_apply, h, sum_terms]
  generalize (⟨s.val * 128 + l.val, by omega⟩ : Fin 1024) = d
  have z : val_main_v17 (F := Ideal) (ix2 (rowOf t r) d) = 0 := by
    rw [val_main_v17_apply, val_main_cst_apply]; exact Ideal.ofBits_zero .f32
  have T := fun e hg hi hu ho => term_apply x0 x1 x2 x3 x4 e hg hi hu ho t r d
  refine (congrArg₂ (· + ·) (congrArg₂ (· + ·) (congrArg₂ (· + ·) (congrArg₂ (· + ·) (congrArg₂ (· + ·) (congrArg₂ (· + ·) (congrArg₂ (· + ·) (congrArg₂ (· + ·) z (T 0 _ _ _ _)) (T 1 _ _ _ _)) (T 2 _ _ _ _)) (T 3 _ _ _ _)) (T 4 _ _ _ _)) (T 5 _ _ _ _)) (T 6 _ _ _ _)) (T 7 _ _ _ _)).trans ?_
  rw [Fin.sum_univ_eight, zero_add]

/-- The gate's word is one exactly at the tile's expert, on a tile in use. -/
theorem gateWord_eq (t : Fin 136) (e : Fin 8) (h0 : (x0 (ix1 t)).toNat < 8) (h1 : (x1 (ix1 0)).toNat < 2 ^ 31) :
    gateWord x0 x1 t e.val = if e.val = (x0 (ix1 t)).toNat ∧ t.val < (x1 (ix1 0)).toNat then 1#1 else 0#1 := by
  unfold gateWord
  generalize x0 (ix1 t) = w at h0 ⊢
  generalize x1 (ix1 0) = u at h1 ⊢
  have a : IntOp.cmpi .eq w (BitVec.ofNat 32 e.val) = BitVec.ofBool (decide (e.val = w.toNat)) := by
    show BitVec.ofBool (w == BitVec.ofNat 32 e.val) = _
    congr 1
    rw [Bool.eq_iff_iff, beq_iff_eq, decide_eq_true_eq, ← BitVec.toNat_inj, BitVec.toNat_ofNat]
    omega
  have b : IntOp.cmpi .slt (BitVec.ofNat 32 t.val) u = BitVec.ofBool (decide (t.val < u.toNat)) := by
    show BitVec.ofBool ((BitVec.ofNat 32 t.val).slt u) = _
    congr 1
    have ht : (BitVec.ofNat 32 t.val).toNat = t.val := by rw [BitVec.toNat_ofNat]; omega
    simp only [BitVec.slt, BitVec.toInt, ht]
    congr 1
    apply propext
    split <;> split <;> omega
  rw [a, b]
  by_cases p : e.val = w.toNat <;> by_cases q : t.val < u.toNat <;> simp [p, q, IntOp.andi]

/-- The sum over the experts is the tile's expert's row on a tile in use, and zero on any other tile. -/
theorem collapse (t : Fin 136) (f : Fin 8 → EReal) (h0 : (x0 (ix1 t)).toNat < 8) (h1 : (x1 (ix1 0)).toNat < 2 ^ 31) :
    ∑ e : Fin 8, FloatOps.uitofp (F := Ideal) .f32 (gateWord x0 x1 t e.val) * f e
      = if t.val < (x1 (ix1 0)).toNat then f ⟨(x0 (ix1 t)).toNat, h0⟩ else 0 := by
  have one : FloatOps.uitofp (F := Ideal) .f32 (1#1) = (1 : EReal) := by
    show (((1#1 : BitVec 1).toNat : ℝ) : EReal) = 1
    simp
  have zero : FloatOps.uitofp (F := Ideal) .f32 (0#1) = (0 : EReal) := by
    show (((0#1 : BitVec 1).toNat : ℝ) : EReal) = 0
    simp
  rw [Finset.sum_eq_single ⟨(x0 (ix1 t)).toNat, h0⟩]
  · rw [gateWord_eq x0 x1 t _ h0 h1]
    by_cases q : t.val < (x1 (ix1 0)).toNat
    · rw [if_pos ⟨rfl, q⟩, if_pos q, one, one_mul]
    · rw [if_neg fun h => q h.2, if_neg q, zero, zero_mul]
  · intro e _ he
    rw [gateWord_eq x0 x1 t e h0 h1, if_neg fun h => he (Fin.ext h.1), zero, zero_mul]
  · exact fun h => absurd (Finset.mem_univ _) h

end Cert.Experts

end
-- ==== Proof.ExpArray.lean ====
/- The experts' result array is its reference's value of the arguments. -/

module

public import proofs.«01_k».proof.Proof.ExpPay
public import proofs.«01_k».proof.Proof.ExpRef
public import Idealize.ShloMosaic.Lib.Pipeline.ValueKit

@[expose] public section

set_option maxRecDepth 16384

noncomputable section

namespace Cert.Experts

open Idealize.ShloMosaic Idealize.ShloMosaic.TcCoe Idealize.ShloMosaic.Tactic Cert.Kernel3Ideal Cert.Kernel3Ideal.Gen
open Idealize.ShloMosaic.Pipeline (Dat)

/-- A step's coordinate is its number. -/
theorem coord : ∀ t : Fin grid0.N, (grid0.coords t 0).val = t.val := by decide +kernel

/-- The block of results of a step. -/
theorem outPlace : ∀ t : Fin grid0.N, cc0_transform_3 (grid0.coords t) = ![t.val, 0, 0] := by decide +kernel

variable (m : (ℓ : Loc nD τ sig) → Buf (Elt Ideal) ℓ) (hO : Ok m) (t : Fin (cfgM m hO).N)

/-- A step's tile. -/
abbrev tl (t : Fin grid0.N) : Fin 136 := grid0.coords t 0

/-- Where the block of rows stands. -/
theorem idx0 : ((cfgM m hO).win 0).index t = ![rowsAt m (grid0.coords t), 0, 0] := place0 m _
/-- Where the block of the two factors' weights stands. -/
theorem idx1 : ((cfgM m hO).win 1).index t = ![0, (expertWord m (tl t)).toNat, 0, 0] := place1 m _
/-- Where the block of the projection's weights stands. -/
theorem idx2 : ((cfgM m hO).win 2).index t = ![0, (expertWord m (tl t)).toNat, 0, 0] := place2 m _
/-- Where the block of results stands. -/
theorem idx3 : ((cfgM m hO).win 3).index t = ![t.val, 0, 0] := outPlace t

variable (hR : InRange m) (c : Dev nD)

include hR in
/-- The rows of a tile in use. -/
theorem blk0 (hu : (tl t).val < (usedWord m).toNat) (r : Fin 512) (s : Fin 8) (l : Fin 128) :
    iblk m hO c 0 t (ix3 r s l) = m ((c : Thread nD τ).loc main_arg2) (ix3 (rowOf (tl t) r) s l) := by
  have h : rowsAt m (grid0.coords t) = (tl t).val := by
    rw [rowsAt_eq m hR]
    exact min_eq_left (Nat.le_sub_one_of_lt hu)
  have h' := idx0 m hO t
  rw [h] at h'
  blk_ext [iblk, V, h']

/-- The two factors' weights of a tile: its expert's. -/
theorem blk1 (e : Fin 1024) (k : Fin 2816) :
    iblk m hO c 1 t (ix4 0 0 e k) = m ((c : Thread nD τ).loc main_arg3) (ix4 0 ⟨(expertWord m (tl t)).toNat, expert_lt m hR _⟩ e k) := by
  have h' := idx1 m hO t
  blk_ext [iblk, V, h']

/-- The projection's weights of a tile: its expert's. -/
theorem blk2 (k : Fin 1408) (d : Fin 1024) :
    iblk m hO c 2 t (ix4 0 0 k d) = m ((c : Thread nD τ).loc main_arg4) (ix4 0 ⟨(expertWord m (tl t)).toNat, expert_lt m hR _⟩ k d) := by
  have h' := idx2 m hO t
  blk_ext [iblk, V, h']

include hR in
/-- The body's condition holds exactly on a tile in use. -/
theorem cond_used : k0_cond1 (grid0.coords t) (bound c (tbl m 1)) = 1#1 ↔ (tl t).val < (usedWord m).toNat := by
  have hb : bound (F := Ideal) c (tbl m 1) = usedWord m := at_used m
  obtain ⟨h0, h1⟩ := used_nat m hR
  have ht : (tl t).val < 136 := (tl t).isLt
  rw [hb]
  generalize usedWord m = u at h0 h1 ⊢
  have b : (BitVec.ofNat 32 (tl t).val).slt u = decide ((tl t).val < u.toNat) := by
    have e : (BitVec.ofNat 32 (tl t).val).toNat = (tl t).val := by rw [BitVec.toNat_ofNat]; omega
    simp only [BitVec.slt, BitVec.toInt, e]
    congr 1
    apply propext
    split <;> split <;> omega
  unfold k0_cond1
  simp only [Scalar.cmpi, Scalar.extui, IntOp.cmpi]
  show BitVec.ofBool ((BitVec.setWidth 32 (BitVec.ofBool ((BitVec.ofNat 32 (tl t).val).slt u))) != 0#32) = 1#1 ↔ _
  rw [b]
  by_cases q : (tl t).val < u.toNat <;> simp [q]

/-- The reference's value of the kernel's arguments. -/
def result (c : Dev nD) : Cert.Reference3Ideal.S69632x8x128.Idx → EReal :=
  Cert.Reference3Ideal.Read.val_main_v162 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

include hR in
/-- What a step leaves in its block of results. -/
theorem point_eq (r : Fin 512) (s : Fin 8) (l : Fin 128) :
    left m hO c t (ix3 r s l) = result m c (ix3 (rowOf (tl t) r) s l) := by
  obtain rfl : c = 0 := Subsingleton.elim _ _
  unfold result left outOf
  rw [reference_apply, collapse _ _ _ _ (expert_lt m hR (tl t)) (used_nat m hR).2]
  by_cases hu : (tl t).val < (usedWord m).toNat
  · rw [if_pos ((cond_used m hO t hR 0).2 hu)]
    refine Eq.trans ?_ (if_pos hu).symm
    refine (used_apply _ _ _ r s l).trans ?_
    unfold expert
    refine Finset.sum_congr rfl fun k _ => congrArg₂ (· * ·) ?_ (blk2 m hO t hR 0 k _)
    exact Cert.Ffn.hidden_congr (funext fun a => blk0 m hO t hR 0 hu r _ _) (funext fun a => blk1 m hO t hR 0 a _)
      (funext fun a => blk1 m hO t hR 0 a _)
  · rw [if_neg fun h => hu ((cond_used m hO t hR 0).1 h)]
    refine Eq.trans ?_ (if_neg hu).symm
    exact free_apply r s l

/-- The blocks of results tile the result. -/
theorem covers : ((cfgM m hO).win 3).Covers := by
  have h : ∀ (β : (a : Fin 3) → Fin (((cfgM m hO).win 3).nblk a)) (a : Fin 3), (![(β 0).val, 0, 0] : Fin 3 → ℕ) a = (β a).val := fun β a =>
    match a with
    | ⟨0, _⟩ => rfl
    | ⟨1, h⟩ => (Nat.lt_one_iff.1 (lt_of_lt_of_eq (β ⟨1, h⟩).isLt (show (8 + 8 - 1) / 8 = 1 by decide))).symm
    | ⟨2, h⟩ => (Nat.lt_one_iff.1 (lt_of_lt_of_eq (β ⟨2, h⟩).isLt (show (128 + 128 - 1) / 128 = 1 by decide))).symm
  exact ⟨fun (a : Fin 3) => match a with
      | ⟨0, _⟩ => show 0 < 512 by decide
      | ⟨1, _⟩ => show 0 < 8 by decide
      | ⟨2, _⟩ => show 0 < 128 by decide,
    fun β => ⟨⟨(β (0 : Fin 3)).val, lt_of_lt_of_eq (β (0 : Fin 3)).isLt (show (69632 + 512 - 1) / 512 = 136 by decide)⟩, flush0_3 _ _, fun a => ⟨(congrFun (idx3 m hO _) a).trans (h β a), .inl rfl⟩⟩⟩

include hR in
/-- The kernel's result array after the run. -/
theorem array_eq : (dats m hO 0 c).arrAt 3 (cfgM m hO).N = result m c := by
  refine (dats m hO 0 c).arrAt_eq_of_covers 3 _ (covers m hO) fun t hfl y => ?_
  have h' := idx3 m hO t
  have hc : (tl t).val = t.val := coord t
  blk_simp
  rw [after0_3]
  obtain ⟨r, s, l, rfl⟩ : ∃ (r : Fin 512) (s : Fin 8) (l : Fin 128), y = ix3 r s l := ⟨y (0 : Fin 3), y (1 : Fin 3), y (2 : Fin 3), funext fun (a : Fin 3) =>
    match a with
    | ⟨0, _⟩ => rfl
    | ⟨1, _⟩ => rfl
    | ⟨2, _⟩ => rfl⟩
  refine (point_eq m hO t hR c r s l).trans ?_
  blk_ext [h']

end Cert.Experts

end
-- ==== Proof.AdaArray.lean ====
/- The modulation's call: its result array is its reference's value of the arguments. -/

module

public import proofs.«01_k».proof.Proof.FfnRef
public import proofs.«01_k».proof.Proof.Gen.Reference4Ideal.Read
public import proofs.«01_k».proof.Proof.Gen.Kernel4Ideal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Ada

open Idealize.ShloMosaic Idealize.ShloMosaic.TcCoe Idealize.ShloMosaic.Tactic Cert.Kernel4Ideal Cert.Kernel4Ideal.Gen
open Cert.Kernel4Ideal.Facts
open Idealize.ShloMosaic.Pipeline (Dat)

/-- One modulation entry: a conditioning row through its gate, times a column of the weights, and the bias. -/
def entry (r : Fin 1024 → EReal) (w : Fin 1024 → EReal) (b : EReal) : EReal :=
  (∑ e : Fin 1024, r e * Ideal.logistic (r e) * w e) + b

/-- What a step stores, at an index. -/
theorem pay_apply (x : Vec Ideal S16x1024 .f32) (w : Vec Ideal S1x1024x1536 .f32) (b : Vec Ideal S1x1x1536 .f32)
    (r : Fin 16) (k : Fin 1536) :
    k0_pay1 (F := Ideal) x w b (ix3 0 r k) = entry (fun e => x (ix2 r e)) (fun e => w (ix3 0 e k)) (b (ix3 0 0 k)) := by
  unfold entry
  simp only [← Cert.Ffn.gate_eq]
  pointwise [k0_pay1]

/-- What a step leaves in its block of results, from its windows. -/
theorem out_apply (x : Vec Ideal S16x1024 .f32) (w : Vec Ideal S1x1024x1536 .f32) (b : Vec Ideal S1x1x1536 .f32)
    (r : Fin 16) (k : Fin 1536) :
    out0_3 (F := Ideal) x w b (ix3 0 r k) = entry (fun e => x (ix2 r e)) (fun e => w (ix3 0 e k)) (b (ix3 0 0 k)) := by
  unfold out0_3
  rw [View.canon_cons_unit_lit _ _ _ (by decide), View.ld_unit_lit _ x (by decide), View.ld_unit_lit _ w (by decide),
    View.ld_unit_lit _ b (by decide)]
  exact pay_apply x w b r k

/-- The reference's result at an index. -/
theorem reference_apply (x : (⟨S16x1024, .f32⟩ : BufTy).Contents (Elt Ideal))
    (w : (⟨S4x1024x6144, .f32⟩ : BufTy).Contents (Elt Ideal)) (b : (⟨S4x6144, .f32⟩ : BufTy).Contents (Elt Ideal))
    (l : Fin 4) (r : Fin 16) (k : Fin 6144) :
    Cert.Reference4Ideal.Read.val_main_v5 (F := Ideal) x w b (ix3 l r k)
      = entry (fun e => x (ix2 r e)) (fun e => w (ix3 l e k)) (b (ix2 l k)) := by
  unfold entry
  simp only [← Cert.Ffn.logistic_bits]
  pointwise [Cert.Reference4Ideal.Read.val_main_v5, Cert.Reference4Ideal.Read.val_main_v4, Cert.Reference4Ideal.Read.val_main_v3,
    Cert.Reference4Ideal.Read.val_main_v2, Cert.Reference4Ideal.Read.val_main_v1, Cert.Reference4Ideal.Read.val_main_v0,
    Cert.Reference4Ideal.Read.val_main_call0_v0, Cert.Reference4Ideal.Read.val_main_call0_v1,
    Cert.Reference4Ideal.Read.val_main_call0_v2, Cert.Reference4Ideal.Read.val_main_call0_v3,
    Cert.Reference4Ideal.Read.val_main_call0_v4, Cert.Reference4Ideal.Read.val_main_call0_v5,
    Cert.Reference4Ideal.Read.val_main_call0_cst, Cert.Reference4Ideal.Read.val_main_call0_cst_0]

/-- Where each window's block stands at a grid point. -/
theorem idx : ∀ t : Fin cfg0.N,
    win0_0.index t = ![0, 0] ∧ win0_1.index t = ![t.val / 4, 0, t.val % 4] ∧ win0_2.index t = ![t.val / 4, 0, t.val % 4]
      ∧ win0_3.index t = ![t.val / 4, 0, t.val % 4] := by
  decide +kernel

variable (m : (ℓ : Loc nD τ sig) → Buf (Elt Ideal) ℓ) (c : Dev nD) (t : Fin cfg0.N)

/-- A grid point's layer. -/
abbrev lay (t : Fin cfg0.N) : Fin 4 := ⟨t.val / 4, by have := lt_of_lt_of_eq t.isLt (show cfg0.N = 16 from N_0); omega⟩

/-- The column of an entry of a grid point's block. -/
abbrev col (t : Fin cfg0.N) (k : Fin 1536) : Fin 6144 := ⟨t.val % 4 * 1536 + k.val, by omega⟩

/-- The conditioning rows at a step: all of them. -/
theorem blk0 (r : Fin 16) (e : Fin 1024) : iblk m c 0 t (ix2 r e) = m ((c : Thread nD τ).loc main_arg0) (ix2 r e) := by
  blk_ext [iblk, V, idx t]

/-- The weights at a step: the layer's, from the block's columns. -/
theorem blk1 (e : Fin 1024) (k : Fin 1536) :
    iblk m c 1 t (ix3 0 e k) = m ((c : Thread nD τ).loc main_arg1) (ix3 (lay t) e (col t k)) := by
  blk_ext [iblk, V, idx t]

/-- The bias, with a middle axis of one before the launch. -/
theorem entry0 (l : Fin 4) (k : Fin 6144) : V m c main_v0 (ix3 l 0 k) = m ((c : Thread nD τ).loc main_arg2) (ix2 l k) := by
  unfold V hostOps0
  entry_read
  pointwise

/-- The bias at a step: the layer's, from the block's columns. -/
theorem blk2 (k : Fin 1536) : iblk m c 2 t (ix3 0 0 k) = m ((c : Thread nD τ).loc main_arg2) (ix2 (lay t) (col t k)) := by
  rw [← entry0 m c (lay t) (col t k)]
  blk_ext [iblk, idx t]

/-- The reference's value of the kernel's arguments. -/
def result : Cert.Reference4Ideal.S4x16x6144.Idx → EReal :=
  Cert.Reference4Ideal.Read.val_main_v5 (F := Ideal) (m ((c : Thread nD τ).loc main_arg0)) (m ((c : Thread nD τ).loc main_arg1))
    (m ((c : Thread nD τ).loc main_arg2))

/-- What a grid point leaves in its block of results. -/
theorem point_eq (r : Fin 16) (k : Fin 1536) :
    out0_3 (iblk m c 0 t) (iblk m c 1 t) (iblk m c 2 t) (ix3 0 r k) = result m c (ix3 (lay t) r (col t k)) := by
  unfold result
  rw [reference_apply]
  refine (out_apply _ _ _ r k).trans ?_
  rw [funext (blk0 m c t r), funext fun e => blk1 m c t e k, blk2 m c t k]

/-- The kernel's result array after the run. -/
theorem array_eq : (dats m 0 c).arrAt 3 cfg0.N = result m c := by
  refine (dats m 0 c).arrAt_eq_of_covers 3 _ (by decide +kernel) fun t hfl y => ?_
  blk_simp
  rw [after0_3]
  obtain ⟨r, k, rfl⟩ : ∃ (r : Fin 16) (k : Fin 1536), y = ix3 0 r k := ⟨y 1, y 2, by
    funext a
    match a with
    | ⟨0, _⟩ => exact Subsingleton.elim (α := Fin 1) _ _
    | ⟨1, _⟩ => rfl
    | ⟨2, _⟩ => rfl⟩
  refine (point_eq m c t r k).trans ?_
  blk_ext [idx t]

end Cert.Ada

end
-- ==== Proof.KvArray.lean ====
/- The keys' and values' call: its result arrays are its reference's values of the arguments. -/

module

public import proofs.«01_k».proof.Proof.Block
public import proofs.«01_k».proof.Proof.Gen.Reference5Ideal.Read
public import proofs.«01_k».proof.Proof.Gen.Kernel5Ideal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kv

open Idealize.ShloMosaic Idealize.ShloMosaic.TcCoe Idealize.ShloMosaic.Tactic Cert.Kernel5Ideal Cert.Kernel5Ideal.Gen
open Cert.Kernel5Ideal.Facts
open Idealize.ShloMosaic.Pipeline (Dat)

/-- One key or value: a row of the input, modulated, times a column of the weights. -/
def entry (x sh sc w : Fin 1024 → EReal) : EReal := ∑ e : Fin 1024, (x e * (Ideal.ofBits .f32 0x3F800000#32 + sc e) + sh e) * w e

/-- What a step stores for the keys in full, at an index. -/
theorem keys_apply (sh sc : Vec Ideal S8x1x1024 .f32) (x : Vec Ideal S8x32x1024 .f32) (w : Vec Ideal S1024x1024 .bf16)
    (b : Fin 8) (r : Fin 32) (d : Fin 1024) :
    k0_pay2 (F := Ideal) sh sc x w (ix3 b r d)
      = entry (fun e => x (ix3 b r e)) (fun e => sh (ix3 b 0 e)) (fun e => sc (ix3 b 0 e)) (fun e => w (ix2 e d)) := by
  unfold entry
  pointwise [k0_pay2, k0_pay1]

/-- The values are stored as the keys are. -/
theorem values_pay : @k0_pay3 = @k0_pay2 := rfl

/-- The reference's keys in full, at an index. -/
theorem reference_apply (x : (⟨S8x32x1024, .f32⟩ : BufTy).Contents (Elt Ideal))
    (m : (⟨S16x2x1024, .f32⟩ : BufTy).Contents (Elt Ideal)) (w : (⟨S1024x1024, .bf16⟩ : BufTy).Contents (Elt Ideal))
    (b : Fin 8) (r : Fin 32) (d : Fin 1024) :
    Cert.Reference5Ideal.Read.val_main_v10 (F := Ideal) x m w (ix3 b r d)
      = entry (fun e => x (ix3 b r e)) (fun e => m (ix3 ⟨b.val, by omega⟩ 0 e)) (fun e => m (ix3 ⟨b.val, by omega⟩ 1 e))
          (fun e => w (ix2 e d)) := by
  unfold entry
  pointwise [Cert.Reference5Ideal.Read.val_main_v10, Cert.Reference5Ideal.Read.val_main_v9, Cert.Reference5Ideal.Read.val_main_v8,
    Cert.Reference5Ideal.Read.val_main_v7, Cert.Reference5Ideal.Read.val_main_v6, Cert.Reference5Ideal.Read.val_main_v5,
    Cert.Reference5Ideal.Read.val_main_v4, Cert.Reference5Ideal.Read.val_main_v3, Cert.Reference5Ideal.Read.val_main_v2,
    Cert.Reference5Ideal.Read.val_main_v1, Cert.Reference5Ideal.Read.val_main_v0, Cert.Reference5Ideal.Read.val_main_cst]

/-- The reference's values in full are its keys, of the other weights. -/
theorem reference_values : @Cert.Reference5Ideal.Read.val_main_v12 = @Cert.Reference5Ideal.Read.val_main_v10 := rfl

/-- A load of one row of modulation of each batch, at an index. -/
theorem idx_row (k : Fin 2) (inb : ∀ a, (![0, k.val, 0] : Fin 3 → Nat) a + (![8, 1, 1024] : Fin 3 → Nat) a ≤ S8x2x1024.size a)
    (b : Fin 8) (e : Fin 1024) :
    (Rect.unit (s := S8x2x1024) ![0, k.val, 0] ![8, 1, 1024] inb).toLoadRect.idx (ix3 b 0 e) = ix3 b k e := by
  funext a
  refine Fin.ext ?_
  match a with
  | ⟨0, _⟩ => show 0 + 1 * b.val = b.val; omega
  | ⟨1, _⟩ => show k.val + 1 * 0 = k.val; omega
  | ⟨2, _⟩ => show 0 + 1 * e.val = e.val; omega

/-- A load of a whole window's contents, at an index. -/
theorem readAt_unread {s : Shape} {e : EltTy} {arg : Memref sig .tc .vmem s e} (h : arg.IsWhole) (B : LoadRect s)
    (x : Vec Ideal s e) : View.readAt (Elt Ideal) arg.view B (h.unread x) = fun j => x (B.idx j) := by
  funext j
  rw [View.readAt_apply, h.read_unread]

/-- What a step stores for the keys, or for the values, from its windows. -/
theorem stored_apply {arg2 : Memref sig .tc .vmem S8x32x1024 .f32} (h2 : arg2.IsWhole) {arg3 : Memref sig .tc .vmem S8x2x1024 .f32}
    (h3 : arg3.IsWhole) {arg4 : Memref sig .tc .vmem S1024x1024 .bf16} (h4 : arg4.IsWhole)
    (x : Vec Ideal S8x32x1024 .f32) (md : Vec Ideal S8x2x1024 .f32) (w : Vec Ideal S1024x1024 .bf16)
    (b : Fin 8) (r : Fin 32) (d : Fin 1024) :
    k0_pay2 (F := Ideal)
        (View.readAt (Elt Ideal) arg3.view (Rect.unit (s := S8x2x1024) ![0, 0, 0] ![8, 1, 1024] inb_S8x2x1024_S8x1x1024_0_0_0).toLoadRect
          (h3.unread md))
        (View.readAt (Elt Ideal) arg3.view (Rect.unit (s := S8x2x1024) ![0, 1, 0] ![8, 1, 1024] inb_S8x2x1024_S8x1x1024_0_1_0).toLoadRect
          (h3.unread md))
        (View.readAt (Elt Ideal) arg2.view (Rect.unit (s := S8x32x1024) ![0, 0, 0] ![8, 32, 1024] inb_S8x32x1024_S8x32x1024_0_0_0).toLoadRect
          (h2.unread x))
        (View.readAt (Elt Ideal) arg4.view (Rect.unit (s := S1024x1024) ![0, 0] ![1024, 1024] inb_S1024x1024_S1024x1024_0_0).toLoadRect
          (h4.unread w))
        (ix3 b r d)
      = entry (fun e => x (ix3 b r e)) (fun e => md (ix3 b 0 e)) (fun e => md (ix3 b 1 e)) (fun e => w (ix2 e d)) := by
  refine (keys_apply _ _ _ _ b r d).trans ?_
  simp only [readAt_unread]
  have e0 : (fun e => md ((Rect.unit (s := S8x2x1024) ![0, 0, 0] ![8, 1, 1024] inb_S8x2x1024_S8x1x1024_0_0_0).toLoadRect.idx (ix3 b 0 e)))
      = fun e => md (ix3 b 0 e) := funext fun e => congrArg md (idx_row 0 _ b e)
  have e1 : (fun e => md ((Rect.unit (s := S8x2x1024) ![0, 1, 0] ![8, 1, 1024] inb_S8x2x1024_S8x1x1024_0_1_0).toLoadRect.idx (ix3 b 0 e)))
      = fun e => md (ix3 b 1 e) := funext fun e => congrArg md (idx_row 1 _ b e)
  have e2 : (fun e => x ((Rect.unit (s := S8x32x1024) ![0, 0, 0] ![8, 32, 1024] inb_S8x32x1024_S8x32x1024_0_0_0).toLoadRect.idx (ix3 b r e)))
      = fun e => x (ix3 b r e) := funext fun e => congrArg x (Cert.Attn.idx_whole3 _ _)
  have e3 : (fun e => w ((Rect.unit (s := S1024x1024) ![0, 0] ![1024, 1024] inb_S1024x1024_S1024x1024_0_0).toLoadRect.idx (ix2 e d)))
      = fun e => w (ix2 e d) := funext fun e => congrArg w (Cert.Attn.idx_whole2 _ _)
  exact (congrArg₂ (fun s t => entry _ s t _) e0 e1).trans (congrArg₂ (fun s t => entry s _ _ t) e2 e3)

/-- Where each window's block stands at the one grid point. -/
theorem idx : ∀ t : Fin cfg0.N,
    win0_0.index t = ![0, 0, 0] ∧ win0_1.index t = ![0, 0, 0] ∧ win0_2.index t = ![0, 0] ∧ win0_3.index t = ![0, 0]
      ∧ win0_4.index t = ![0, 0, 0] ∧ win0_5.index t = ![0, 0, 0] ∧ win0_6.index t = ![0, 0, 0] ∧ win0_7.index t = ![0, 0, 0] := by
  decide +kernel

/-- What the step leaves in its block of keys in bf16, from its windows. -/
theorem out4_apply (c : Dev nD) (i : grid0.Coords) (arg2 : Memref sig .tc .vmem S8x32x1024 .f32) (harg2 : arg2.IsWhole) (arg3 : Memref sig .tc .vmem S8x2x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S8x32x1024 .bf16) (harg6 : arg6.IsWhole) (arg7 : Memref sig .tc .vmem S8x32x1024 .bf16) (harg7 : arg7.IsWhole) (arg8 : Memref sig .tc .vmem S8x32x1024 .f32) (harg8 : arg8.IsWhole) (arg9 : Memref sig .tc .vmem S8x32x1024 .f32) (harg9 : arg9.IsWhole) (hc0 : cond0_0 i)
    (x0 : Vec Ideal S8x32x1024 .f32) (x1 : Vec Ideal S8x2x1024 .f32) (x2 : Vec Ideal S1024x1024 .bf16) (x3 : Vec Ideal S1024x1024 .bf16) (b : Fin 8) (r : Fin 32) (d : Fin 1024) :
    out0_A_4 (F := Ideal) c i arg2 harg2 arg3 harg3 arg4 harg4 arg5 harg5 arg6 harg6 arg7 harg7 arg8 harg8 arg9 harg9 hc0 x0 x1 x2 x3 (ix3 b r d)
      = entry (fun e => x0 (ix3 b r e)) (fun e => x1 (ix3 b 0 e)) (fun e => x1 (ix3 b 1 e)) (fun e => x2 (ix2 e d)) := by
  unfold out0_A_4
  rw [View.read_writes_junk_eq_canon]
  unfold kernelRun0_A
  dsimp only
  rw [View.canon_cons_unit_lit _ _ _ (by decide)]
  exact stored_apply harg2 harg3 harg4 x0 x1 x2 b r d

/-- What the step leaves in its block of values in bf16, from its windows. -/
theorem out5_apply (c : Dev nD) (i : grid0.Coords) (arg2 : Memref sig .tc .vmem S8x32x1024 .f32) (harg2 : arg2.IsWhole) (arg3 : Memref sig .tc .vmem S8x2x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S8x32x1024 .bf16) (harg6 : arg6.IsWhole) (arg7 : Memref sig .tc .vmem S8x32x1024 .bf16) (harg7 : arg7.IsWhole) (arg8 : Memref sig .tc .vmem S8x32x1024 .f32) (harg8 : arg8.IsWhole) (arg9 : Memref sig .tc .vmem S8x32x1024 .f32) (harg9 : arg9.IsWhole) (hc0 : cond0_0 i)
    (x0 : Vec Ideal S8x32x1024 .f32) (x1 : Vec Ideal S8x2x1024 .f32) (x2 : Vec Ideal S1024x1024 .bf16) (x3 : Vec Ideal S1024x1024 .bf16) (b : Fin 8) (r : Fin 32) (d : Fin 1024) :
    out0_A_5 (F := Ideal) c i arg2 harg2 arg3 harg3 arg4 harg4 arg5 harg5 arg6 harg6 arg7 harg7 arg8 harg8 arg9 harg9 hc0 x0 x1 x2 x3 (ix3 b r d)
      = entry (fun e => x0 (ix3 b r e)) (fun e => x1 (ix3 b 0 e)) (fun e => x1 (ix3 b 1 e)) (fun e => x3 (ix2 e d)) := by
  unfold out0_A_5
  rw [View.read_writes_junk_eq_canon]
  unfold kernelRun0_A
  dsimp only
  rw [View.canon_cons_unit_lit _ _ _ (by decide)]
  exact stored_apply harg2 harg3 harg5 x0 x1 x3 b r d

/-- What the step leaves in its block of keys in full, from its windows. -/
theorem out6_apply (c : Dev nD) (i : grid0.Coords) (arg2 : Memref sig .tc .vmem S8x32x1024 .f32) (harg2 : arg2.IsWhole) (arg3 : Memref sig .tc .vmem S8x2x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S8x32x1024 .bf16) (harg6 : arg6.IsWhole) (arg7 : Memref sig .tc .vmem S8x32x1024 .bf16) (harg7 : arg7.IsWhole) (arg8 : Memref sig .tc .vmem S8x32x1024 .f32) (harg8 : arg8.IsWhole) (arg9 : Memref sig .tc .vmem S8x32x1024 .f32) (harg9 : arg9.IsWhole) (hc0 : cond0_0 i)
    (x0 : Vec Ideal S8x32x1024 .f32) (x1 : Vec Ideal S8x2x1024 .f32) (x2 : Vec Ideal S1024x1024 .bf16) (x3 : Vec Ideal S1024x1024 .bf16) (b : Fin 8) (r : Fin 32) (d : Fin 1024) :
    out0_A_6 (F := Ideal) c i arg2 harg2 arg3 harg3 arg4 harg4 arg5 harg5 arg6 harg6 arg7 harg7 arg8 harg8 arg9 harg9 hc0 x0 x1 x2 x3 (ix3 b r d)
      = entry (fun e => x0 (ix3 b r e)) (fun e => x1 (ix3 b 0 e)) (fun e => x1 (ix3 b 1 e)) (fun e => x2 (ix2 e d)) := by
  unfold out0_A_6
  rw [View.read_writes_junk_eq_canon]
  unfold kernelRun0_A
  dsimp only
  rw [View.canon_cons_unit_lit _ _ _ (by decide)]
  exact stored_apply harg2 harg3 harg4 x0 x1 x2 b r d

/-- What the step leaves in its block of values in full, from its windows. -/
theorem out7_apply (c : Dev nD) (i : grid0.Coords) (arg2 : Memref sig .tc .vmem S8x32x1024 .f32) (harg2 : arg2.IsWhole) (arg3 : Memref sig .tc .vmem S8x2x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S8x32x1024 .bf16) (harg6 : arg6.IsWhole) (arg7 : Memref sig .tc .vmem S8x32x1024 .bf16) (harg7 : arg7.IsWhole) (arg8 : Memref sig .tc .vmem S8x32x1024 .f32) (harg8 : arg8.IsWhole) (arg9 : Memref sig .tc .vmem S8x32x1024 .f32) (harg9 : arg9.IsWhole) (hc0 : cond0_0 i)
    (x0 : Vec Ideal S8x32x1024 .f32) (x1 : Vec Ideal S8x2x1024 .f32) (x2 : Vec Ideal S1024x1024 .bf16) (x3 : Vec Ideal S1024x1024 .bf16) (b : Fin 8) (r : Fin 32) (d : Fin 1024) :
    out0_A_7 (F := Ideal) c i arg2 harg2 arg3 harg3 arg4 harg4 arg5 harg5 arg6 harg6 arg7 harg7 arg8 harg8 arg9 harg9 hc0 x0 x1 x2 x3 (ix3 b r d)
      = entry (fun e => x0 (ix3 b r e)) (fun e => x1 (ix3 b 0 e)) (fun e => x1 (ix3 b 1 e)) (fun e => x3 (ix2 e d)) := by
  unfold out0_A_7
  rw [View.read_writes_junk_eq_canon]
  unfold kernelRun0_A
  dsimp only
  rw [View.canon_cons_unit_lit _ _ _ (by decide)]
  exact stored_apply harg2 harg3 harg5 x0 x1 x3 b r d

variable (m : (ℓ : Loc nD τ sig) → Buf (Elt Ideal) ℓ) (c : Dev nD) (t : Fin cfg0.N)

/-- The rows at the step. -/
theorem blk0 (b : Fin 8) (r : Fin 32) (e : Fin 1024) :
    iblk m c 0 t (ix3 b r e) = m ((c : Thread nD τ).loc main_arg0) (ix3 b r e) := by
  blk_ext [iblk, V, idx t]

/-- The modulation at the step: the first eight rows of the array. -/
theorem blk1 (b : Fin 8) (k : Fin 2) (e : Fin 1024) :
    iblk m c 1 t (ix3 b k e) = m ((c : Thread nD τ).loc main_arg1) (ix3 ⟨b.val, by omega⟩ k e) := by
  blk_ext [iblk, V, idx t]

/-- The keys' weights at the step. -/
theorem blk2 (e d : Fin 1024) : iblk m c 2 t (ix2 e d) = m ((c : Thread nD τ).loc main_arg2) (ix2 e d) := by
  blk_ext [iblk, V, idx t]

/-- The values' weights at the step. -/
theorem blk3 (e d : Fin 1024) : iblk m c 3 t (ix2 e d) = m ((c : Thread nD τ).loc main_arg3) (ix2 e d) := by
  blk_ext [iblk, V, idx t]

/-- The reference's value of the kernel's arguments, for the keys. -/
def keys : Cert.Reference5Ideal.S8x32x1024.Idx → EReal :=
  Cert.Reference5Ideal.Read.val_main_v10 (F := Ideal) (m ((c : Thread nD τ).loc main_arg0)) (m ((c : Thread nD τ).loc main_arg1))
    (m ((c : Thread nD τ).loc main_arg2))

/-- The reference's value of the kernel's arguments, for the values. -/
def values : Cert.Reference5Ideal.S8x32x1024.Idx → EReal :=
  Cert.Reference5Ideal.Read.val_main_v12 (F := Ideal) (m ((c : Thread nD τ).loc main_arg0)) (m ((c : Thread nD τ).loc main_arg1))
    (m ((c : Thread nD τ).loc main_arg3))

/-- The keys' entry of the step's blocks. -/
theorem keys_eq (b : Fin 8) (r : Fin 32) (d : Fin 1024) :
    entry (fun e => iblk m c 0 t (ix3 b r e)) (fun e => iblk m c 1 t (ix3 b 0 e)) (fun e => iblk m c 1 t (ix3 b 1 e))
      (fun e => iblk m c 2 t (ix2 e d)) = keys m c (ix3 b r d) := by
  unfold keys
  rw [reference_apply, funext (blk0 m c t b r), funext (blk1 m c t b 0), funext (blk1 m c t b 1), funext fun e => blk2 m c t e d]

/-- The values' entry of the step's blocks. -/
theorem values_eq (b : Fin 8) (r : Fin 32) (d : Fin 1024) :
    entry (fun e => iblk m c 0 t (ix3 b r e)) (fun e => iblk m c 1 t (ix3 b 0 e)) (fun e => iblk m c 1 t (ix3 b 1 e))
      (fun e => iblk m c 3 t (ix2 e d)) = values m c (ix3 b r d) := by
  unfold values
  rw [reference_values, reference_apply, funext (blk0 m c t b r), funext (blk1 m c t b 0), funext (blk1 m c t b 1),
    funext fun e => blk3 m c t e d]

/-- An index of a batch of rows, by its coordinates. -/
theorem ix3_of {A B C : ℕ} (y : (⟨3, ![A, B, C]⟩ : Shape).Idx) : ∃ (b : Fin A) (r : Fin B) (d : Fin C), y = ix3 b r d :=
  ⟨y 0, y 1, y 2, by
    funext a
    match a with
    | ⟨0, _⟩ => rfl
    | ⟨1, _⟩ => rfl
    | ⟨2, _⟩ => rfl⟩

/-- What the step leaves for the keys in bf16. -/
theorem after4 (b : Fin 8) (r : Fin 32) (d : Fin 1024) : (dats m 0 c).after 4 t (ix3 b r d) = keys m c (ix3 b r d) := by
  rw [after0_4]
  unfold outsAt0
  dsimp only
  rw [out4_apply]
  exact keys_eq m c t b r d

/-- The array of keys in bf16 after the run. -/
theorem array4_eq : (dats m 0 c).arrAt 4 cfg0.N = keys m c := by
  refine (dats m 0 c).arrAt_eq_of_covers 4 _ (by decide +kernel) fun t hfl y => ?_
  blk_simp
  obtain ⟨b, r, d, rfl⟩ := ix3_of (A := 8) (B := 32) (C := 1024) y
  refine (after4 m c t b r d).trans ?_
  blk_ext [idx t]

/-- What the step leaves for the values in bf16. -/
theorem after5 (b : Fin 8) (r : Fin 32) (d : Fin 1024) : (dats m 0 c).after 5 t (ix3 b r d) = values m c (ix3 b r d) := by
  rw [after0_5]
  unfold outsAt0
  dsimp only
  rw [out5_apply]
  exact values_eq m c t b r d

/-- The array of values in bf16 after the run. -/
theorem array5_eq : (dats m 0 c).arrAt 5 cfg0.N = values m c := by
  refine (dats m 0 c).arrAt_eq_of_covers 5 _ (by decide +kernel) fun t hfl y => ?_
  blk_simp
  obtain ⟨b, r, d, rfl⟩ := ix3_of (A := 8) (B := 32) (C := 1024) y
  refine (after5 m c t b r d).trans ?_
  blk_ext [idx t]

/-- What the step leaves for the keys in full. -/
theorem after6 (b : Fin 8) (r : Fin 32) (d : Fin 1024) : (dats m 0 c).after 6 t (ix3 b r d) = keys m c (ix3 b r d) := by
  rw [after0_6]
  unfold outsAt0
  dsimp only
  rw [out6_apply]
  exact keys_eq m c t b r d

/-- The array of keys in full after the run. -/
theorem array6_eq : (dats m 0 c).arrAt 6 cfg0.N = keys m c := by
  refine (dats m 0 c).arrAt_eq_of_covers 6 _ (by decide +kernel) fun t hfl y => ?_
  blk_simp
  obtain ⟨b, r, d, rfl⟩ := ix3_of (A := 8) (B := 32) (C := 1024) y
  refine (after6 m c t b r d).trans ?_
  blk_ext [idx t]

/-- What the step leaves for the values in full. -/
theorem after7 (b : Fin 8) (r : Fin 32) (d : Fin 1024) : (dats m 0 c).after 7 t (ix3 b r d) = values m c (ix3 b r d) := by
  rw [after0_7]
  unfold outsAt0
  dsimp only
  rw [out7_apply]
  exact values_eq m c t b r d

/-- The array of values in full after the run. -/
theorem array7_eq : (dats m 0 c).arrAt 7 cfg0.N = values m c := by
  refine (dats m 0 c).arrAt_eq_of_covers 7 _ (by decide +kernel) fun t hfl y => ?_
  blk_simp
  obtain ⟨b, r, d, rfl⟩ := ix3_of (A := 8) (B := 32) (C := 1024) y
  refine (after7 m c t b r d).trans ?_
  blk_ext [idx t]

end Cert.Kv

end
-- ==== Proof.PackArray.lean ====
/- The packing of the experts' weights: its result array is its reference's value of the arguments. -/

module

public import proofs.«01_k».proof.Proof.Gen.Reference6Ideal.Read
public import proofs.«01_k».proof.Proof.Gen.Kernel6Ideal.Value
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Pack

open Idealize.ShloMosaic Idealize.ShloMosaic.TcCoe Idealize.ShloMosaic.Tactic Cert.Kernel6Ideal Cert.Kernel6Ideal.Gen
open Cert.Kernel6Ideal.Facts
open Idealize.ShloMosaic.Pipeline (Dat)

/-- The two factors' weights side by side, at a column. -/
def side {A B C : ℕ} (g u : (⟨4, ![A, B, C, 1408]⟩ : Shape).Idx → EReal) (l : Fin A) (e : Fin B) (r : Fin C) (k : Fin 2816) : EReal :=
  if h : k.val < 1408 then g (ix4 l e r ⟨k.val, h⟩) else u (ix4 l e r ⟨k.val - 1408, by omega⟩)

/-- The first store's value at an index: the gate's weights. -/
theorem pay1_apply (g : Vec Ideal S1x1x512x1408 .f32) (r : Fin 512) (k : Fin 1408) :
    k0_pay1 (F := Ideal) g (ix4 0 0 r k) = g (ix4 0 0 r k) := by
  pointwise [k0_pay1]

/-- The second store's value at an index: the other factor's weights. -/
theorem pay2_apply (g : Vec Ideal S1x1x512x1408 .f32) (r : Fin 512) (k : Fin 1408) :
    k0_pay2 (F := Ideal) g (ix4 0 0 r k) = g (ix4 0 0 r k) := by
  pointwise [k0_pay2]

/-- The reference's result at an index. -/
theorem reference_apply (g u : (⟨S2x8x1024x1408, .f32⟩ : BufTy).Contents (Elt Ideal)) (l : Fin 2) (e : Fin 8) (r : Fin 1024)
    (k : Fin 2816) : Cert.Reference6Ideal.Read.val_main_v1 (F := Ideal) g u (ix4 l e r k) = side g u l e r k := by
  unfold side
  pointwise [Cert.Reference6Ideal.Read.val_main_v1, Cert.Reference6Ideal.Read.val_main_v0]

/-- Where each window's block stands at a grid point. -/
theorem idx : ∀ t : Fin cfg0.N,
    win0_0.index t = ![t.val / 16, t.val / 2 % 8, t.val % 2, 0] ∧ win0_1.index t = ![t.val / 16, t.val / 2 % 8, t.val % 2, 0]
      ∧ win0_2.index t = ![t.val / 16, t.val / 2 % 8, t.val % 2, 0] := by
  decide +kernel

variable (m : (ℓ : Loc nD τ sig) → Buf (Elt Ideal) ℓ) (c : Dev nD) (t : Fin cfg0.N)

/-- A grid point's layer. -/
abbrev lay (t : Fin cfg0.N) : Fin 2 := ⟨t.val / 16, by have := lt_of_lt_of_eq t.isLt (show cfg0.N = 32 from N_0); omega⟩

/-- A grid point's expert. -/
abbrev ex (t : Fin cfg0.N) : Fin 8 := ⟨t.val / 2 % 8, by omega⟩

/-- The row of a grid point's block. -/
abbrev row (t : Fin cfg0.N) (r : Fin 512) : Fin 1024 := ⟨t.val % 2 * 512 + r.val, by omega⟩

/-- The gate's weights at a step. -/
theorem blk0 (r : Fin 512) (k : Fin 1408) :
    iblk m c 0 t (ix4 0 0 r k) = m ((c : Thread nD τ).loc main_arg0) (ix4 (lay t) (ex t) (row t r) k) := by
  blk_ext [iblk, V, idx t]

/-- The other factor's weights at a step. -/
theorem blk1 (r : Fin 512) (k : Fin 1408) :
    iblk m c 1 t (ix4 0 0 r k) = m ((c : Thread nD τ).loc main_arg1) (ix4 (lay t) (ex t) (row t r) k) := by
  blk_ext [iblk, V, idx t]

/-- The reference's value of the kernel's arguments. -/
def result : Cert.Reference6Ideal.S2x8x1024x2816.Idx → EReal :=
  Cert.Reference6Ideal.Read.val_main_v1 (F := Ideal) (m ((c : Thread nD τ).loc main_arg0)) (m ((c : Thread nD τ).loc main_arg1))

/-- An index of a block of one layer, one expert, rows and columns, by its rows and columns. -/
theorem ix4_of {C D : ℕ} (x : (⟨4, ![1, 1, C, D]⟩ : Shape).Idx) : ∃ (r : Fin C) (k : Fin D), x = ix4 0 0 r k := ⟨x 2, x 3, by
  funext a
  match a with
  | ⟨0, _⟩ => exact Subsingleton.elim (α := Fin 1) _ _
  | ⟨1, _⟩ => exact Subsingleton.elim (α := Fin 1) _ _
  | ⟨2, _⟩ => rfl
  | ⟨3, _⟩ => rfl⟩

/-- The two factors side by side, at a column of the second. -/
theorem side_right {A B C : ℕ} (g u : (⟨4, ![A, B, C, 1408]⟩ : Shape).Idx → EReal) (l : Fin A) (e : Fin B) (r r' : Fin C)
    (k : Fin 1408) (k' : Fin 2816) (hr : r'.val = r.val) (hk : k'.val = 1408 + k.val) : side g u l e r' k' = u (ix4 l e r k) := by
  unfold side
  obtain rfl : r' = r := Fin.ext hr
  rw [dif_neg (by omega)]
  exact congrArg (fun k => u (ix4 l e r' k)) (Fin.ext (by simp [hk]))

/-- The two factors side by side, at a column of the first. -/
theorem side_left {A B C : ℕ} (g u : (⟨4, ![A, B, C, 1408]⟩ : Shape).Idx → EReal) (l : Fin A) (e : Fin B) (r r' : Fin C)
    (k : Fin 1408) (k' : Fin 2816) (hr : r'.val = r.val) (hk : k'.val = k.val) : side g u l e r' k' = g (ix4 l e r k) := by
  unfold side
  obtain rfl : r' = r := Fin.ext hr
  rw [dif_pos (by omega)]
  exact congrArg (fun k => g (ix4 l e r' k)) (Fin.ext hk)

/-- Two stores that agree with one function of the buffer's index, where they cover. -/
theorem two_pieces {S : Shape} {e : EltTy} (G : S.Idx → Elt Ideal e) (ra rb : Rect S) (pa : ra.shape.Idx → Elt Ideal e)
    (pb : rb.shape.Idx → Elt Ideal e) (ha : ∀ x, pa x = G (ra.emb x)) (hb : ∀ x, pb x = G (rb.emb x)) (y : S.Idx)
    (hc : ∃ p ∈ ([⟨ra, pa⟩, ⟨rb, pb⟩] : List (View.Piece (Elt Ideal) S e)), y ∈ p.1.set) :
    View.canon ([⟨ra, pa⟩, ⟨rb, pb⟩] : List (View.Piece (Elt Ideal) S e)) y = G y :=
  View.canon_append_of_piecesOf G [] [⟨ra, pa⟩, ⟨rb, pb⟩] ⟨ha, hb, trivial⟩ y hc

/-- The two factors of a block side by side, as a block. -/
def place (g u : S1x1x512x1408.Idx → EReal) (y : S1x1x512x2816.Idx) : EReal := side g u 0 0 (y 2) (y 3)

/-- What a step leaves in its block of results, from its windows. -/
theorem out_apply (g u : Vec Ideal S1x1x512x1408 .f32) (r : Fin 512) (k : Fin 2816) :
    out0_2 (F := Ideal) g u (ix4 0 0 r k) = side g u 0 0 r k := by
  unfold out0_2
  rw [View.ld_unit_lit _ g (by decide), View.ld_unit_lit _ u (by decide)]
  have h1 : ∀ x : S1x1x512x1408.Idx, k0_pay1 (F := Ideal) g x = place g u (r0_1.emb x) := fun x => by
    obtain ⟨r, k, rfl⟩ := ix4_of (C := 512) (D := 1408) x
    refine (pay1_apply g r k).trans (side_left g u 0 0 r _ k _ ?_ ?_).symm
    · exact (Rect.idx_unit_val _ _ _ _ 2).trans (Nat.zero_add _)
    · exact (Rect.idx_unit_val _ _ _ _ 3).trans (Nat.zero_add _)
  have h2 : ∀ x : S1x1x512x1408.Idx, k0_pay2 (F := Ideal) u x = place g u (r0_2.emb x) := fun x => by
    obtain ⟨r, k, rfl⟩ := ix4_of (C := 512) (D := 1408) x
    refine (pay2_apply u r k).trans (side_right g u 0 0 r _ k _ ?_ ?_).symm
    · exact (Rect.idx_unit_val _ _ _ _ 2).trans (Nat.zero_add _)
    · exact Rect.idx_unit_val _ _ _ _ 3
  generalize k0_pay1 (F := Ideal) g = p1 at h1 ⊢
  generalize k0_pay2 (F := Ideal) u = p2 at h2 ⊢
  exact two_pieces (S := S1x1x512x2816) (e := .bf16) (place g u) r0_2 r0_1 p2 p1 h2 h1 (ix4 0 0 r k) (cover0_2 (F := Ideal) p2 p1 (ix4 0 0 r k))

/-- What a grid point leaves in its block of results. -/
theorem point_eq (r : Fin 512) (k : Fin 2816) :
    out0_2 (iblk m c 0 t) (iblk m c 1 t) (ix4 0 0 r k) = result m c (ix4 (lay t) (ex t) (row t r) k) := by
  unfold result
  rw [reference_apply]
  refine (out_apply _ _ r k).trans ?_
  unfold side
  split
  · exact blk0 m c t r _
  · exact blk1 m c t r _

/-- The kernel's result array after the run. -/
theorem array_eq : (dats m 0 c).arrAt 2 cfg0.N = result m c := by
  refine (dats m 0 c).arrAt_eq_of_covers 2 _ (by decide +kernel) fun t hfl y => ?_
  blk_simp
  rw [after0_2]
  obtain ⟨r, k, rfl⟩ := ix4_of (C := 512) (D := 2816) y
  refine (point_eq m c t r k).trans ?_
  blk_ext [idx t]

end Cert.Pack

end
-- ==== Proof.lean ====
module

public import proofs.«01_k».proof.Defs
public import proofs.«01_k».proof.Proof.K.Frame
public import proofs.«01_k».proof.Proof.Final
public import proofs.«01_k».proof.Proof.Gen.Kernel2.Frame
public import proofs.«01_k».proof.Proof.FfnArray
public import proofs.«01_k».proof.Proof.Gen.Reference2Ideal.Run
public import proofs.«01_k».proof.Proof.Gen.Kernel3.Launch
public import proofs.«01_k».proof.Proof.Gen.Kernel3.Skeleton
public import proofs.«01_k».proof.Proof.Gen.Kernel3Ideal.Launch
public import proofs.«01_k».proof.Proof.Gen.Kernel3Ideal.Skeleton
public import proofs.«01_k».proof.Proof.Gen.Reference3Ideal.Run
public import proofs.«01_k».proof.Proof.Gen.Reference3Ideal.Read
public import proofs.«01_k».proof.Proof.Gen.Pre_named
public import proofs.«01_k».proof.Proof.E3.Ok
public import proofs.«01_k».proof.Proof.ExpArray
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.AdaArray
public import proofs.«01_k».proof.Proof.KvArray
public import proofs.«01_k».proof.Proof.PackArray
public import Idealize.ShloMosaic.PureOps.IdealRules
public import Idealize.ShloMosaic.Adequacy
public import Idealize.ShloMosaic.Init

@[expose] public section

set_option maxRecDepth 16384

noncomputable section

namespace Cert.Proof

open Idealize.ShloMosaic Idealize.SL.Sem

/-- The precondition's side conditions. -/
theorem finite_facts : Cert.Pre_finite.Facts where
  bcast_S_S2x16384x1024 := by decide
  bcast_S_S16x6x1024 := by decide
  bcast_S_S16x257 := by decide
  bcast_S_S1024x1024 := by decide

/-- A value whose absolute value is below infinity is a real number. -/
theorem real_of_abs (x b : EReal) (hb : b = ⊤) (h : Ideal.cmp .olt (max x (-x)) b = 1#1) : Cert.Attn.Real' x := by
  subst hb
  have hlt : max x (-x) < ⊤ := by
    by_contra hn
    have : Ideal.cmp .olt (max x (-x)) ⊤ = 0#1 := by
      unfold Ideal.cmp
      rw [show decide (max x (-x) < ⊤) = false from decide_eq_false hn]
      rfl
    rw [this] at h
    exact absurd h (by decide)
  induction x with
  | bot => exact absurd hlt (by simp)
  | top => exact absurd hlt (by simp)
  | coe r => exact ⟨r, rfl⟩

/-- The word of infinity at 32 bits. -/
theorem top32 : Ideal.ofBits .f32 0x7F800000#32 = ⊤ := by
  simp [Ideal.ofBits, Ideal.ieee]

/-- The word of infinity at 16 bits. -/
theorem top16 : Ideal.ofBits .bf16 0x7F80#16 = ⊤ := by
  simp [Ideal.ofBits, Ideal.ieee]

/-- What the precondition says of the arguments. -/
theorem finite_of_pre (m : (ℓ : Loc Cert.KernelIdeal.nD Cert.KernelIdeal.τ Cert.KernelIdeal.sig) → Buf (Elt Ideal) ℓ)
    (h : Cert.Pre_KernelIdeal_finite (hPre_finite := finite_facts) m) (c : Dev Cert.KernelIdeal.nD) : Cert.Attn.Finite m c := by
  obtain ⟨h0, h1, h2, h4, h5⟩ := h c
  exact ⟨fun j => real_of_abs _ _ top32 (congrFun h0 j), fun j => real_of_abs _ _ top32 (congrFun h1 j),
    fun j => real_of_abs _ _ top16 (congrFun h2 j), fun j => real_of_abs _ _ top32 (congrFun h4 j),
    fun j => real_of_abs _ _ top16 (congrFun h5 j)⟩

/-- The kernel's frame. -/
theorem frame_kernel : Cert.quiescent_Kernel (hKernel := Cert.Kernel.Gen.facts) := fun m ρ _ => Cert.Kernel.Gen.frame m ρ

/-- The idealized kernel's frame. -/
theorem frame_ideal : Cert.quiescent_KernelIdeal (hKernelIdeal := Cert.KernelIdeal.Gen.facts) := fun m ρ _ => Cert.KernelIdeal.Gen.frame m ρ

/-- The reference's frame. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The reference's result depends on its nine arguments only. -/
theorem result_congr {a0 b0 a1 b1 a2 b2 a3 b3 a4 b4 a5 b5 a6 b6 a7 b7 a8 b8} (h0 : a0 = b0) (h1 : a1 = b1) (h2 : a2 = b2)
    (h3 : a3 = b3) (h4 : a4 = b4) (h5 : a5 = b5) (h6 : a6 = b6) (h7 : a7 = b7) (h8 : a8 = b8) :
    Cert.ReferenceIdeal.Read.val_main_v130 (F := Ideal) a0 a1 a2 a3 a4 a5 a6 a7 a8 =
      Cert.ReferenceIdeal.Read.val_main_v130 (F := Ideal) b0 b1 b2 b3 b4 b5 b6 b7 b8 := by
  subst h0 h1 h2 h3 h4 h5 h6 h7 h8
  rfl

/-- The kernel and the reference end with the same result. -/
theorem results_equal : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hagree
  refine ⟨fun c => Cert.Attn.result m c, ?_, ?_⟩
  · refine (θ_run Cert.KernelIdeal.defs _ _).mono (fun r h c => ?_) (Cert.KernelIdeal.Value.run_blocks (F := Ideal) m g)
    exact ⟨(h c).1.trans (Cert.Attn.array_eq m c (finite_of_pre m hpre c)), (h c).2⟩
  · refine (θ_run Cert.ReferenceIdeal.defs _ _).mono (fun r h c => ?_) (Cert.ReferenceIdeal.Value.run (F := Ideal) m' g')
    refine ⟨(h c).1.trans ?_, (h c).2⟩
    obtain ⟨h0, h1, h2, h3, h4, h5, h6, h7, h8⟩ := hagree c
    refine (Cert.ReferenceIdeal.Read.val_main_v130_eq (F := Ideal) (StableHlo.launchContents m' c)).trans ?_
    exact result_congr h0 h1 h2 h3 h4 h5 h6 h7 h8

/-- The gated layer's frame. -/
theorem frame_kernel2 : Cert.quiescent_Kernel2 (hKernel2 := Cert.Kernel2.Gen.facts) := fun m ρ _ => Cert.Kernel2.Gen.frame m ρ

/-- The idealized gated layer's frame. -/
theorem frame_ideal2 : Cert.quiescent_Kernel2Ideal (hKernel2Ideal := Cert.Kernel2Ideal.Gen.facts) := fun m ρ _ =>
  Cert.Kernel2Ideal.Gen.frame m ρ

/-- The gated layer's reference's frame. -/
theorem frame_reference2 : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The gated layer's reference depends on its seven arguments only. -/
theorem result2_congr {a0 b0 a1 b1 a2 b2 a3 b3 a4 b4 a5 b5 a6 b6} (h0 : a0 = b0) (h1 : a1 = b1) (h2 : a2 = b2)
    (h3 : a3 = b3) (h4 : a4 = b4) (h5 : a5 = b5) (h6 : a6 = b6) :
    Cert.Reference2Ideal.Read.val_main_v52 (F := Ideal) a0 a1 a2 a3 a4 a5 a6 =
      Cert.Reference2Ideal.Read.val_main_v52 (F := Ideal) b0 b1 b2 b3 b4 b5 b6 := by
  subst h0 h1 h2 h3 h4 h5 h6
  rfl

/-- The gated layer's kernel and its reference end with the same result. -/
theorem results2_equal : Cert.algebraic_Kernel2Ideal_Reference2Ideal (hKernel2Ideal := Cert.Kernel2Ideal.Gen.facts)
    (hReference2Ideal := Cert.Reference2Ideal.Gen.facts) := by
  intro m g m' g' hpre hagree
  refine ⟨fun c => Cert.Ffn.result m c, ?_, ?_⟩
  · refine (θ_run Cert.Kernel2Ideal.defs _ _).mono (fun r h c => ?_) (Cert.Kernel2Ideal.Value.run_blocks (F := Ideal) m g)
    exact ⟨(h c).1.trans (Cert.Ffn.array_eq m c), (h c).2⟩
  · refine (θ_run Cert.Reference2Ideal.defs _ _).mono (fun r h c => ?_) (Cert.Reference2Ideal.Value.run (F := Ideal) m' g')
    refine ⟨(h c).1.trans ?_, (h c).2⟩
    obtain ⟨h0, h1, h2, h3, h4, h5, h6⟩ := hagree c
    refine (Cert.Reference2Ideal.Read.val_main_v52_eq (F := Ideal) m' c).trans ?_
    exact result2_congr h0 h1 h2 h3 h4 h5 h6

/-- The experts' precondition's side conditions. -/
theorem named_facts : Cert.Pre_named.Facts where
  bcast_S_S136 := by decide
  bcast_S_S1 := by decide

/-- Two bits' conjunction is one exactly when both are. -/
theorem andi_one : ∀ a b : BitVec 1, IntOp.andi a b = 1#1 ↔ a = 1#1 ∧ b = 1#1 := by decide

/-- A signed comparison is one exactly when it holds. -/
theorem sge_one (a b : BitVec 32) : IntOp.cmpi .sge a b = 1#1 ↔ b.toInt ≤ a.toInt := by
  rw [← BitVec.sle_iff_toInt_le]
  show BitVec.ofBool (b.sle a) = 1#1 ↔ _
  cases b.sle a <;> simp

/-- The reversed signed comparison is one exactly when it holds. -/
theorem sle_one (a b : BitVec 32) : IntOp.cmpi .sle a b = 1#1 ↔ a.toInt ≤ b.toInt := by
  rw [← BitVec.sle_iff_toInt_le]
  show BitVec.ofBool (a.sle b) = 1#1 ↔ _
  cases a.sle b <;> simp

/-- What the experts' precondition says of a pair of tables. -/
theorem named_range {F : FTy → Type} [FloatOps F] (t : IVec Cert.Pre_named.S136 32) (u : IVec Cert.Pre_named.S1 32)
    (h0 : (fun i => IntOp.andi (IntOp.cmpi .sge (t i) 0#32) (IntOp.cmpi .sle (t i) 7#32)) = fun _ => 1#1)
    (h1 : (fun i => IntOp.cmpi .sge (u i) 1#32) = fun _ => 1#1) :
    (∀ i, 0 ≤ (t (ix1 i)).toInt ∧ (t (ix1 i)).toInt ≤ 7) ∧ 1 ≤ (u (ix1 0)).toInt := by
  refine ⟨fun i => ?_, ?_⟩
  · obtain ⟨a, b⟩ := (andi_one _ _).1 (congrFun h0 (ix1 i))
    exact ⟨(sge_one _ _).1 a, (sle_one _ _).1 b⟩
  · exact (sge_one _ _).1 (congrFun h1 (ix1 0))

/-- The experts' tables are in range. -/
theorem range_kernel3 (m : (ℓ : Loc Cert.Kernel3.nD Cert.Kernel3.τ Cert.Kernel3.sig) → Buf (Elt Bits) ℓ)
    (h : Cert.Pre_Kernel3 (hPre_named := named_facts) m) : Cert.Kernel3.Gen.InRange m := named_range (F := Bits) _ _ (h 0).1 (h 0).2

/-- The idealized experts' tables are in range. -/
theorem range_ideal3 (m : (ℓ : Loc Cert.Kernel3Ideal.nD Cert.Kernel3Ideal.τ Cert.Kernel3Ideal.sig) → Buf (Elt Ideal) ℓ)
    (h : Cert.Pre_Kernel3Ideal (hPre_named := named_facts) m) : Cert.Kernel3Ideal.Gen.InRange m :=
  named_range (F := Ideal) _ _ (h 0).1 (h 0).2

/-- The experts' frame. -/
theorem frame_kernel3 : Cert.quiescent_Kernel3 (hKernel3 := Cert.Kernel3.Gen.facts) (hPre_named := named_facts) := fun m ρ h =>
  Cert.Kernel3.Gen.frame m ρ (Cert.Kernel3.Gen.ok_of m (range_kernel3 m h))

/-- The idealized experts' frame. -/
theorem frame_ideal3 : Cert.quiescent_Kernel3Ideal (hKernel3Ideal := Cert.Kernel3Ideal.Gen.facts) (hPre_named := named_facts) :=
  fun m ρ h => Cert.Kernel3Ideal.Gen.frame m ρ (Cert.Kernel3Ideal.Gen.ok_of m (range_ideal3 m h))

/-- The experts' reference's frame. -/
theorem frame_reference3 : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The experts' reference depends on its five arguments only. -/
theorem result3_congr {a0 b0 a1 b1 a2 b2 a3 b3 a4 b4} (h0 : a0 = b0) (h1 : a1 = b1) (h2 : a2 = b2) (h3 : a3 = b3) (h4 : a4 = b4) :
    Cert.Reference3Ideal.Read.val_main_v162 (F := Ideal) a0 a1 a2 a3 a4 =
      Cert.Reference3Ideal.Read.val_main_v162 (F := Ideal) b0 b1 b2 b3 b4 := by
  subst h0 h1 h2 h3 h4
  rfl

/-- The experts' kernel and its reference end with the same result. -/
theorem results3_equal : Cert.algebraic_Kernel3Ideal_Reference3Ideal (hKernel3Ideal := Cert.Kernel3Ideal.Gen.facts)
    (hReference3Ideal := Cert.Reference3Ideal.Gen.facts) (hPre_named := named_facts) := by
  intro m g m' g' hpre hagree
  have hR := range_ideal3 m hpre
  have hO := Cert.Kernel3Ideal.Gen.ok_of m hR
  refine ⟨fun c => Cert.Experts.result m c, ?_, ?_⟩
  · refine (θ_run Cert.Kernel3Ideal.defs _ _).mono (fun r h c => ?_) (Cert.Kernel3Ideal.Gen.run_blocks (F := Ideal) m g hO)
    exact ⟨(h.1 c).1.trans (Cert.Experts.array_eq m hO hR c), (h.1 c).2⟩
  · refine (θ_run Cert.Reference3Ideal.defs _ _).mono (fun r h c => ?_) (Cert.Reference3Ideal.Value.run (F := Ideal) m' g')
    refine ⟨(h c).1.trans ?_, (h c).2⟩
    obtain ⟨h0, h1, h2, h3, h4⟩ := hagree c
    refine (Cert.Reference3Ideal.Read.val_main_v162_eq (F := Ideal) (StableHlo.launchContents m' c)).trans ?_
    exact result3_congr h0 h1 h2 h3 h4

/-- The frame of the modulation's call. -/
theorem frame_kernel4 : Cert.quiescent_Kernel4 (hKernel4 := Cert.Kernel4.Gen.facts) := fun m ρ _ => Cert.Kernel4.Gen.frame m ρ

/-- The frame of the modulation's call, idealized. -/
theorem frame_ideal4 : Cert.quiescent_Kernel4Ideal (hKernel4Ideal := Cert.Kernel4Ideal.Gen.facts) := fun m ρ _ =>
  Cert.Kernel4Ideal.Gen.frame m ρ

/-- The frame of the reference of the modulation's call. -/
theorem frame_reference4 : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The reference of the modulation's call depends on its three arguments only. -/
theorem result4_congr {a0 b0 a1 b1 a2 b2} (h0 : a0 = b0) (h1 : a1 = b1) (h2 : a2 = b2) :
    Cert.Reference4Ideal.Read.val_main_v5 (F := Ideal) a0 a1 a2 = Cert.Reference4Ideal.Read.val_main_v5 (F := Ideal) b0 b1 b2 := by
  subst h0 h1 h2
  rfl

/-- The kernel and the reference of the modulation's call end with the same result. -/
theorem results4_equal : Cert.algebraic_Kernel4Ideal_Reference4Ideal (hKernel4Ideal := Cert.Kernel4Ideal.Gen.facts)
    (hReference4Ideal := Cert.Reference4Ideal.Gen.facts) := by
  intro m g m' g' hpre hagree
  refine ⟨fun c => Cert.Ada.result m c, ?_, ?_⟩
  · refine (θ_run Cert.Kernel4Ideal.defs _ _).mono (fun r h c => ?_) (Cert.Kernel4Ideal.Value.run_blocks (F := Ideal) m g)
    exact ⟨(h c).1.trans (Cert.Ada.array_eq m c), (h c).2⟩
  · refine (θ_run Cert.Reference4Ideal.defs _ _).mono (fun r h c => ?_) (Cert.Reference4Ideal.Value.run (F := Ideal) m' g')
    refine ⟨(h c).1.trans ?_, (h c).2⟩
    obtain ⟨h0, h1, h2⟩ := hagree c
    exact result4_congr h0 h1 h2

/-- The frame of the keys' and values' call. -/
theorem frame_kernel5 : Cert.quiescent_Kernel5 (hKernel5 := Cert.Kernel5.Gen.facts) := fun m ρ _ => Cert.Kernel5.Gen.frame m ρ

/-- The frame of the keys' and values' call, idealized. -/
theorem frame_ideal5 : Cert.quiescent_Kernel5Ideal (hKernel5Ideal := Cert.Kernel5Ideal.Gen.facts) := fun m ρ _ =>
  Cert.Kernel5Ideal.Gen.frame m ρ

/-- The frame of the reference of the keys' and values' call. -/
theorem frame_reference5 : Cert.quiescent_Reference5Ideal (hReference5Ideal := Cert.Reference5Ideal.Gen.facts) := fun m ρ _ =>
  (θ_run Cert.Reference5Ideal.defs _ _).mono (fun r h => ⟨fun c => (h c).2.2.2.2,
      Idealize.ShloMosaic.sem_eq_zero_of_no_sems (by decide) r.2⟩)
    (Cert.Reference5Ideal.Value.run (F := Ideal) m ρ)

/-- The reference's keys depend on the rows, the modulation and the keys' weights only. -/
theorem keys5_congr {a0 b0 a1 b1 a2 b2} (h0 : a0 = b0) (h1 : a1 = b1) (h2 : a2 = b2) :
    Cert.Reference5Ideal.Read.val_main_v10 (F := Ideal) a0 a1 a2 = Cert.Reference5Ideal.Read.val_main_v10 (F := Ideal) b0 b1 b2 := by
  subst h0 h1 h2
  rfl

/-- The reference's values depend on the rows, the modulation and the values' weights only. -/
theorem values5_congr {a0 b0 a1 b1 a2 b2} (h0 : a0 = b0) (h1 : a1 = b1) (h2 : a2 = b2) :
    Cert.Reference5Ideal.Read.val_main_v12 (F := Ideal) a0 a1 a2 = Cert.Reference5Ideal.Read.val_main_v12 (F := Ideal) b0 b1 b2 := by
  subst h0 h1 h2
  rfl

/-- The kernel and the reference of the keys' and values' call end with the same four results. -/
theorem results5_equal : Cert.algebraic_Kernel5Ideal_Reference5Ideal (hKernel5Ideal := Cert.Kernel5Ideal.Gen.facts)
    (hReference5Ideal := Cert.Reference5Ideal.Gen.facts) := by
  intro m g m' g' hpre hagree
  refine ⟨fun c => Cert.Kv.keys m c, fun c => Cert.Kv.values m c, fun c => Cert.Kv.keys m c, fun c => Cert.Kv.values m c, ?_, ?_⟩
  · refine (θ_run Cert.Kernel5Ideal.defs _ _).mono (fun r h c => ?_) (Cert.Kernel5Ideal.Value.run_blocks (F := Ideal) m g)
    exact ⟨(h c).1.trans (Cert.Kv.array4_eq m c), (h c).2.1.trans (Cert.Kv.array5_eq m c),
      (h c).2.2.1.trans (Cert.Kv.array6_eq m c), (h c).2.2.2.1.trans (Cert.Kv.array7_eq m c), (h c).2.2.2.2⟩
  · refine (θ_run Cert.Reference5Ideal.defs _ _).mono (fun r h c => ?_) (Cert.Reference5Ideal.Value.run (F := Ideal) m' g')
    obtain ⟨h0, h1, h2, h3⟩ := hagree c
    have hk := keys5_congr h0 h1 h2
    have hv := values5_congr h0 h1 h3
    exact ⟨(h c).1.trans hk, (h c).2.1.trans hv, (h c).2.2.1.trans hk, (h c).2.2.2.1.trans hv, (h c).2.2.2.2⟩

/-- The frame of the packing's call. -/
theorem frame_kernel6 : Cert.quiescent_Kernel6 (hKernel6 := Cert.Kernel6.Gen.facts) := fun m ρ _ => Cert.Kernel6.Gen.frame m ρ

/-- The frame of the packing's call, idealized. -/
theorem frame_ideal6 : Cert.quiescent_Kernel6Ideal (hKernel6Ideal := Cert.Kernel6Ideal.Gen.facts) := fun m ρ _ =>
  Cert.Kernel6Ideal.Gen.frame m ρ

/-- The frame of the reference of the packing's call. -/
theorem frame_reference6 : Cert.quiescent_Reference6Ideal (hReference6Ideal := Cert.Reference6Ideal.Gen.facts) := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The reference of the packing's call depends on its two arguments only. -/
theorem result6_congr {a0 b0 a1 b1} (h0 : a0 = b0) (h1 : a1 = b1) :
    Cert.Reference6Ideal.Read.val_main_v1 (F := Ideal) a0 a1 = Cert.Reference6Ideal.Read.val_main_v1 (F := Ideal) b0 b1 := by
  subst h0 h1
  rfl

/-- The kernel and the reference of the packing's call end with the same result. -/
theorem results6_equal : Cert.algebraic_Kernel6Ideal_Reference6Ideal (hKernel6Ideal := Cert.Kernel6Ideal.Gen.facts)
    (hReference6Ideal := Cert.Reference6Ideal.Gen.facts) := by
  intro m g m' g' hpre hagree
  refine ⟨fun c => Cert.Pack.result m c, ?_, ?_⟩
  · refine (θ_run Cert.Kernel6Ideal.defs _ _).mono (fun r h c => ?_) (Cert.Kernel6Ideal.Value.run_blocks (F := Ideal) m g)
    exact ⟨(h c).1.trans (Cert.Pack.array_eq m c), (h c).2⟩
  · refine (θ_run Cert.Reference6Ideal.defs _ _).mono (fun r h c => ?_) (Cert.Reference6Ideal.Value.run (F := Ideal) m' g')
    refine ⟨(h c).1.trans ?_, (h c).2⟩
    obtain ⟨h0, h1⟩ := hagree c
    exact result6_congr h0 h1

/-- Every claim. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, finite_facts, named_facts, frame_kernel, frame_ideal,
    fun m ρ _ => frame_ideal m ρ trivial, frame_reference, fun m ρ _ => frame_reference m ρ trivial,
    frame_kernel2, frame_ideal2, frame_reference2, frame_kernel3, frame_ideal3, frame_reference3,
    fun m ρ _ => frame_reference3 m ρ trivial, frame_kernel4, frame_ideal4, frame_reference4, frame_kernel5, frame_ideal5,
    frame_reference5, frame_kernel6, frame_ideal6, frame_reference6,
    IdealRules.named_const.statement Cert.KernelIdeal.κ "mask" .f32 0xF149F2CA#32 ⊥ rfl, results_equal, trivial, results2_equal,
    trivial, results3_equal, trivial, results4_equal, trivial, results5_equal, trivial, results6_equal⟩

end Cert.Proof

end
